-- ==== Defs.lean ====
def Pre_PoolIdeal [hPre_finite_inputs : Cert.Pre_finite_inputs.Facts] (m : (ℓ : Loc Cert.PoolIdeal.nD Cert.PoolIdeal.τ Cert.PoolIdeal.sig) → Buf (Elt Ideal) ℓ) : Prop :=
  ∀ c : Dev Cert.PoolIdeal.nD,
    (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolIdeal_none (m : (ℓ : Loc Cert.PoolIdeal.nD Cert.PoolIdeal.τ Cert.PoolIdeal.sig) → Buf (Elt Ideal) ℓ) : Prop :=
  True

def Pre_PoolRefIdeal [hPre_finite_inputs : Cert.Pre_finite_inputs.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_PoolRefIdeal_none (m : (ℓ : Loc Cert.PoolRefIdeal.nD Cert.PoolRefIdeal.τ Cert.PoolRefIdeal.sig) → Buf (Elt Ideal) ℓ) : Prop :=
  True

def Pre_Pool (m : (ℓ : Loc Cert.Pool.nD Cert.Pool.τ Cert.Pool.sig) → Buf (Elt Bits) ℓ) : Prop :=
  True

def Pre_InProjIdeal [hPre_finite_factors : Cert.Pre_finite_factors.Facts] (m : (ℓ : Loc Cert.InProjIdeal.nD Cert.InProjIdeal.τ Cert.InProjIdeal.sig) → Buf (Elt Ideal) ℓ) : Prop :=
  ∀ c : Dev Cert.InProjIdeal.nD,
    (Cert.Pre_finite_factors.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))) = (fun _ => 1#1)

def Pre_InProjIdeal_none (m : (ℓ : Loc Cert.InProjIdeal.nD Cert.InProjIdeal.τ Cert.InProjIdeal.sig) → Buf (Elt Ideal) ℓ) : Prop :=
  True

def Pre_InProjRefIdeal [hPre_finite_factors : Cert.Pre_finite_factors.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_factors.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))) = (fun _ => 1#1)

def Pre_InProjRefIdeal_none (m : (ℓ : Loc Cert.InProjRefIdeal.nD Cert.InProjRefIdeal.τ Cert.InProjRefIdeal.sig) → Buf (Elt Ideal) ℓ) : Prop :=
  True

def Pre_InProj (m : (ℓ : Loc Cert.InProj.nD Cert.InProj.τ Cert.InProj.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Merge (m : (ℓ : Loc Cert.Merge.nD Cert.Merge.τ Cert.Merge.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Ple (m : (ℓ : Loc Cert.Ple.nD Cert.Ple.τ Cert.Ple.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Norm (m : (ℓ : Loc Cert.Norm.nD Cert.Norm.τ Cert.Norm.sig) → Buf (Elt Bits) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_PoolIdeal [hPoolIdeal : Cert.PoolIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_none [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_none m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] [hPre_finite_inputs : Cert.Pre_finite_inputs.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_none [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_none m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_InProjIdeal [hInProjIdeal : Cert.InProjIdeal.Facts] [hPre_finite_factors : Cert.Pre_finite_factors.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_none [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_none m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] [hPre_finite_factors : Cert.Pre_finite_factors.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProjRefIdeal_pre_none [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_none m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def algebraic_PoolIdeal_PoolRefIdeal [hPoolIdeal : Cert.PoolIdeal.Facts] [hPoolRefIdeal : Cert.PoolRefIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v63) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Pool_PoolIdeal : Prop :=
  True

def algebraic_InProjIdeal_InProjRefIdeal [hInProjIdeal : Cert.InProjIdeal.Facts] [hInProjRefIdeal : Cert.InProjRefIdeal.Facts] [hPre_finite_factors : Cert.Pre_finite_factors.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v31) = v0 c
          ∧ r.2.mem ((c.tc : Thread Cert.InProjRefIdeal.nD Cert.InProjRefIdeal.τ).loc Cert.InProjRefIdeal.main_v32) = v1 c
          ∧ r.2.mem ((c.tc : Thread Cert.InProjRefIdeal.nD Cert.InProjRefIdeal.τ).loc Cert.InProjRefIdeal.main_v33) = v2 c
          ∧ r.2.mem ((c.tc : Thread Cert.InProjRefIdeal.nD Cert.InProjRefIdeal.τ).loc Cert.InProjRefIdeal.main_v34) = v3 c
          ∧ r.2.mem ((c.tc : Thread Cert.InProjRefIdeal.nD Cert.InProjRefIdeal.τ).loc Cert.InProjRefIdeal.main_v35) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_InProj_InProjIdeal : Prop :=
  IdealRules.named_const.Statement Cert.InProjIdeal.κ "query_scale" .f32 0x3E0293EE#32 (((Real.sqrt 128)⁻¹ * (Real.log 2)⁻¹ : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v12) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Merge_MergeIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutProj_OutProjIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v26) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Ple_PleIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Norm_NormIdeal : Prop :=
  True

def preserves_Attn_AttnIdeal : Prop :=
  True

def Claim : Prop :=
  ∃ (hPoolIdeal : Cert.PoolIdeal.Facts) (hPoolRefIdeal : Cert.PoolRefIdeal.Facts) (hPool : Cert.Pool.Facts) (hInProjIdeal : Cert.InProjIdeal.Facts) (hInProjRefIdeal : Cert.InProjRefIdeal.Facts) (hInProj : Cert.InProj.Facts) (hMergeIdeal : Cert.MergeIdeal.Facts) (hMergeRefIdeal : Cert.MergeRefIdeal.Facts) (hMerge : Cert.Merge.Facts) (hOutProjIdeal : Cert.OutProjIdeal.Facts) (hOutProjRefIdeal : Cert.OutProjRefIdeal.Facts) (hOutProj : Cert.OutProj.Facts) (hPleIdeal : Cert.PleIdeal.Facts) (hPleRefIdeal : Cert.PleRefIdeal.Facts) (hPle : Cert.Ple.Facts) (hNormIdeal : Cert.NormIdeal.Facts) (hNormRefIdeal : Cert.NormRefIdeal.Facts) (hNorm : Cert.Norm.Facts) (hAttn : Cert.Attn.Facts) (hAttnIdeal : Cert.AttnIdeal.Facts) (hPre_finite_inputs : Cert.Pre_finite_inputs.Facts) (hPre_finite_factors : Cert.Pre_finite_factors.Facts),
    quiescent_PoolIdeal (hPoolIdeal := hPoolIdeal) (hPre_finite_inputs := hPre_finite_inputs)
    ∧ quiescent_PoolIdeal_pre_none (hPoolIdeal := hPoolIdeal)
    ∧ quiescent_PoolRefIdeal (hPoolRefIdeal := hPoolRefIdeal) (hPre_finite_inputs := hPre_finite_inputs)
    ∧ quiescent_PoolRefIdeal_pre_none (hPoolRefIdeal := hPoolRefIdeal)
    ∧ quiescent_Pool (hPool := hPool)
    ∧ quiescent_InProjIdeal (hInProjIdeal := hInProjIdeal) (hPre_finite_factors := hPre_finite_factors)
    ∧ quiescent_InProjIdeal_pre_none (hInProjIdeal := hInProjIdeal)
    ∧ quiescent_InProjRefIdeal (hInProjRefIdeal := hInProjRefIdeal) (hPre_finite_factors := hPre_finite_factors)
    ∧ quiescent_InProjRefIdeal_pre_none (hInProjRefIdeal := hInProjRefIdeal)
    ∧ quiescent_InProj (hInProj := hInProj)
    ∧ quiescent_MergeIdeal (hMergeIdeal := hMergeIdeal)
    ∧ quiescent_MergeRefIdeal (hMergeRefIdeal := hMergeRefIdeal)
    ∧ quiescent_Merge (hMerge := hMerge)
    ∧ quiescent_OutProjIdeal (hOutProjIdeal := hOutProjIdeal)
    ∧ quiescent_OutProjRefIdeal (hOutProjRefIdeal := hOutProjRefIdeal)
    ∧ quiescent_OutProj (hOutProj := hOutProj)
    ∧ quiescent_PleIdeal (hPleIdeal := hPleIdeal)
    ∧ quiescent_PleRefIdeal (hPleRefIdeal := hPleRefIdeal)
    ∧ quiescent_Ple (hPle := hPle)
    ∧ quiescent_NormIdeal (hNormIdeal := hNormIdeal)
    ∧ quiescent_NormRefIdeal (hNormRefIdeal := hNormRefIdeal)
    ∧ quiescent_Norm (hNorm := hNorm)
    ∧ quiescent_Attn (hAttn := hAttn)
    ∧ quiescent_AttnIdeal (hAttnIdeal := hAttnIdeal)
    ∧ algebraic_PoolIdeal_PoolRefIdeal (hPoolIdeal := hPoolIdeal) (hPoolRefIdeal := hPoolRefIdeal) (hPre_finite_inputs := hPre_finite_inputs)
    ∧ preserves_Pool_PoolIdeal
    ∧ algebraic_InProjIdeal_InProjRefIdeal (hInProjIdeal := hInProjIdeal) (hInProjRefIdeal := hInProjRefIdeal) (hPre_finite_factors := hPre_finite_factors)
    ∧ preserves_InProj_InProjIdeal
    ∧ algebraic_MergeIdeal_MergeRefIdeal (hMergeIdeal := hMergeIdeal) (hMergeRefIdeal := hMergeRefIdeal)
    ∧ preserves_Merge_MergeIdeal
    ∧ algebraic_OutProjIdeal_OutProjRefIdeal (hOutProjIdeal := hOutProjIdeal) (hOutProjRefIdeal := hOutProjRefIdeal)
    ∧ preserves_OutProj_OutProjIdeal
    ∧ algebraic_PleIdeal_PleRefIdeal (hPleIdeal := hPleIdeal) (hPleRefIdeal := hPleRefIdeal)
    ∧ preserves_Ple_PleIdeal
    ∧ algebraic_NormIdeal_NormRefIdeal (hNormIdeal := hNormIdeal) (hNormRefIdeal := hNormRefIdeal)
    ∧ preserves_Norm_NormIdeal
    ∧ preserves_Attn_AttnIdeal
-- ==== Pre_finite_factors.lean ====
abbrev S16384x4096 : Shape := ⟨2, ![16384, 4096]⟩
abbrev S4096x20480 : Shape := ⟨2, ![4096, 20480]⟩
abbrev S2048x4096 : Shape := ⟨2, ![2048, 4096]⟩
abbrev S4096x4096 : Shape := ⟨2, ![4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x20480 : S_.BroadcastsInDim S4096x20480 (![] : Fin 0 → Fin S4096x20480.rank)
  reducesTo_S4096x20480_S_d0_1 : S4096x20480.ReducesTo [0, 1] S_

variable [Facts]

def fn {F : FTy → Type} [FloatOps F] (main_arg0 : FVec F S16384x4096 .bf16) (main_arg1 : FVec F S4096x20480 .f32) (main_arg2 : FVec F S2048x4096 .f32) (main_arg3 : FVec F S2048x4096 .f32) (main_arg4 : FVec F S4096x4096 .f32) (main_arg5 : FVec F S4096x4096 .f32) : IVec S_ 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x20480 .f32 := Host.absf main_arg1
  let main_cst_0 : FVec F S_ .f32 := constant S_ .f32 0x7F800000#32
  let main_v5 : FVec F S4096x20480 .f32 := broadcastInDim S4096x20480 ![] bcast_S_S4096x20480 main_cst_0
  let main_v6 : IVec S4096x20480 1 := cmpf .olt main_v4 main_v5
  let main_c_1 : IVec S_ 1 := constantI S_ 1 1#1
  let main_v7 : IVec S_ 1 := (fun x v => Host.reduce IntOp.andi x v reducesTo_S4096x20480_S_d0_1 h_S_) main_v6 main_c_1
  let main_v8 : IVec S_ 1 := andi main_v3 main_v7
  main_v8
-- ==== Pre_finite_inputs.lean ====
abbrev S16384x20480 : Shape := ⟨2, ![16384, 20480]⟩
abbrev S4x512x512 : Shape := ⟨3, ![4, 512, 512]⟩
abbrev S2048 : Shape := ⟨1, ![2048]⟩
abbrev S16384x2048 : Shape := ⟨2, ![16384, 2048]⟩
abbrev S_ : Shape := ⟨0, ![]⟩

class Facts : Prop where
  slices_S16384x20480_S16384x2048_0_0 : S16384x20480.Slices ![0, 0] S16384x2048
  bcast_S_S16384x2048 : S_.BroadcastsInDim S16384x2048 (![] : Fin 0 → Fin S16384x2048.rank)

variable [Facts]

def fn {F : FTy → Type} [FloatOps F] (main_arg0 : FVec F S16384x20480 .bf16) (main_arg1 : FVec F S4x512x512 .f32) (main_arg2 : FVec F S2048 .f32) : IVec S16384x2048 1 :=
  let main_v0 : FVec F S16384x2048 .bf16 := (extractStridedSlice S16384x2048 ![0, 0] · slices_S16384x20480_S16384x2048_0_0) main_arg0
  let main_v1 : FVec F S16384x2048 .bf16 := Host.absf main_v0
  let main_cst : FVec F S_ .bf16 := constant S_ .bf16 0x7F80#16
  let main_v2 : FVec F S16384x2048 .bf16 := broadcastInDim S16384x2048 ![] bcast_S_S16384x2048 main_cst
  let main_v3 : IVec S16384x2048 1 := cmpf .olt main_v1 main_v2
  main_v3
-- ==== PoolRefIdeal.lean ====
abbrev S16384x20480 : Shape := ⟨2, ![16384, 20480]⟩
abbrev S4x512x512 : Shape := ⟨3, ![4, 512, 512]⟩
abbrev S2048 : Shape := ⟨1, ![2048]⟩
abbrev S2x8192x20480 : Shape := ⟨3, ![2, 8192, 20480]⟩
abbrev S2x8192x2048 : Shape := ⟨3, ![2, 8192, 2048]⟩
abbrev S_ : Shape := ⟨0, ![]⟩
abbrev S2x8208x2048 : Shape := ⟨3, ![2, 8208, 2048]⟩
abbrev S8192 : Shape := ⟨1, ![8192]⟩
abbrev S1x8192x1 : Shape := ⟨3, ![1, 8192, 1]⟩
abbrev S2x8192x512 : Shape := ⟨3, ![2, 8192, 512]⟩
abbrev S2x8192x1x512 : Shape := ⟨4, ![2, 8192, 1, 512]⟩
abbrev S2x8192x4x512 : Shape := ⟨4, ![2, 8192, 4, 512]⟩
abbrev S4x512x2x8192 : Shape := ⟨4, ![4, 512, 2, 8192]⟩
abbrev S1x1x2048 : Shape := ⟨3, ![1, 1, 2048]⟩
abbrev S16384x2048 : Shape := ⟨2, ![16384, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16384x20480, .bf16⟩
  | .hbm, ⟨1, _⟩ => ⟨S4x512x512, .f32⟩
  | .hbm, ⟨2, _⟩ => ⟨S2048, .f32⟩
  | .hbm, ⟨3, _⟩ => ⟨S16384x20480, .f32⟩
  | .hbm, ⟨4, _⟩ => ⟨S2x8192x20480, .f32⟩
  | .hbm, ⟨5, _⟩ => ⟨S2x8192x2048, .f32⟩
  | .hbm, ⟨6, _⟩ => ⟨S2x8192x2048, .f32⟩
  | .hbm, ⟨7, _⟩ => ⟨S_, .f32⟩
  | .hbm, ⟨8, _⟩ => ⟨S_, .f32⟩
  | .hbm, ⟨9, _⟩ => ⟨S2x8192x2048, .f32⟩
  | .hbm, ⟨10, _⟩ => ⟨S_, .i32⟩
  | .hbm, ⟨11, _⟩ => ⟨S_, .f32⟩
  | .hbm, ⟨12, _⟩ => ⟨S2x8208x2048, .f32⟩
  | .hbm, ⟨13, _⟩ => ⟨S8192, .i32⟩
  | .hbm, ⟨14, _⟩ => ⟨S1x8192x1, .i32⟩
  | .hbm, ⟨15, _⟩ => ⟨S2x8192x512, .f32⟩
  | .hbm, ⟨16, _⟩ => ⟨S_, .i32⟩
  | .hbm, ⟨17, _⟩ => ⟨S1x8192x1, .i32⟩
  | .hbm, ⟨18, _⟩ => ⟨S1x8192x1, .i32⟩
  | .hbm, ⟨19, _⟩ => ⟨S_, .i32⟩
  | .hbm, ⟨20, _⟩ => ⟨S1x8192x1, .i32⟩
  | .hbm, ⟨21, _⟩ => ⟨S1x8192x1, .i32⟩
  | .hbm, ⟨22, _⟩ => ⟨S1x8192x1, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S_, .i32⟩
  | .hbm, ⟨29, _⟩ => ⟨S1x8192x1, .i32⟩
  | .hbm, ⟨30, _⟩ => ⟨S1x8192x1, .i32⟩
  | .hbm, ⟨31, _⟩ => ⟨S_, .i32⟩
  | .hbm, ⟨32, _⟩ => ⟨S1x8192x1, .i32⟩
  | .hbm, ⟨33, _⟩ => ⟨S1x8192x1, .i32⟩
  | .hbm, ⟨34, _⟩ => ⟨S1x8192x1, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S_, .i32⟩
  | .hbm, ⟨41, _⟩ => ⟨S1x8192x1, .i32⟩
  | .hbm, ⟨42, _⟩ => ⟨S1x8192x1, .i32⟩
  | .hbm, ⟨43, _⟩ => ⟨S_, .i32⟩
  | .hbm, ⟨44, _⟩ => ⟨S1x8192x1, .i32⟩
  | .hbm, ⟨45, _⟩ => ⟨S1x8192x1, .i32⟩
  | .hbm, ⟨46, _⟩ => ⟨S1x8192x1, .f32⟩
  | .hbm, ⟨47, _⟩ => ⟨S2x8192x512, .f32⟩
  | .hbm, ⟨48, _⟩ => ⟨S2x8192x512, .f32⟩
  | .hbm, ⟨49, _⟩ => ⟨S2x8192x512, .f32⟩
  | .hbm, ⟨50, _⟩ => ⟨S2x8192x512, .f32⟩
  | .hbm, ⟨51, _⟩ => ⟨S2x8192x512, .f32⟩
  | .hbm, ⟨52, _⟩ => ⟨S_, .i32⟩
  | .hbm, ⟨53, _⟩ => ⟨S1x8192x1, .i32⟩
  | .hbm, ⟨54, _⟩ => ⟨S1x8192x1, .i32⟩
  | .hbm, ⟨55, _⟩ => ⟨S_, .i32⟩
  | .hbm, ⟨56, _⟩ => ⟨S1x8192x1, .i32⟩
  | .hbm, ⟨57, _⟩ => ⟨S1x8192x1, .i32⟩
  | .hbm, ⟨58, _⟩ => ⟨S1x8192x1, .f32⟩
  | .hbm, ⟨59, _⟩ => ⟨S2x8192x512, .f32⟩
  | .hbm, ⟨60, _⟩ => ⟨S2x8192x512, .f32⟩
  | .hbm, ⟨61, _⟩ => ⟨S2x8192x512, .f32⟩
  | .hbm, ⟨62, _⟩ => ⟨S2x8192x512, .f32⟩
  | .hbm, ⟨63, _⟩ => ⟨S2x8192x1x512, .f32⟩
  | .hbm, ⟨64, _⟩ => ⟨S2x8192x1x512, .f32⟩
  | .hbm, ⟨65, _⟩ => ⟨S2x8192x1x512, .f32⟩
  | .hbm, ⟨66, _⟩ => ⟨S2x8192x1x512, .f32⟩
  | .hbm, ⟨67, _⟩ => ⟨S2x8192x4x512, .f32⟩
  | .hbm, ⟨68, _⟩ => ⟨S2x8192x4x512, .f32⟩
  | .hbm, ⟨69, _⟩ => ⟨S2x8192x4x512, .f32⟩
  | .hbm, ⟨70, _⟩ => ⟨S4x512x2x8192, .f32⟩
  | .hbm, ⟨71, _⟩ => ⟨S2x8192x4x512, .f32⟩
  | .hbm, ⟨72, _⟩ => ⟨S2x8192x2048, .f32⟩
  | .hbm, ⟨73, _⟩ => ⟨S1x1x2048, .f32⟩
  | .hbm, ⟨74, _⟩ => ⟨S2x8192x2048, .f32⟩
  | .hbm, ⟨75, _⟩ => ⟨S2x8192x2048, .f32⟩
  | .hbm, ⟨76, _⟩ => ⟨S2x8192x2048, .f32⟩
  | .hbm, ⟨77, _⟩ => ⟨S16384x2048, .f32⟩
  | .hbm, ⟨78, _⟩ => ⟨S16384x2048, .bf16⟩
  | _, _ => ⟨S16384x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_c : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Pool.lean ====
abbrev S16384x20480 : Shape := ⟨2, ![16384, 20480]⟩
abbrev S4x512x512 : Shape := ⟨3, ![4, 512, 512]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S544x2048 : Shape := ⟨2, ![544, 2048]⟩
abbrev S544x512 : Shape := ⟨2, ![544, 512]⟩
abbrev S32x2048 : Shape := ⟨2, ![32, 2048]⟩
abbrev S512x1 : Shape := ⟨2, ![512, 1]⟩
abbrev S512x512 : Shape := ⟨2, ![512, 512]⟩
abbrev S536x512 : Shape := ⟨2, ![536, 512]⟩
abbrev S1x512x512 : Shape := ⟨3, ![1, 512, 512]⟩
abbrev S1x512 : Shape := ⟨2, ![1, 512]⟩
abbrev S528x512 : Shape := ⟨2, ![528, 512]⟩
abbrev S520x512 : Shape := ⟨2, ![520, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x20480, .bf16⟩
  | .hbm, ⟨1, _⟩ => ⟨S4x512x512, .f32⟩
  | .hbm, ⟨2, _⟩ => ⟨S2048, .f32⟩
  | .hbm, ⟨3, _⟩ => ⟨S4x512x512, .bf16⟩
  | .hbm, ⟨4, _⟩ => ⟨S1x2048, .f32⟩
  | .hbm, ⟨5, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4x512x512, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S544x2048, .f32⟩
  | .local _ .vmem, ⟨9, _⟩ => ⟨S544x512, .f32⟩
  | .local _ .vmem, ⟨10, _⟩ => ⟨S544x512, .f32⟩
  | _, _ => ⟨S16384x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjIdeal.lean ====
variable {F : FTy → Type} [FloatOps F] [Named F]
def κ : String → Option EReal := fun
  | "query_scale" => some (((Real.sqrt 128)⁻¹ * (Real.log 2)⁻¹ : ℝ) : EReal)
  | _ => none
-- ==== InProjRefIdeal.lean ====
abbrev S16384x4096 : Shape := ⟨2, ![16384, 4096]⟩
abbrev S4096x20480 : Shape := ⟨2, ![4096, 20480]⟩
abbrev S2048x4096 : Shape := ⟨2, ![2048, 4096]⟩
abbrev S4096x4096 : Shape := ⟨2, ![4096, 4096]⟩
abbrev S16384x20480 : Shape := ⟨2, ![16384, 20480]⟩
abbrev S16384x2048 : Shape := ⟨2, ![16384, 2048]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S2048x4096, .f32⟩
  | .hbm, ⟨3, _⟩ => ⟨S2048x4096, .f32⟩
  | .hbm, ⟨4, _⟩ => ⟨S4096x4096, .f32⟩
  | .hbm, ⟨5, _⟩ => ⟨S4096x4096, .f32⟩
  | .hbm, ⟨6, _⟩ => ⟨S16384x4096, .f32⟩
  | .hbm, ⟨7, _⟩ => ⟨S16384x20480, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x4096, .f32⟩
  | .hbm, ⟨15, _⟩ => ⟨S16384x4096, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S_, .f32⟩
  | .hbm, ⟨53, _⟩ => ⟨S16384x4096, .f32⟩
  | .hbm, ⟨54, _⟩ => ⟨S16384x4096, .f32⟩
  | .hbm, ⟨55, _⟩ => ⟨S_, .f32⟩
  | .hbm, ⟨56, _⟩ => ⟨S16384x4096, .f32⟩
  | .hbm, ⟨57, _⟩ => ⟨S16384x4096, .f32⟩
  | .hbm, ⟨58, _⟩ => ⟨S16384x20480, .f32⟩
  | .hbm, ⟨59, _⟩ => ⟨S16384x20480, .bf16⟩
  | .hbm, ⟨60, _⟩ => ⟨S2048x4096, .bf16⟩
  | .hbm, ⟨61, _⟩ => ⟨S2048x4096, .bf16⟩
  | .hbm, ⟨62, _⟩ => ⟨S4096x4096, .bf16⟩
  | .hbm, ⟨63, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩

abbrev nD : Nat := 1
abbrev τ : Topo := Topo.v7x

variable {F : FTy → Type} [FloatOps F]
-- ==== InProj.lean ====
abbrev S16384x4096 : Shape := ⟨2, ![16384, 4096]⟩
abbrev S4096x20480 : Shape := ⟨2, ![4096, 20480]⟩
abbrev S2048x4096 : Shape := ⟨2, ![2048, 4096]⟩
abbrev S4096x4096 : Shape := ⟨2, ![4096, 4096]⟩
abbrev S16384x20480 : Shape := ⟨2, ![16384, 20480]⟩
abbrev S1024x4096 : Shape := ⟨2, ![1024, 4096]⟩
abbrev S4096x1024 : Shape := ⟨2, ![4096, 1024]⟩
abbrev S16x4096 : Shape := ⟨2, ![16, 4096]⟩
abbrev S1024x1024 : Shape := ⟨2, ![1024, 1024]⟩
abbrev S512x4096 : Shape := ⟨2, ![512, 4096]⟩
abbrev S4096x256 : Shape := ⟨2, ![4096, 256]⟩
abbrev S512x256 : Shape := ⟨2, ![512, 256]⟩

abbrev nBuf : Space → Nat
  | .hbm => 12
  | .vmem => 22
  | .smem => 0
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S2048x4096, .f32⟩
  | .hbm, ⟨3, _⟩ => ⟨S2048x4096, .f32⟩
  | .hbm, ⟨4, _⟩ => ⟨S4096x4096, .f32⟩
  | .hbm, ⟨5, _⟩ => ⟨S4096x4096, .f32⟩
  | .hbm, ⟨6, _⟩ => ⟨S4096x20480, .bf16⟩
  | .hbm, ⟨7, _⟩ => ⟨S16384x20480, .bf16⟩
  | .hbm, ⟨8, _⟩ => ⟨S2048x4096, .bf16⟩
  | .hbm, ⟨9, _⟩ => ⟨S2048x4096, .bf16⟩
  | .hbm, ⟨10, _⟩ => ⟨S4096x4096, .bf16⟩
  | .hbm, ⟨11, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S16x4096, .f32⟩
  | .local _ .vmem, ⟨8, _⟩ => ⟨S16x4096, .f32⟩
  | .local _ .vmem, ⟨9, _⟩ => ⟨S16x4096, .f32⟩
  | .local _ .vmem, ⟨10, _⟩ => ⟨S16x4096, .f32⟩
  | .local _ .vmem, ⟨11, _⟩ => ⟨S16x4096, .f32⟩
  | .local _ .vmem, ⟨12, _⟩ => ⟨S1024x1024, .bf16⟩
  | .local _ .vmem, ⟨13, _⟩ => ⟨S1024x1024, .bf16⟩
  | .local _ .vmem, ⟨14, _⟩ => ⟨S16x4096, .bf16⟩
  | .local _ .vmem, ⟨15, _⟩ => ⟨S16x4096, .bf16⟩
  | .local _ .vmem, ⟨16, _⟩ => ⟨S16x4096, .bf16⟩
  | .local _ .vmem, ⟨17, _⟩ => ⟨S16x4096, .bf16⟩
  | .local _ .vmem, ⟨18, _⟩ => ⟨S16x4096, .bf16⟩
  | .local _ .vmem, ⟨19, _⟩ => ⟨S16x4096, .bf16⟩
  | .local _ .vmem, ⟨20, _⟩ => ⟨S16x4096, .bf16⟩
  | .local _ .vmem, ⟨21, _⟩ => ⟨S16x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 20], ![false, false]⟩

def k0_cond1 (i : grid0.Coords) : BitVec 1 :=
  let arg1 : BitVec 32 := BitVec.ofNat 32 (i 1).val
  let c1024_i32 : BitVec 32 := 1024#32
  let v12 : BitVec 32 := Scalar.muli arg1 c1024_i32
  let c2048_i32 : BitVec 32 := 2048#32
  let v13 : BitVec 1 := Scalar.cmpi .sge v12 c2048_i32
  let c4096_i32 : BitVec 32 := 4096#32
  let v14 : BitVec 1 := Scalar.cmpi .slt v12 c4096_i32
  let v15 : BitVec 1 := Scalar.andi v13 v14
  let c10240_i32 : BitVec 32 := 10240#32
  let v16 : BitVec 1 := Scalar.cmpi .sge v12 c10240_i32
  let c12288_i32 : BitVec 32 := 12288#32
  let v17 : BitVec 1 := Scalar.cmpi .slt v12 c12288_i32
  let v18 : BitVec 1 := Scalar.andi v16 v17
  let v19 : BitVec 1 := Scalar.ori v15 v18
  let c4096_i32_15 : BitVec 32 := 4096#32
  let v20 : BitVec 1 := Scalar.cmpi .sge v12 c4096_i32_15
  let c6144_i32 : BitVec 32 := 6144#32
  let v21 : BitVec 1 := Scalar.cmpi .slt v12 c6144_i32
  let v22 : BitVec 1 := Scalar.andi v20 v21
  let v24 : BitVec 1 := Scalar.ori v19 v22
  let c12288_i32_16 : BitVec 32 := 12288#32
  let v23 : BitVec 1 := Scalar.cmpi .sge v12 c12288_i32_16
  let v25 : BitVec 1 := Scalar.ori v24 v23
  let v_true : BitVec 1 := 1#1
  let v26 : BitVec 1 := Scalar.xori v25 v_true
  let v27 : BitVec 32 := Scalar.extui v26
  let c0_i32 : BitVec 32 := 0#32
  let v28 : BitVec 1 := Scalar.cmpi .ne v27 c0_i32
  v28

def k0_cond2 (i : grid0.Coords) : BitVec 1 :=
  let arg1 : BitVec 32 := BitVec.ofNat 32 (i 1).val
  let c1024_i32 : BitVec 32 := 1024#32
  let v12 : BitVec 32 := Scalar.muli arg1 c1024_i32
  let c4096_i32_15 : BitVec 32 := 4096#32
  let v20 : BitVec 1 := Scalar.cmpi .sge v12 c4096_i32_15
  let c6144_i32 : BitVec 32 := 6144#32
  let v21 : BitVec 1 := Scalar.cmpi .slt v12 c6144_i32
  let v22 : BitVec 1 := Scalar.andi v20 v21
  let v29 : BitVec 32 := Scalar.extui v22
  let c0_i32_17 : BitVec 32 := 0#32
  let v30 : BitVec 1 := Scalar.cmpi .ne v29 c0_i32_17
  v30

def k0_cond3 (i : grid0.Coords) : BitVec 1 :=
  let arg1 : BitVec 32 := BitVec.ofNat 32 (i 1).val
  let c1024_i32 : BitVec 32 := 1024#32
  let v12 : BitVec 32 := Scalar.muli arg1 c1024_i32
  let c2048_i32 : BitVec 32 := 2048#32
  let v13 : BitVec 1 := Scalar.cmpi .sge v12 c2048_i32
  let c4096_i32 : BitVec 32 := 4096#32
  let v14 : BitVec 1 := Scalar.cmpi .slt v12 c4096_i32
  let v15 : BitVec 1 := Scalar.andi v13 v14
  let c10240_i32 : BitVec 32 := 10240#32
  let v16 : BitVec 1 := Scalar.cmpi .sge v12 c10240_i32
  let c12288_i32 : BitVec 32 := 12288#32
  let v17 : BitVec 1 := Scalar.cmpi .slt v12 c12288_i32
  let v18 : BitVec 1 := Scalar.andi v16 v17
  let v19 : BitVec 1 := Scalar.ori v15 v18
  let v31 : BitVec 32 := Scalar.extui v19
  let c0_i32_18 : BitVec 32 := 0#32
  let v32 : BitVec 1 := Scalar.cmpi .ne v31 c0_i32_18
  v32

def k0_cond4 (i : grid0.Coords) : BitVec 1 :=
  let arg1 : BitVec 32 := BitVec.ofNat 32 (i 1).val
  let c1024_i32 : BitVec 32 := 1024#32
  let v12 : BitVec 32 := Scalar.muli arg1 c1024_i32
  let c12288_i32_16 : BitVec 32 := 12288#32
  let v23 : BitVec 1 := Scalar.cmpi .sge v12 c12288_i32_16
  let v33 : BitVec 32 := Scalar.extui v23
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S16384x2048 : Shape := ⟨2, ![16384, 2048]⟩
abbrev S2048x4096 : Shape := ⟨2, ![2048, 4096]⟩
abbrev S16384x20480 : Shape := ⟨2, ![16384, 20480]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x20480, .bf16⟩
  | .hbm, ⟨5, _⟩ => ⟨S16384x20480, .f32⟩
  | .hbm, ⟨6, _⟩ => ⟨S16384x4096, .f32⟩
  | .hbm, ⟨7, _⟩ => ⟨S16384x4096, .f32⟩
  | .hbm, ⟨8, _⟩ => ⟨S16384x2048, .f32⟩
  | .hbm, ⟨9, _⟩ => ⟨S2048x4096, .f32⟩
  | .hbm, ⟨10, _⟩ => ⟨S16384x4096, .f32⟩
  | .hbm, ⟨11, _⟩ => ⟨S16384x4096, .f32⟩
  | .hbm, ⟨12, _⟩ => ⟨S16384x2048, .f32⟩
  | .hbm, ⟨13, _⟩ => ⟨S2048x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Merge.lean ====
abbrev S16384x2048 : Shape := ⟨2, ![16384, 2048]⟩
abbrev S2048x4096 : Shape := ⟨2, ![2048, 4096]⟩
abbrev S16384x20480 : Shape := ⟨2, ![16384, 20480]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S512x2048 : Shape := ⟨2, ![512, 2048]⟩
abbrev S2048x256 : Shape := ⟨2, ![2048, 256]⟩
abbrev S512x256 : Shape := ⟨2, ![512, 256]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x20480, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S512x4096 : Shape := ⟨2, ![512, 4096]⟩
abbrev S4096x256 : Shape := ⟨2, ![4096, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleRefIdeal.lean ====
abbrev S16384x4096 : Shape := ⟨2, ![16384, 4096]⟩
abbrev S4096 : Shape := ⟨1, ![4096]⟩
abbrev S4096x4096 : Shape := ⟨2, ![4096, 4096]⟩
abbrev S2x8192x256 : Shape := ⟨3, ![2, 8192, 256]⟩
abbrev S256x4096 : Shape := ⟨2, ![256, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x256 : Shape := ⟨2, ![16384, 256]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096x4096, .bf16⟩
  | .hbm, ⟨4, _⟩ => ⟨S2x8192x256, .f32⟩
  | .hbm, ⟨5, _⟩ => ⟨S256x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S4096x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x256, .f32⟩
  | .hbm, ⟨35, _⟩ => ⟨S16384x4096, .f32⟩
  | .hbm, ⟨36, _⟩ => ⟨S16384x4096, .f32⟩
  | .hbm, ⟨37, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Ple.lean ====
abbrev S16384x4096 : Shape := ⟨2, ![16384, 4096]⟩
abbrev S4096 : Shape := ⟨1, ![4096]⟩
abbrev S4096x4096 : Shape := ⟨2, ![4096, 4096]⟩
abbrev S2x8192x256 : Shape := ⟨3, ![2, 8192, 256]⟩
abbrev S256x4096 : Shape := ⟨2, ![256, 4096]⟩
abbrev S1x4096 : Shape := ⟨2, ![1, 4096]⟩
abbrev S16384x256 : Shape := ⟨2, ![16384, 256]⟩
abbrev S512x4096 : Shape := ⟨2, ![512, 4096]⟩
abbrev S512x512 : Shape := ⟨2, ![512, 512]⟩
abbrev S4096x512 : Shape := ⟨2, ![4096, 512]⟩
abbrev S512x256 : Shape := ⟨2, ![512, 256]⟩
abbrev S256x512 : Shape := ⟨2, ![256, 512]⟩
abbrev S512x1 : Shape := ⟨2, ![512, 1]⟩
abbrev S16x4096 : Shape := ⟨2, ![16, 4096]⟩
abbrev S16 : Shape := ⟨1, ![16]⟩
abbrev S16x1 : Shape := ⟨2, ![16, 1]⟩
abbrev S4096x256 : Shape := ⟨2, ![4096, 256]⟩
abbrev S256x256 : Shape := ⟨2, ![256, 256]⟩
abbrev S1x256 : Shape := ⟨2, ![1, 256]⟩

abbrev nBuf : Space → Nat
  | .hbm => 10
  | .vmem => 19
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096x4096, .bf16⟩
  | .hbm, ⟨4, _⟩ => ⟨S2x8192x256, .f32⟩
  | .hbm, ⟨5, _⟩ => ⟨S256x4096, .f32⟩
  | .hbm, ⟨6, _⟩ => ⟨S1x4096, .f32⟩
  | .hbm, ⟨7, _⟩ => ⟨S16384x256, .f32⟩
  | .hbm, ⟨8, _⟩ => ⟨S256x4096, .bf16⟩
  | .hbm, ⟨9, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S1x4096, .f32⟩
  | .local _ .vmem, ⟨9, _⟩ => ⟨S4096x512, .bf16⟩
  | .local _ .vmem, ⟨10, _⟩ => ⟨S4096x512, .bf16⟩
  | .local _ .vmem, ⟨11, _⟩ => ⟨S512x256, .f32⟩
  | .local _ .vmem, ⟨12, _⟩ => ⟨S512x256, .f32⟩
  | .local _ .vmem, ⟨13, _⟩ => ⟨S256x512, .bf16⟩
  | .local _ .vmem, ⟨14, _⟩ => ⟨S256x512, .bf16⟩
  | .local _ .vmem, ⟨15, _⟩ => ⟨S512x512, .f32⟩
  | .local _ .vmem, ⟨16, _⟩ => ⟨S512x512, .f32⟩
  | .local _ .vmem, ⟨17, _⟩ => ⟨S512x4096, .bf16⟩
  | .local _ .vmem, ⟨18, _⟩ => ⟨S512x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_44 : BitVec 32 := 0#32
  let c32_i32 : BitVec 32 := 32#32
  let v71 : BitVec 32 := Scalar.addi c0_i32_44 c32_i32
  let c1_i32 : BitVec 32 := 1#32
  ⟨c0_i32_44, v71, c1_i32⟩
def k0_mult1 (k0_t1 : Fin k0_t1_loop.trips) : BitVec 32 :=
  let c0_i32_44 : BitVec 32 := 0#32
  let c1_i32 : BitVec 32 := 1#32
  let arg13 : BitVec 32 := Scf.iv c0_i32_44 c1_i32 k0_t1
  let c16_i32 : BitVec 32 := 16#32
  let v72 : BitVec 32 := Scalar.muli arg13 c16_i32
  v72
def k0_off1 (k0_t1 : Fin k0_t1_loop.trips) : Fin 2 → Nat :=
  let c0_i32_44 : BitVec 32 := 0#32
  let c1_i32 : BitVec 32 := 1#32
  let arg13 : BitVec 32 := Scf.iv c0_i32_44 c1_i32 k0_t1
  let c16_i32 : BitVec 32 := 16#32
  let v72 : BitVec 32 := Scalar.muli arg13 c16_i32
  let v73 : BitVec 32 := v72
  let v74 : Index := Scalar.indexCast v73
  let c0_46 : Index := 0#32
  ![v74.toNat, 0]
def k0_off2 (k0_t1 : Fin k0_t1_loop.trips) : Fin 2 → Nat :=
  let c0_i32_44 : BitVec 32 := 0#32
  let c1_i32 : BitVec 32 := 1#32
  let arg13 : BitVec 32 := Scf.iv c0_i32_44 c1_i32 k0_t1
  let c16_i32 : BitVec 32 := 16#32
  let v72 : BitVec 32 := Scalar.muli arg13 c16_i32
  let v73 : BitVec 32 := v72
  let v85 : Index := Scalar.indexCast v73
  let c0_50 : Index := 0#32
  ![v85.toNat, 0]
def k0_mult2 (i : grid0.Coords) : BitVec 32 :=
  let arg1 : BitVec 32 := BitVec.ofNat 32 (i 1).val
  let c512_i32 : BitVec 32 := 512#32
  let v21 : BitVec 32 := Scalar.muli arg1 c512_i32
  let c0_i32_18 : BitVec 32 := 0#32
  let v22 : BitVec 32 := Scalar.addi v21 c0_i32_18
  v22
def k0_off3 (i : grid0.Coords) (c0_i32_18 : BitVec 32) : Fin 2 → Nat :=
  let c0_25 : Index := 0#32
  let arg1 : BitVec 32 := BitVec.ofNat 32 (i 1).val
  let c512_i32 : BitVec 32 := 512#32
  let v21 : BitVec 32 := Scalar.muli arg1 c512_i32
  let v22 : BitVec 32 := Scalar.addi v21 c0_i32_18
  let v23 : BitVec 32 := v22
  let v30 : Index := Scalar.indexCast v23
  ![0, v30.toNat]
def k0_mult3 (i : grid0.Coords) : BitVec 32 :=
  let arg1 : BitVec 32 := BitVec.ofNat 32 (i 1).val
  let c512_i32_31 : BitVec 32 := 512#32
  let v46 : BitVec 32 := Scalar.muli arg1 c512_i32_31
  let c256_i32 : BitVec 32 := 256#32
  let v47 : BitVec 32 := Scalar.addi v46 c256_i32
  v47
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let v1 : BitVec 32 := Scalar.addi arg0 v0
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let v1 : BitVec 32 := Scalar.addi arg0 v0
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NormRefIdeal.lean ====
abbrev S2x8192x4096 : Shape := ⟨3, ![2, 8192, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Norm.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Attn.lean ====
abbrev S16384x20480 : Shape := ⟨2, ![16384, 20480]⟩
abbrev S16384x2048 : Shape := ⟨2, ![16384, 2048]⟩
abbrev S512x512 : Shape := ⟨2, ![512, 512]⟩
abbrev S8192x512 : Shape := ⟨2, ![8192, 512]⟩
abbrev S17x512x128 : Shape := ⟨3, ![17, 512, 128]⟩
abbrev S4x17x144x512 : Shape := ⟨4, ![4, 17, 144, 512]⟩
abbrev S4x32x128 : Shape := ⟨3, ![4, 32, 128]⟩
abbrev S4x256x512 : Shape := ⟨3, ![4, 256, 512]⟩
abbrev S4x512x512 : Shape := ⟨3, ![4, 512, 512]⟩
abbrev S4x144x512 : Shape := ⟨3, ![4, 144, 512]⟩
abbrev S4x1x512 : Shape := ⟨3, ![4, 1, 512]⟩
abbrev S4x16x512 : Shape := ⟨3, ![4, 16, 512]⟩
abbrev S256x128 : Shape := ⟨2, ![256, 128]⟩
abbrev S512x128 : Shape := ⟨2, ![512, 128]⟩
abbrev S1x512x128 : Shape := ⟨3, ![1, 512, 128]⟩
abbrev S4x1x144x512 : Shape := ⟨4, ![4, 1, 144, 512]⟩
abbrev S4x16x16x512 : Shape := ⟨4, ![4, 16, 16, 512]⟩
abbrev S1x256x128 : Shape := ⟨3, ![1, 256, 128]⟩
abbrev S128 : Shape := ⟨1, ![128]⟩
abbrev S1x128 : Shape := ⟨2, ![1, 128]⟩
abbrev S1x1x128 : Shape := ⟨3, ![1, 1, 128]⟩
abbrev S128x512 : Shape := ⟨2, ![128, 512]⟩
abbrev S1x32x128 : Shape := ⟨3, ![1, 32, 128]⟩
abbrev S32x128 : Shape := ⟨2, ![32, 128]⟩
abbrev S32x512 : Shape := ⟨2, ![32, 512]⟩
abbrev S512 : Shape := ⟨1, ![512]⟩
abbrev S1x512 : Shape := ⟨2, ![1, 512]⟩
abbrev S1x128x512 : Shape := ⟨3, ![1, 128, 512]⟩
abbrev S1x32x512 : Shape := ⟨3, ![1, 32, 512]⟩
abbrev S512x256 : Shape := ⟨2, ![512, 256]⟩
abbrev S1x256x256 : Shape := ⟨3, ![1, 256, 256]⟩
abbrev S256x256 : Shape := ⟨2, ![256, 256]⟩
abbrev S1x512x256 : Shape := ⟨3, ![1, 512, 256]⟩
abbrev S1x1x512 : Shape := ⟨3, ![1, 1, 512]⟩
abbrev S1x144x512 : Shape := ⟨3, ![1, 144, 512]⟩
abbrev S144x512 : Shape := ⟨2, ![144, 512]⟩
abbrev S1x1x144x512 : Shape := ⟨4, ![1, 1, 144, 512]⟩
abbrev S1x512x512 : Shape := ⟨3, ![1, 512, 512]⟩
abbrev S1x16x512 : Shape := ⟨3, ![1, 16, 512]⟩
abbrev S16x512 : Shape := ⟨2, ![16, 512]⟩
abbrev S128x256 : Shape := ⟨2, ![128, 256]⟩
abbrev S1x1x128x256 : Shape := ⟨4, ![1, 1, 128, 256]⟩

abbrev nBuf : Space → Nat
  | .hbm => 2
  | .vmem => 25
  | .smem => 0
  | _ => 0

abbrev bufTy : (tb : Table) → Fin (tcTables nBuf tb) → BufTy
  | .hbm, ⟨0, _⟩ => ⟨S16384x20480, .bf16⟩
  | .hbm, ⟨1, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S8192x512, .bf16⟩
  | .local _ .vmem, ⟨5, _⟩ => ⟨S8192x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S17x512x128, .bf16⟩
  | .local _ .vmem, ⟨13, _⟩ => ⟨S4x17x144x512, .bf16⟩
  | .local _ .vmem, ⟨14, _⟩ => ⟨S4x32x128, .f32⟩
  | .local _ .vmem, ⟨15, _⟩ => ⟨S4x256x512, .bf16⟩
  | .local _ .vmem, ⟨16, _⟩ => ⟨S4x512x512, .f32⟩
  | .local _ .vmem, ⟨17, _⟩ => ⟨S4x512x512, .f32⟩
  | .local _ .vmem, ⟨18, _⟩ => ⟨S4x512x512, .bf16⟩
  | .local _ .vmem, ⟨19, _⟩ => ⟨S4x512x512, .bf16⟩
  | .local _ .vmem, ⟨20, _⟩ => ⟨S4x144x512, .f32⟩
  | .local _ .vmem, ⟨21, _⟩ => ⟨S4x1x512, .f32⟩
  | .local _ .vmem, ⟨22, _⟩ => ⟨S4x1x512, .f32⟩
  | .local _ .vmem, ⟨23, _⟩ => ⟨S4x1x512, .f32⟩
  | .local _ .vmem, ⟨24, _⟩ => ⟨S512x512, .f32⟩
  | _, _ => ⟨S16384x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2208 : BitVec 32 := 0#32
  let c16_i32_2209 : BitVec 32 := 16#32
  let v2912 : BitVec 32 := Scalar.addi c0_i32_2208 c16_i32_2209
  let c1_i32_2210 : BitVec 32 := 1#32
  ⟨c0_i32_2208, v2912, c1_i32_2210⟩
def k0_mult1 (k0_t1 : Fin k0_t1_loop.trips) : BitVec 32 :=
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let c0_i32_2424 : BitVec 32 := 0#32
  let v3310 : BitVec 32 := Scalar.addi v3309 c0_i32_2424
  let c256_i32 : BitVec 32 := 256#32
  let v3311 : BitVec 32 := Scalar.muli v3310 c256_i32
  v3311
def k0_off1 (k0_t1 : Fin k0_t1_loop.trips) : Fin 3 → Nat :=
  let c0_i32_2208 : BitVec 32 := 0#32
  let c1_i32_2210 : BitVec 32 := 1#32
  let arg22 : BitVec 32 := Scf.iv c0_i32_2208 c1_i32_2210 k0_t1
  let v3319 : Index := Scalar.indexCast arg22
  let c0_2427 : Index := 0#32
  let c0_2428 : Index := 0#32
  ![v3319.toNat, 0, 0]
def k0_off2 (k0_t1 : Fin k0_t1_loop.trips) (c0_i32_2424 : BitVec 32) : Fin 2 → Nat :=
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let c256_i32 : BitVec 32 := 256#32
  let v3311 : BitVec 32 := Scalar.muli v3310 c256_i32
  let v3312 : BitVec 32 := v3311
  let v3323 : Index := Scalar.indexCast v3312
  let c0_2429 : Index := 0#32
  ![v3323.toNat, 0]
def k0_off3 (k0_t1 : Fin k0_t1_loop.trips) (c0_i32_2424 : BitVec 32) : Fin 3 → Nat :=
  let c0_2432 : Index := 0#32
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let v3330 : Index := Scalar.indexCast v3310
  let c0_2433 : Index := 0#32
  ![0, v3330.toNat, 0]
def k0_off4 (k0_t1 : Fin k0_t1_loop.trips) (c0_i32_2424 : BitVec 32) : Fin 2 → Nat :=
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let c256_i32 : BitVec 32 := 256#32
  let v3311 : BitVec 32 := Scalar.muli v3310 c256_i32
  let v3312 : BitVec 32 := v3311
  let v3334 : Index := Scalar.indexCast v3312
  let c128_2434 : Index := 128#32
  ![v3334.toNat, 128]
def k0_off5 (k0_t1 : Fin k0_t1_loop.trips) (c0_i32_2424 : BitVec 32) : Fin 3 → Nat :=
  let c1_2437 : Index := 1#32
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let v3341 : Index := Scalar.indexCast v3310
  let c0_2438 : Index := 0#32
  ![1, v3341.toNat, 0]
def k0_off6 (k0_t1 : Fin k0_t1_loop.trips) (c0_i32_2424 : BitVec 32) : Fin 2 → Nat :=
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let c256_i32 : BitVec 32 := 256#32
  let v3311 : BitVec 32 := Scalar.muli v3310 c256_i32
  let v3312 : BitVec 32 := v3311
  let v3345 : Index := Scalar.indexCast v3312
  let c256_2439 : Index := 256#32
  ![v3345.toNat, 256]
def k0_off7 (k0_t1 : Fin k0_t1_loop.trips) (c0_i32_2424 : BitVec 32) : Fin 3 → Nat :=
  let c2_2442 : Index := 2#32
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let v3352 : Index := Scalar.indexCast v3310
  let c0_2443 : Index := 0#32
  ![2, v3352.toNat, 0]
def k0_off8 (k0_t1 : Fin k0_t1_loop.trips) (c0_i32_2424 : BitVec 32) : Fin 2 → Nat :=
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let c256_i32 : BitVec 32 := 256#32
  let v3311 : BitVec 32 := Scalar.muli v3310 c256_i32
  let v3312 : BitVec 32 := v3311
  let v3356 : Index := Scalar.indexCast v3312
  let c384_2444 : Index := 384#32
  ![v3356.toNat, 384]
def k0_off9 (k0_t1 : Fin k0_t1_loop.trips) (c0_i32_2424 : BitVec 32) : Fin 3 → Nat :=
  let c3_2447 : Index := 3#32
  let c0_i32_2208 : BitVec 32 := 0#32
  let c1_i32_2210 : BitVec 32 := 1#32
  let arg22 : BitVec 32 := Scf.iv c0_i32_2208 c1_i32_2210 k0_t1
  let c2_i32_2423 : BitVec 32 := 2#32
  let v3309 : BitVec 32 := Scalar.muli arg22 c2_i32_2423
  let v3310 : BitVec 32 := Scalar.addi v3309 c0_i32_2424
  let v3363 : Index := Scalar.indexCast v3310
  let c0_2448 : Index := 0#32
  ![3, v3363.toNat, 0]
def k0_mult2 (k0_t1 : Fin k0_t1_loop.trips) : BitVec 32 :=
  let c0_i32_2208 : BitVec 32 := 0#32
  let c1_i32_2210 : BitVec 32 := 1#32
  let arg22 : BitVec 32 := Scf.iv c0_i32_2208 c1_i32_2210 k0_t1
  let c2_i32_2449 : BitVec 32 := 2#32
  let v3367 : BitVec 32 := Scalar.muli arg22 c2_i32_2449
  let c1_i32_2450 : BitVec 32 := 1#32
  let v3368 : BitVec 32 := Scalar.addi v3367 c1_i32_2450
  let c256_i32_2451 : BitVec 32 := 256#32
  let v3369 : BitVec 32 := Scalar.muli v3368 c256_i32_2451
  v3369
def k0_off10 (k0_t1 : Fin k0_t1_loop.trips) : Fin 3 → Nat :=
  let c0_i32_2208 : BitVec 32 := 0#32
  let c1_i32_2210 : BitVec 32 := 1#32
  let arg22 : BitVec 32 := Scf.iv c0_i32_2208 c1_i32_2210 k0_t1
  let v3377 : Index := Scalar.indexCast arg22
  let c256_2454 : Index := 256#32
  let c0_2455 : Index := 0#32
  ![v3377.toNat, 256, 0]
def k0_mult3 (i : grid0.Coords) : BitVec 32 :=
  let c0_i32_2350 : BitVec 32 := 0#32
  let arg2 : BitVec 32 := BitVec.ofNat 32 (i 2).val
  let c2_i32_2344 : BitVec 32 := 2#32
  let c0_i32_2345 : BitVec 32 := 0#32
  let v3221 : BitVec 1 := Scalar.cmpi .eq c2_i32_2344 c0_i32_2345
  let c1_i32_2346 : BitVec 32 := 1#32
  let v3222 : BitVec 32 := Scalar.select v3221 c1_i32_2346 c2_i32_2344
  let v3223 : BitVec 32 := Scalar.remsi arg2 v3222
  let c0_i32_2348 : BitVec 32 := 0#32
  let v3225 : BitVec 1 := Scalar.cmpi .slt v3223 c0_i32_2348
  let c0_i32_2349 : BitVec 32 := 0#32
  let v3226 : BitVec 1 := Scalar.cmpi .slt v3222 c0_i32_2349
  let v3227 : BitVec 1 := Scalar.xori v3225 v3226
  let c0_i32_2347 : BitVec 32 := 0#32
  let v3224 : BitVec 1 := Scalar.cmpi .ne v3223 c0_i32_2347
  let v3228 : BitVec 1 := Scalar.andi v3227 v3224
  let v3229 : BitVec 32 := Scalar.addi v3223 v3222
  let v3230 : BitVec 32 := Scalar.select v3228 v3229 v3223
  let v3231 : BitVec 32 := Scalar.subi c0_i32_2350 v3230
  let c0_i32_2351 : BitVec 32 := 0#32
  let v3232 : BitVec 1 := Scalar.cmpi .slt v3231 c0_i32_2351
  let c16_i32_2352 : BitVec 32 := 16#32
  let v3233 : BitVec 32 := Scalar.select v3232 c16_i32_2352 v3231
  let c15_i32_2353 : BitVec 32 := 15#32
  let v3234 : BitVec 32 := Scalar.minsi v3233 c15_i32_2353
  let c512_i32_2354 : BitVec 32 := 512#32
  let v3235 : BitVec 32 := Scalar.muli v3234 c512_i32_2354
  v3235
def k0_off11 (i : grid0.Coords) : Fin 2 → Nat :=
  let c0_i32_2350 : BitVec 32 := 0#32
  let arg2 : BitVec 32 := BitVec.ofNat 32 (i 2).val
  let c2_i32_2344 : BitVec 32 := 2#32
  let c0_i32_2345 : BitVec 32 := 0#32
  let v3221 : BitVec 1 := Scalar.cmpi .eq c2_i32_2344 c0_i32_2345
  let c1_i32_2346 : BitVec 32 := 1#32
  let v3222 : BitVec 32 := Scalar.select v3221 c1_i32_2346 c2_i32_2344
  let v3223 : BitVec 32 := Scalar.remsi arg2 v3222
  let c0_i32_2348 : BitVec 32 := 0#32
  let v3225 : BitVec 1 := Scalar.cmpi .slt v3223 c0_i32_2348
  let c0_i32_2349 : BitVec 32 := 0#32
  let v3226 : BitVec 1 := Scalar.cmpi .slt v3222 c0_i32_2349
  let v3227 : BitVec 1 := Scalar.xori v3225 v3226
  let c0_i32_2347 : BitVec 32 := 0#32
  let v3224 : BitVec 1 := Scalar.cmpi .ne v3223 c0_i32_2347
  let v3228 : BitVec 1 := Scalar.andi v3227 v3224
  let v3229 : BitVec 32 := Scalar.addi v3223 v3222
  let v3230 : BitVec 32 := Scalar.select v3228 v3229 v3223
  let v3231 : BitVec 32 := Scalar.subi c0_i32_2350 v3230
  let c0_i32_2351 : BitVec 32 := 0#32
  let v3232 : BitVec 1 := Scalar.cmpi .slt v3231 c0_i32_2351
  let c16_i32_2352 : BitVec 32 := 16#32
  let v3233 : BitVec 32 := Scalar.select v3232 c16_i32_2352 v3231
  let c15_i32_2353 : BitVec 32 := 15#32
  let v3234 : BitVec 32 := Scalar.minsi v3233 c15_i32_2353
  let c512_i32_2354 : BitVec 32 := 512#32
  let v3235 : BitVec 32 := Scalar.muli v3234 c512_i32_2354
  let v3236 : BitVec 32 := v3235
  let v3237 : Index := Scalar.indexCast v3236
  let c0_2355 : Index := 0#32
  ![v3237.toNat, 0]
def k0_off12 (i : grid0.Coords) : Fin 3 → Nat :=
  let c0_i32_2350 : BitVec 32 := 0#32
  let arg2 : BitVec 32 := BitVec.ofNat 32 (i 2).val
  let c2_i32_2344 : BitVec 32 := 2#32
  let c0_i32_2345 : BitVec 32 := 0#32
  let v3221 : BitVec 1 := Scalar.cmpi .eq c2_i32_2344 c0_i32_2345
  let c1_i32_2346 : BitVec 32 := 1#32
  let v3222 : BitVec 32 := Scalar.select v3221 c1_i32_2346 c2_i32_2344
  let v3223 : BitVec 32 := Scalar.remsi arg2 v3222
  let c0_i32_2348 : BitVec 32 := 0#32
  let v3225 : BitVec 1 := Scalar.cmpi .slt v3223 c0_i32_2348
  let c0_i32_2349 : BitVec 32 := 0#32
  let v3226 : BitVec 1 := Scalar.cmpi .slt v3222 c0_i32_2349
  let v3227 : BitVec 1 := Scalar.xori v3225 v3226
  let c0_i32_2347 : BitVec 32 := 0#32
  let v3224 : BitVec 1 := Scalar.cmpi .ne v3223 c0_i32_2347
  let v3228 : BitVec 1 := Scalar.andi v3227 v3224
  let v3229 : BitVec 32 := Scalar.addi v3223 v3222
  let v3230 : BitVec 32 := Scalar.select v3228 v3229 v3223
  let v3231 : BitVec 32 := Scalar.subi c0_i32_2350 v3230
  let c0_i32_2351 : BitVec 32 := 0#32
  let v3232 : BitVec 1 := Scalar.cmpi .slt v3231 c0_i32_2351
  let c16_i32_2352 : BitVec 32 := 16#32
  let v3233 : BitVec 32 := Scalar.select v3232 c16_i32_2352 v3231
  let v3239 : Index := Scalar.indexCast v3233
  let c0_2356 : Index := 0#32
  let c0_2357 : Index := 0#32
  ![v3239.toNat, 0, 0]
def k0_off13 (i : grid0.Coords) : Fin 2 → Nat :=
  let c0_i32_2350 : BitVec 32 := 0#32
  let arg2 : BitVec 32 := BitVec.ofNat 32 (i 2).val
  let c2_i32_2344 : BitVec 32 := 2#32
  let c0_i32_2345 : BitVec 32 := 0#32
  let v3221 : BitVec 1 := Scalar.cmpi .eq c2_i32_2344 c0_i32_2345
  let c1_i32_2346 : BitVec 32 := 1#32
  let v3222 : BitVec 32 := Scalar.select v3221 c1_i32_2346 c2_i32_2344
  let v3223 : BitVec 32 := Scalar.remsi arg2 v3222
  let c0_i32_2348 : BitVec 32 := 0#32
  let v3225 : BitVec 1 := Scalar.cmpi .slt v3223 c0_i32_2348
  let c0_i32_2349 : BitVec 32 := 0#32
  let v3226 : BitVec 1 := Scalar.cmpi .slt v3222 c0_i32_2349
  let v3227 : BitVec 1 := Scalar.xori v3225 v3226
  let c0_i32_2347 : BitVec 32 := 0#32
  let v3224 : BitVec 1 := Scalar.cmpi .ne v3223 c0_i32_2347
  let v3228 : BitVec 1 := Scalar.andi v3227 v3224
  let v3229 : BitVec 32 := Scalar.addi v3223 v3222
  let v3230 : BitVec 32 := Scalar.select v3228 v3229 v3223
  let v3231 : BitVec 32 := Scalar.subi c0_i32_2350 v3230
  let c0_i32_2351 : BitVec 32 := 0#32
  let v3232 : BitVec 1 := Scalar.cmpi .slt v3231 c0_i32_2351
  let c16_i32_2352 : BitVec 32 := 16#32
  let v3233 : BitVec 32 := Scalar.select v3232 c16_i32_2352 v3231
  let c15_i32_2353 : BitVec 32 := 15#32
  let v3234 : BitVec 32 := Scalar.minsi v3233 c15_i32_2353
  let c512_i32_2354 : BitVec 32 := 512#32
  let v3235 : BitVec 32 := Scalar.muli v3234 c512_i32_2354
  let v3236 : BitVec 32 := v3235
  let v3255 : Index := Scalar.indexCast v3236
  let c128_2372 : Index := 128#32
  ![v3255.toNat, 128]
def k0_off14 (i : grid0.Coords) : Fin 2 → Nat :=
  let c0_i32_2350 : BitVec 32 := 0#32
  let arg2 : BitVec 32 := BitVec.ofNat 32 (i 2).val
  let c2_i32_2344 : BitVec 32 := 2#32
  let c0_i32_2345 : BitVec 32 := 0#32
  let v3221 : BitVec 1 := Scalar.cmpi .eq c2_i32_2344 c0_i32_2345
  let c1_i32_2346 : BitVec 32 := 1#32
  let v3222 : BitVec 32 := Scalar.select v3221 c1_i32_2346 c2_i32_2344
  let v3223 : BitVec 32 := Scalar.remsi arg2 v3222
  let c0_i32_2348 : BitVec 32 := 0#32
  let v3225 : BitVec 1 := Scalar.cmpi .slt v3223 c0_i32_2348
  let c0_i32_2349 : BitVec 32 := 0#32
  let v3226 : BitVec 1 := Scalar.cmpi .slt v3222 c0_i32_2349
  let v3227 : BitVec 1 := Scalar.xori v3225 v3226
  let c0_i32_2347 : BitVec 32 := 0#32
  let v3224 : BitVec 1 := Scalar.cmpi .ne v3223 c0_i32_2347
  let v3228 : BitVec 1 := Scalar.andi v3227 v3224
  let v3229 : BitVec 32 := Scalar.addi v3223 v3222
  let v3230 : BitVec 32 := Scalar.select v3228 v3229 v3223
  let v3231 : BitVec 32 := Scalar.subi c0_i32_2350 v3230
  let c0_i32_2351 : BitVec 32 := 0#32
  let v3232 : BitVec 1 := Scalar.cmpi .slt v3231 c0_i32_2351
  let c16_i32_2352 : BitVec 32 := 16#32
  let v3233 : BitVec 32 := Scalar.select v3232 c16_i32_2352 v3231
  let c15_i32_2353 : BitVec 32 := 15#32
  let v3234 : BitVec 32 := Scalar.minsi v3233 c15_i32_2353
  let c512_i32_2354 : BitVec 32 := 512#32
  let v3235 : BitVec 32 := Scalar.muli v3234 c512_i32_2354
  let v3236 : BitVec 32 := v3235
  let v3273 : Index := Scalar.indexCast v3236
  let c256_2389 : Index := 256#32
  ![v3273.toNat, 256]
def k0_off15 (i : grid0.Coords) : Fin 2 → Nat :=
  let c0_i32_2350 : BitVec 32 := 0#32
  let arg2 : BitVec 32 := BitVec.ofNat 32 (i 2).val
  let c2_i32_2344 : BitVec 32 := 2#32
  let c0_i32_2345 : BitVec 32 := 0#32
  let v3221 : BitVec 1 := Scalar.cmpi .eq c2_i32_2344 c0_i32_2345
  let c1_i32_2346 : BitVec 32 := 1#32
  let v3222 : BitVec 32 := Scalar.select v3221 c1_i32_2346 c2_i32_2344
  let v3223 : BitVec 32 := Scalar.remsi arg2 v3222
  let c0_i32_2348 : BitVec 32 := 0#32
  let v3225 : BitVec 1 := Scalar.cmpi .slt v3223 c0_i32_2348
  let c0_i32_2349 : BitVec 32 := 0#32
  let v3226 : BitVec 1 := Scalar.cmpi .slt v3222 c0_i32_2349
  let v3227 : BitVec 1 := Scalar.xori v3225 v3226
  let c0_i32_2347 : BitVec 32 := 0#32
  let v3224 : BitVec 1 := Scalar.cmpi .ne v3223 c0_i32_2347
  let v3228 : BitVec 1 := Scalar.andi v3227 v3224
  let v3229 : BitVec 32 := Scalar.addi v3223 v3222
  let v3230 : BitVec 32 := Scalar.select v3228 v3229 v3223
  let v3231 : BitVec 32 := Scalar.subi c0_i32_2350 v3230
  let c0_i32_2351 : BitVec 32 := 0#32
  let v3232 : BitVec 1 := Scalar.cmpi .slt v3231 c0_i32_2351
  let c16_i32_2352 : BitVec 32 := 16#32
  let v3233 : BitVec 32 := Scalar.select v3232 c16_i32_2352 v3231
  let c15_i32_2353 : BitVec 32 := 15#32
  let v3234 : BitVec 32 := Scalar.minsi v3233 c15_i32_2353
  let c512_i32_2354 : BitVec 32 := 512#32
  let v3235 : BitVec 32 := Scalar.muli v3234 c512_i32_2354
  let v3236 : BitVec 32 := v3235
  let v3291 : Index := Scalar.indexCast v3236
  let c384_2406 : Index := 384#32
  ![v3291.toNat, 384]
@[reducible] def k0_t2_loop (i : grid0.Coords) : Scf.Loop 32 :=
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_25 : BitVec 32 := 1#32
  ⟨c0_i32_23, v47, c1_i32_25⟩
def k0_off16 (i : grid0.Coords) (k0_t2 : Fin (k0_t2_loop i).trips) (c2_i32_2178 : BitVec 32) : Fin 4 → Nat :=
  let c0_2187 : Index := 0#32
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let v2874 : BitVec 32 := Scalar.subi v2873 c2_i32_2178
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2881 : BitVec 32 := Scalar.subi v2874 v12
  let c0_i32_2185 : BitVec 32 := 0#32
  let v2882 : BitVec 1 := Scalar.cmpi .slt v2881 c0_i32_2185
  let c16_i32_2186 : BitVec 32 := 16#32
  let v2883 : BitVec 32 := Scalar.select v2882 c16_i32_2186 v2881
  let v2884 : Index := Scalar.indexCast v2883
  let c0_2188 : Index := 0#32
  let c0_2189 : Index := 0#32
  ![0, v2884.toNat, 0, 0]
def k0_off17 (i : grid0.Coords) (k0_t2 : Fin (k0_t2_loop i).trips) (c2_i32_2197 : BitVec 32) : Fin 4 → Nat :=
  let c1_2206 : Index := 1#32
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let v2894 : BitVec 32 := Scalar.subi v2873 c2_i32_2197
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2901 : BitVec 32 := Scalar.subi v2894 v12
  let c0_i32_2204 : BitVec 32 := 0#32
  let v2902 : BitVec 1 := Scalar.cmpi .slt v2901 c0_i32_2204
  let c16_i32_2205 : BitVec 32 := 16#32
  let v2903 : BitVec 32 := Scalar.select v2902 c16_i32_2205 v2901
  let v2904 : Index := Scalar.indexCast v2903
  let c0_2207 : Index := 0#32
  let c0_2208 : Index := 0#32
  ![1, v2904.toNat, 0, 0]
def k0_off18 (i : grid0.Coords) (k0_t2 : Fin (k0_t2_loop i).trips) (c2_i32_2216 : BitVec 32) : Fin 4 → Nat :=
  let c2_2225 : Index := 2#32
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let v2914 : BitVec 32 := Scalar.subi v2873 c2_i32_2216
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2921 : BitVec 32 := Scalar.subi v2914 v12
  let c0_i32_2223 : BitVec 32 := 0#32
  let v2922 : BitVec 1 := Scalar.cmpi .slt v2921 c0_i32_2223
  let c16_i32_2224 : BitVec 32 := 16#32
  let v2923 : BitVec 32 := Scalar.select v2922 c16_i32_2224 v2921
  let v2924 : Index := Scalar.indexCast v2923
  let c0_2226 : Index := 0#32
  let c0_2227 : Index := 0#32
  ![2, v2924.toNat, 0, 0]
def k0_off19 (i : grid0.Coords) (k0_t2 : Fin (k0_t2_loop i).trips) (c2_i32_2235 : BitVec 32) : Fin 4 → Nat :=
  let c3_2244 : Index := 3#32
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let v2934 : BitVec 32 := Scalar.subi v2873 c2_i32_2235
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2941 : BitVec 32 := Scalar.subi v2934 v12
  let c0_i32_2242 : BitVec 32 := 0#32
  let v2942 : BitVec 1 := Scalar.cmpi .slt v2941 c0_i32_2242
  let c16_i32_2243 : BitVec 32 := 16#32
  let v2943 : BitVec 32 := Scalar.select v2942 c16_i32_2243 v2941
  let v2944 : Index := Scalar.indexCast v2943
  let c0_2245 : Index := 0#32
  let c0_2246 : Index := 0#32
  ![3, v2944.toNat, 0, 0]
def k0_mult4 (i : grid0.Coords) (k0_t2 : Fin (k0_t2_loop i).trips) : BitVec 32 :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  v2958
def k0_off20 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v2960 : Index := Scalar.indexCast v2959
  let c0_2258 : Index := 0#32
  ![v2960.toNat, 0]
def k0_off21 (i : grid0.Coords) (k0_t2 : Fin (k0_t2_loop i).trips) : Fin 3 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let v2962 : Index := Scalar.indexCast v2956
  let c0_2259 : Index := 0#32
  let c0_2260 : Index := 0#32
  ![v2962.toNat, 0, 0]
def k0_off22 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v2978 : Index := Scalar.indexCast v2959
  let c128_2275 : Index := 128#32
  ![v2978.toNat, 128]
def k0_off23 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v2996 : Index := Scalar.indexCast v2959
  let c256_2292 : Index := 256#32
  ![v2996.toNat, 256]
def k0_off24 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v3014 : Index := Scalar.indexCast v2959
  let c384_2309 : Index := 384#32
  ![v3014.toNat, 384]
def k0_mult5 (i : grid0.Coords) (k0_t2 : Fin (k0_t2_loop i).trips) : BitVec 32 :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  v4621
def k0_off25 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4623 : Index := Scalar.indexCast v4622
  let c0_3523 : Index := 0#32
  ![v4623.toNat, 0]
def k0_off26 (i : grid0.Coords) (k0_t2 : Fin (k0_t2_loop i).trips) : Fin 3 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let v4625 : Index := Scalar.indexCast v4619
  let c0_3524 : Index := 0#32
  let c0_3525 : Index := 0#32
  ![v4625.toNat, 0, 0]
def k0_off27 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4641 : Index := Scalar.indexCast v4622
  let c128_3540 : Index := 128#32
  ![v4641.toNat, 128]
def k0_off28 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4659 : Index := Scalar.indexCast v4622
  let c256_3557 : Index := 256#32
  ![v4659.toNat, 256]
def k0_off29 (i : grid0.Coords) (k0_t2 : Fin (k0_t2_loop i).trips) : Fin 2 → Nat :=
  let c2_i32_2176 : BitVec 32 := 2#32
  let c0_i32_23 : BitVec 32 := 0#32
  let c1_i32_25 : BitVec 32 := 1#32
  let arg22 : BitVec 32 := Scf.iv c0_i32_23 c1_i32_25 k0_t2
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4677 : Index := Scalar.indexCast v4622
  let c384_3574 : Index := 384#32
  ![v4677.toNat, 384]
@[reducible] def k0_t3_loop (i : grid0.Coords) : Scf.Loop 32 :=
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let v44 : BitVec 32 := Scalar.addi c0_i32_23 v43
  let c1_i32_26 : BitVec 32 := 1#32
  ⟨v47, v44, c1_i32_26⟩
def k0_off30 (i : grid0.Coords) (k0_t3 : Fin (k0_t3_loop i).trips) (c2_i32_2178 : BitVec 32) : Fin 4 → Nat :=
  let c0_2187 : Index := 0#32
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2874 : BitVec 32 := Scalar.subi v2873 c2_i32_2178
  let v2881 : BitVec 32 := Scalar.subi v2874 v12
  let c0_i32_2185 : BitVec 32 := 0#32
  let v2882 : BitVec 1 := Scalar.cmpi .slt v2881 c0_i32_2185
  let c16_i32_2186 : BitVec 32 := 16#32
  let v2883 : BitVec 32 := Scalar.select v2882 c16_i32_2186 v2881
  let v2884 : Index := Scalar.indexCast v2883
  let c0_2188 : Index := 0#32
  let c0_2189 : Index := 0#32
  ![0, v2884.toNat, 0, 0]
def k0_off31 (i : grid0.Coords) (k0_t3 : Fin (k0_t3_loop i).trips) (c2_i32_2197 : BitVec 32) : Fin 4 → Nat :=
  let c1_2206 : Index := 1#32
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2894 : BitVec 32 := Scalar.subi v2873 c2_i32_2197
  let v2901 : BitVec 32 := Scalar.subi v2894 v12
  let c0_i32_2204 : BitVec 32 := 0#32
  let v2902 : BitVec 1 := Scalar.cmpi .slt v2901 c0_i32_2204
  let c16_i32_2205 : BitVec 32 := 16#32
  let v2903 : BitVec 32 := Scalar.select v2902 c16_i32_2205 v2901
  let v2904 : Index := Scalar.indexCast v2903
  let c0_2207 : Index := 0#32
  let c0_2208 : Index := 0#32
  ![1, v2904.toNat, 0, 0]
def k0_off32 (i : grid0.Coords) (k0_t3 : Fin (k0_t3_loop i).trips) (c2_i32_2216 : BitVec 32) : Fin 4 → Nat :=
  let c2_2225 : Index := 2#32
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2914 : BitVec 32 := Scalar.subi v2873 c2_i32_2216
  let v2921 : BitVec 32 := Scalar.subi v2914 v12
  let c0_i32_2223 : BitVec 32 := 0#32
  let v2922 : BitVec 1 := Scalar.cmpi .slt v2921 c0_i32_2223
  let c16_i32_2224 : BitVec 32 := 16#32
  let v2923 : BitVec 32 := Scalar.select v2922 c16_i32_2224 v2921
  let v2924 : Index := Scalar.indexCast v2923
  let c0_2226 : Index := 0#32
  let c0_2227 : Index := 0#32
  ![2, v2924.toNat, 0, 0]
def k0_off33 (i : grid0.Coords) (k0_t3 : Fin (k0_t3_loop i).trips) (c2_i32_2235 : BitVec 32) : Fin 4 → Nat :=
  let c3_2244 : Index := 3#32
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2934 : BitVec 32 := Scalar.subi v2873 c2_i32_2235
  let v2941 : BitVec 32 := Scalar.subi v2934 v12
  let c0_i32_2242 : BitVec 32 := 0#32
  let v2942 : BitVec 1 := Scalar.cmpi .slt v2941 c0_i32_2242
  let c16_i32_2243 : BitVec 32 := 16#32
  let v2943 : BitVec 32 := Scalar.select v2942 c16_i32_2243 v2941
  let v2944 : Index := Scalar.indexCast v2943
  let c0_2245 : Index := 0#32
  let c0_2246 : Index := 0#32
  ![3, v2944.toNat, 0, 0]
def k0_mult6 (i : grid0.Coords) (k0_t3 : Fin (k0_t3_loop i).trips) : BitVec 32 :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  v2958
def k0_off34 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v2960 : Index := Scalar.indexCast v2959
  let c0_2258 : Index := 0#32
  ![v2960.toNat, 0]
def k0_off35 (i : grid0.Coords) (k0_t3 : Fin (k0_t3_loop i).trips) : Fin 3 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let v2962 : Index := Scalar.indexCast v2956
  let c0_2259 : Index := 0#32
  let c0_2260 : Index := 0#32
  ![v2962.toNat, 0, 0]
def k0_off36 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v2978 : Index := Scalar.indexCast v2959
  let c128_2275 : Index := 128#32
  ![v2978.toNat, 128]
def k0_off37 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v2996 : Index := Scalar.indexCast v2959
  let c256_2292 : Index := 256#32
  ![v2996.toNat, 256]
def k0_off38 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let v2954 : BitVec 32 := Scalar.subi v2873 v12
  let c0_i32_2254 : BitVec 32 := 0#32
  let v2955 : BitVec 1 := Scalar.cmpi .slt v2954 c0_i32_2254
  let c16_i32_2255 : BitVec 32 := 16#32
  let v2956 : BitVec 32 := Scalar.select v2955 c16_i32_2255 v2954
  let c15_i32_2256 : BitVec 32 := 15#32
  let v2957 : BitVec 32 := Scalar.minsi v2956 c15_i32_2256
  let c512_i32_2257 : BitVec 32 := 512#32
  let v2958 : BitVec 32 := Scalar.muli v2957 c512_i32_2257
  let v2959 : BitVec 32 := v2958
  let v3014 : Index := Scalar.indexCast v2959
  let c384_2309 : Index := 384#32
  ![v3014.toNat, 384]
def k0_mult7 (i : grid0.Coords) (k0_t3 : Fin (k0_t3_loop i).trips) : BitVec 32 :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  v4621
def k0_off39 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4623 : Index := Scalar.indexCast v4622
  let c0_3523 : Index := 0#32
  ![v4623.toNat, 0]
def k0_off40 (i : grid0.Coords) (k0_t3 : Fin (k0_t3_loop i).trips) : Fin 3 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let v4625 : Index := Scalar.indexCast v4619
  let c0_3524 : Index := 0#32
  let c0_3525 : Index := 0#32
  ![v4625.toNat, 0, 0]
def k0_off41 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4641 : Index := Scalar.indexCast v4622
  let c128_3540 : Index := 128#32
  ![v4641.toNat, 128]
def k0_off42 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4659 : Index := Scalar.indexCast v4622
  let c256_3557 : Index := 256#32
  ![v4659.toNat, 256]
def k0_off43 (i : grid0.Coords) (k0_t3 : Fin (k0_t3_loop i).trips) : Fin 2 → Nat :=
  let c2_i32_2176 : BitVec 32 := 2#32
  let c0_i32_23 : BitVec 32 := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c0_i32_16 : BitVec 32 := 0#32
  let v27 : BitVec 1 := Scalar.cmpi .sgt v25 c0_i32_16
  let v28 : BitVec 32 := Scalar.extui v27
  let c0_i32_17 : BitVec 32 := 0#32
  let v29 : BitVec 1 := Scalar.cmpi .slt v25 c0_i32_17
  let v30 : BitVec 32 := Scalar.extui v29
  let v31 : BitVec 32 := Scalar.subi v28 v30
  let c2_i32_15 : BitVec 32 := 2#32
  let c0_i32_18 : BitVec 32 := 0#32
  let v32 : BitVec 1 := Scalar.cmpi .sgt c2_i32_15 c0_i32_18
  let v33 : BitVec 32 := Scalar.extui v32
  let c0_i32_19 : BitVec 32 := 0#32
  let v34 : BitVec 1 := Scalar.cmpi .slt c2_i32_15 c0_i32_19
  let v35 : BitVec 32 := Scalar.extui v34
  let v36 : BitVec 32 := Scalar.subi v33 v35
  let v37 : BitVec 1 := Scalar.cmpi .ne v31 v36
  let v38 : BitVec 32 := Scalar.remsi v25 c2_i32_15
  let c0_i32_20 : BitVec 32 := 0#32
  let v39 : BitVec 1 := Scalar.cmpi .ne v38 c0_i32_20
  let v40 : BitVec 1 := Scalar.andi v37 v39
  let v26 : BitVec 32 := Scalar.divsi v25 c2_i32_15
  let c1_i32_21 : BitVec 32 := 1#32
  let v41 : BitVec 32 := Scalar.subi v26 c1_i32_21
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg22 : BitVec 32 := Scf.iv v47 c1_i32_26 k0_t3
  let v2872 : BitVec 32 := Scalar.muli c2_i32_2176 arg22
  let c1_i32_2177 : BitVec 32 := 1#32
  let v2873 : BitVec 32 := Scalar.addi v2872 c1_i32_2177
  let c1_i32_3518 : BitVec 32 := 1#32
  let v4616 : BitVec 32 := Scalar.addi v2873 c1_i32_3518
  let v4617 : BitVec 32 := Scalar.subi v4616 v12
  let c0_i32_3519 : BitVec 32 := 0#32
  let v4618 : BitVec 1 := Scalar.cmpi .slt v4617 c0_i32_3519
  let c16_i32_3520 : BitVec 32 := 16#32
  let v4619 : BitVec 32 := Scalar.select v4618 c16_i32_3520 v4617
  let c15_i32_3521 : BitVec 32 := 15#32
  let v4620 : BitVec 32 := Scalar.minsi v4619 c15_i32_3521
  let c512_i32_3522 : BitVec 32 := 512#32
  let v4621 : BitVec 32 := Scalar.muli v4620 c512_i32_3522
  let v4622 : BitVec 32 := v4621
  let v4677 : Index := Scalar.indexCast v4622
  let c384_3574 : Index := 384#32
  ![v4677.toNat, 384]
def k0_off44 (i : grid0.Coords) : Fin 4 → Nat :=
  let c0_29 : Index := 0#32
  let arg2 : BitVec 32 := BitVec.ofNat 32 (i 2).val
  let v52 : Index := Scalar.indexCast arg2
  let c0_30 : Index := 0#32
  let c0_31 : Index := 0#32
  ![0, v52.toNat, 0, 0]
def k0_off45 (i : grid0.Coords) : Fin 4 → Nat :=
  let c0_33 : Index := 0#32
  let arg2 : BitVec 32 := BitVec.ofNat 32 (i 2).val
  let v60 : Index := Scalar.indexCast arg2
  let c0_34 : Index := 0#32
  let c256_35 : Index := 256#32
  ![0, v60.toNat, 0, 256]
def k0_off46 (i : grid0.Coords) : Fin 4 → Nat :=
  let c1 : Index := 1#32
  let arg2 : BitVec 32 := BitVec.ofNat 32 (i 2).val
  let v68 : Index := Scalar.indexCast arg2
  let c0_37 : Index := 0#32
  let c0_38 : Index := 0#32
  ![1, v68.toNat, 0, 0]
def k0_off47 (i : grid0.Coords) : Fin 4 → Nat :=
  let c1_41 : Index := 1#32
  let arg2 : BitVec 32 := BitVec.ofNat 32 (i 2).val
  let v76 : Index := Scalar.indexCast arg2
  let c0_42 : Index := 0#32
  let c256_43 : Index := 256#32
  ![1, v76.toNat, 0, 256]
def k0_off48 (i : grid0.Coords) : Fin 4 → Nat :=
  let c2 : Index := 2#32
  let arg2 : BitVec 32 := BitVec.ofNat 32 (i 2).val
  let v84 : Index := Scalar.indexCast arg2
  let c0_46 : Index := 0#32
  let c0_47 : Index := 0#32
  ![2, v84.toNat, 0, 0]
def k0_off49 (i : grid0.Coords) : Fin 4 → Nat :=
  let c2_50 : Index := 2#32
  let arg2 : BitVec 32 := BitVec.ofNat 32 (i 2).val
  let v92 : Index := Scalar.indexCast arg2
  let c0_51 : Index := 0#32
  let c256_52 : Index := 256#32
  ![2, v92.toNat, 0, 256]
def k0_off50 (i : grid0.Coords) : Fin 4 → Nat :=
  let c3 : Index := 3#32
  let arg2 : BitVec 32 := BitVec.ofNat 32 (i 2).val
  let v100 : Index := Scalar.indexCast arg2
  let c0_54 : Index := 0#32
  let c0_55 : Index := 0#32
  ![3, v100.toNat, 0, 0]
def k0_off51 (i : grid0.Coords) : Fin 4 → Nat :=
  let c3_58 : Index := 3#32
  let arg2 : BitVec 32 := BitVec.ofNat 32 (i 2).val
  let v108 : Index := Scalar.indexCast arg2
  let c0_59 : Index := 0#32
  let c256_60 : Index := 256#32
  ![3, v108.toNat, 0, 256]
def k0_off52 (i : grid0.Coords) : Fin 4 → Nat :=
  let c0_601 : Index := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c1_i32_593 : BitVec 32 := 1#32
  let v948 : BitVec 32 := Scalar.subi v25 c1_i32_593
  let v955 : BitVec 32 := Scalar.subi v948 v12
  let c0_i32_600 : BitVec 32 := 0#32
  let v956 : BitVec 1 := Scalar.cmpi .slt v955 c0_i32_600
  let c16_i32 : BitVec 32 := 16#32
  let v957 : BitVec 32 := Scalar.select v956 c16_i32 v955
  let v958 : Index := Scalar.indexCast v957
  let c0_602 : Index := 0#32
  let c0_603 : Index := 0#32
  ![0, v958.toNat, 0, 0]
def k0_off53 (i : grid0.Coords) : Fin 4 → Nat :=
  let c0_619 : Index := 0#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let v974 : BitVec 32 := Scalar.subi v25 v12
  let c0_i32_617 : BitVec 32 := 0#32
  let v975 : BitVec 1 := Scalar.cmpi .slt v974 c0_i32_617
  let c16_i32_618 : BitVec 32 := 16#32
  let v976 : BitVec 32 := Scalar.select v975 c16_i32_618 v974
  let v977 : Index := Scalar.indexCast v976
  let c0_620 : Index := 0#32
  let c0_621 : Index := 0#32
  ![0, v977.toNat, 0, 0]
def k0_mult8 (i : grid0.Coords) : BitVec 32 :=
  let c0_i32_636 : BitVec 32 := 0#32
  let arg2 : BitVec 32 := BitVec.ofNat 32 (i 2).val
  let c1_i32_629 : BitVec 32 := 1#32
  let v987 : BitVec 32 := Scalar.addi arg2 c1_i32_629
  let c2_i32_630 : BitVec 32 := 2#32
  let c0_i32_631 : BitVec 32 := 0#32
  let v988 : BitVec 1 := Scalar.cmpi .eq c2_i32_630 c0_i32_631
  let c1_i32_632 : BitVec 32 := 1#32
  let v989 : BitVec 32 := Scalar.select v988 c1_i32_632 c2_i32_630
  let v990 : BitVec 32 := Scalar.remsi v987 v989
  let c0_i32_634 : BitVec 32 := 0#32
  let v992 : BitVec 1 := Scalar.cmpi .slt v990 c0_i32_634
  let c0_i32_635 : BitVec 32 := 0#32
  let v993 : BitVec 1 := Scalar.cmpi .slt v989 c0_i32_635
  let v994 : BitVec 1 := Scalar.xori v992 v993
  let c0_i32_633 : BitVec 32 := 0#32
  let v991 : BitVec 1 := Scalar.cmpi .ne v990 c0_i32_633
  let v995 : BitVec 1 := Scalar.andi v994 v991
  let v996 : BitVec 32 := Scalar.addi v990 v989
  let v997 : BitVec 32 := Scalar.select v995 v996 v990
  let v998 : BitVec 32 := Scalar.subi c0_i32_636 v997
  let c0_i32_637 : BitVec 32 := 0#32
  let v999 : BitVec 1 := Scalar.cmpi .slt v998 c0_i32_637
  let c16_i32_638 : BitVec 32 := 16#32
  let v1000 : BitVec 32 := Scalar.select v999 c16_i32_638 v998
  let c15_i32 : BitVec 32 := 15#32
  let v1001 : BitVec 32 := Scalar.minsi v1000 c15_i32
  let c512_i32 : BitVec 32 := 512#32
  let v1002 : BitVec 32 := Scalar.muli v1001 c512_i32
  v1002
def k0_off54 (i : grid0.Coords) : Fin 2 → Nat :=
  let c0_i32_636 : BitVec 32 := 0#32
  let arg2 : BitVec 32 := BitVec.ofNat 32 (i 2).val
  let c1_i32_629 : BitVec 32 := 1#32
  let v987 : BitVec 32 := Scalar.addi arg2 c1_i32_629
  let c2_i32_630 : BitVec 32 := 2#32
  let c0_i32_631 : BitVec 32 := 0#32
  let v988 : BitVec 1 := Scalar.cmpi .eq c2_i32_630 c0_i32_631
  let c1_i32_632 : BitVec 32 := 1#32
  let v989 : BitVec 32 := Scalar.select v988 c1_i32_632 c2_i32_630
  let v990 : BitVec 32 := Scalar.remsi v987 v989
  let c0_i32_634 : BitVec 32 := 0#32
  let v992 : BitVec 1 := Scalar.cmpi .slt v990 c0_i32_634
  let c0_i32_635 : BitVec 32 := 0#32
  let v993 : BitVec 1 := Scalar.cmpi .slt v989 c0_i32_635
  let v994 : BitVec 1 := Scalar.xori v992 v993
  let c0_i32_633 : BitVec 32 := 0#32
  let v991 : BitVec 1 := Scalar.cmpi .ne v990 c0_i32_633
  let v995 : BitVec 1 := Scalar.andi v994 v991
  let v996 : BitVec 32 := Scalar.addi v990 v989
  let v997 : BitVec 32 := Scalar.select v995 v996 v990
  let v998 : BitVec 32 := Scalar.subi c0_i32_636 v997
  let c0_i32_637 : BitVec 32 := 0#32
  let v999 : BitVec 1 := Scalar.cmpi .slt v998 c0_i32_637
  let c16_i32_638 : BitVec 32 := 16#32
  let v1000 : BitVec 32 := Scalar.select v999 c16_i32_638 v998
  let c15_i32 : BitVec 32 := 15#32
  let v1001 : BitVec 32 := Scalar.minsi v1000 c15_i32
  let c512_i32 : BitVec 32 := 512#32
  let v1002 : BitVec 32 := Scalar.muli v1001 c512_i32
  let v1003 : BitVec 32 := v1002
  let v1004 : Index := Scalar.indexCast v1003
  let c0_639 : Index := 0#32
  ![v1004.toNat, 0]
def k0_off55 (i : grid0.Coords) : Fin 3 → Nat :=
  let c0_i32_636 : BitVec 32 := 0#32
  let arg2 : BitVec 32 := BitVec.ofNat 32 (i 2).val
  let c1_i32_629 : BitVec 32 := 1#32
  let v987 : BitVec 32 := Scalar.addi arg2 c1_i32_629
  let c2_i32_630 : BitVec 32 := 2#32
  let c0_i32_631 : BitVec 32 := 0#32
  let v988 : BitVec 1 := Scalar.cmpi .eq c2_i32_630 c0_i32_631
  let c1_i32_632 : BitVec 32 := 1#32
  let v989 : BitVec 32 := Scalar.select v988 c1_i32_632 c2_i32_630
  let v990 : BitVec 32 := Scalar.remsi v987 v989
  let c0_i32_634 : BitVec 32 := 0#32
  let v992 : BitVec 1 := Scalar.cmpi .slt v990 c0_i32_634
  let c0_i32_635 : BitVec 32 := 0#32
  let v993 : BitVec 1 := Scalar.cmpi .slt v989 c0_i32_635
  let v994 : BitVec 1 := Scalar.xori v992 v993
  let c0_i32_633 : BitVec 32 := 0#32
  let v991 : BitVec 1 := Scalar.cmpi .ne v990 c0_i32_633
  let v995 : BitVec 1 := Scalar.andi v994 v991
  let v996 : BitVec 32 := Scalar.addi v990 v989
  let v997 : BitVec 32 := Scalar.select v995 v996 v990
  let v998 : BitVec 32 := Scalar.subi c0_i32_636 v997
  let c0_i32_637 : BitVec 32 := 0#32
  let v999 : BitVec 1 := Scalar.cmpi .slt v998 c0_i32_637
  let c16_i32_638 : BitVec 32 := 16#32
  let v1000 : BitVec 32 := Scalar.select v999 c16_i32_638 v998
  let v1006 : Index := Scalar.indexCast v1000
  let c0_640 : Index := 0#32
  let c0_641 : Index := 0#32
  ![v1006.toNat, 0, 0]
def k0_off56 (i : grid0.Coords) : Fin 4 → Nat :=
  let c1_1102 : Index := 1#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c1_i32_1093 : BitVec 32 := 1#32
  let v1560 : BitVec 32 := Scalar.subi v25 c1_i32_1093
  let v1567 : BitVec 32 := Scalar.subi v1560 v12
  let c0_i32_1100 : BitVec 32 := 0#32
  let v1568 : BitVec 1 := Scalar.cmpi .slt v1567 c0_i32_1100
  let c16_i32_1101 : BitVec 32 := 16#32
  let v1569 : BitVec 32 := Scalar.select v1568 c16_i32_1101 v1567
  let v1570 : Index := Scalar.indexCast v1569
  let c0_1103 : Index := 0#32
  let c0_1104 : Index := 0#32
  ![1, v1570.toNat, 0, 0]
def k0_off57 (i : grid0.Coords) : Fin 4 → Nat :=
  let c1_1120 : Index := 1#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let v1586 : BitVec 32 := Scalar.subi v25 v12
  let c0_i32_1118 : BitVec 32 := 0#32
  let v1587 : BitVec 1 := Scalar.cmpi .slt v1586 c0_i32_1118
  let c16_i32_1119 : BitVec 32 := 16#32
  let v1588 : BitVec 32 := Scalar.select v1587 c16_i32_1119 v1586
  let v1589 : Index := Scalar.indexCast v1588
  let c0_1121 : Index := 0#32
  let c0_1122 : Index := 0#32
  ![1, v1589.toNat, 0, 0]
def k0_mult9 (i : grid0.Coords) : BitVec 32 :=
  let c0_i32_1137 : BitVec 32 := 0#32
  let arg2 : BitVec 32 := BitVec.ofNat 32 (i 2).val
  let c1_i32_1130 : BitVec 32 := 1#32
  let v1599 : BitVec 32 := Scalar.addi arg2 c1_i32_1130
  let c2_i32_1131 : BitVec 32 := 2#32
  let c0_i32_1132 : BitVec 32 := 0#32
  let v1600 : BitVec 1 := Scalar.cmpi .eq c2_i32_1131 c0_i32_1132
  let c1_i32_1133 : BitVec 32 := 1#32
  let v1601 : BitVec 32 := Scalar.select v1600 c1_i32_1133 c2_i32_1131
  let v1602 : BitVec 32 := Scalar.remsi v1599 v1601
  let c0_i32_1135 : BitVec 32 := 0#32
  let v1604 : BitVec 1 := Scalar.cmpi .slt v1602 c0_i32_1135
  let c0_i32_1136 : BitVec 32 := 0#32
  let v1605 : BitVec 1 := Scalar.cmpi .slt v1601 c0_i32_1136
  let v1606 : BitVec 1 := Scalar.xori v1604 v1605
  let c0_i32_1134 : BitVec 32 := 0#32
  let v1603 : BitVec 1 := Scalar.cmpi .ne v1602 c0_i32_1134
  let v1607 : BitVec 1 := Scalar.andi v1606 v1603
  let v1608 : BitVec 32 := Scalar.addi v1602 v1601
  let v1609 : BitVec 32 := Scalar.select v1607 v1608 v1602
  let v1610 : BitVec 32 := Scalar.subi c0_i32_1137 v1609
  let c0_i32_1138 : BitVec 32 := 0#32
  let v1611 : BitVec 1 := Scalar.cmpi .slt v1610 c0_i32_1138
  let c16_i32_1139 : BitVec 32 := 16#32
  let v1612 : BitVec 32 := Scalar.select v1611 c16_i32_1139 v1610
  let c15_i32_1140 : BitVec 32 := 15#32
  let v1613 : BitVec 32 := Scalar.minsi v1612 c15_i32_1140
  let c512_i32_1141 : BitVec 32 := 512#32
  let v1614 : BitVec 32 := Scalar.muli v1613 c512_i32_1141
  v1614
def k0_off58 (i : grid0.Coords) : Fin 2 → Nat :=
  let c0_i32_1137 : BitVec 32 := 0#32
  let arg2 : BitVec 32 := BitVec.ofNat 32 (i 2).val
  let c1_i32_1130 : BitVec 32 := 1#32
  let v1599 : BitVec 32 := Scalar.addi arg2 c1_i32_1130
  let c2_i32_1131 : BitVec 32 := 2#32
  let c0_i32_1132 : BitVec 32 := 0#32
  let v1600 : BitVec 1 := Scalar.cmpi .eq c2_i32_1131 c0_i32_1132
  let c1_i32_1133 : BitVec 32 := 1#32
  let v1601 : BitVec 32 := Scalar.select v1600 c1_i32_1133 c2_i32_1131
  let v1602 : BitVec 32 := Scalar.remsi v1599 v1601
  let c0_i32_1135 : BitVec 32 := 0#32
  let v1604 : BitVec 1 := Scalar.cmpi .slt v1602 c0_i32_1135
  let c0_i32_1136 : BitVec 32 := 0#32
  let v1605 : BitVec 1 := Scalar.cmpi .slt v1601 c0_i32_1136
  let v1606 : BitVec 1 := Scalar.xori v1604 v1605
  let c0_i32_1134 : BitVec 32 := 0#32
  let v1603 : BitVec 1 := Scalar.cmpi .ne v1602 c0_i32_1134
  let v1607 : BitVec 1 := Scalar.andi v1606 v1603
  let v1608 : BitVec 32 := Scalar.addi v1602 v1601
  let v1609 : BitVec 32 := Scalar.select v1607 v1608 v1602
  let v1610 : BitVec 32 := Scalar.subi c0_i32_1137 v1609
  let c0_i32_1138 : BitVec 32 := 0#32
  let v1611 : BitVec 1 := Scalar.cmpi .slt v1610 c0_i32_1138
  let c16_i32_1139 : BitVec 32 := 16#32
  let v1612 : BitVec 32 := Scalar.select v1611 c16_i32_1139 v1610
  let c15_i32_1140 : BitVec 32 := 15#32
  let v1613 : BitVec 32 := Scalar.minsi v1612 c15_i32_1140
  let c512_i32_1141 : BitVec 32 := 512#32
  let v1614 : BitVec 32 := Scalar.muli v1613 c512_i32_1141
  let v1615 : BitVec 32 := v1614
  let v1616 : Index := Scalar.indexCast v1615
  let c128_1142 : Index := 128#32
  ![v1616.toNat, 128]
def k0_off59 (i : grid0.Coords) : Fin 4 → Nat :=
  let c2_1605 : Index := 2#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c1_i32_1596 : BitVec 32 := 1#32
  let v2172 : BitVec 32 := Scalar.subi v25 c1_i32_1596
  let v2179 : BitVec 32 := Scalar.subi v2172 v12
  let c0_i32_1603 : BitVec 32 := 0#32
  let v2180 : BitVec 1 := Scalar.cmpi .slt v2179 c0_i32_1603
  let c16_i32_1604 : BitVec 32 := 16#32
  let v2181 : BitVec 32 := Scalar.select v2180 c16_i32_1604 v2179
  let v2182 : Index := Scalar.indexCast v2181
  let c0_1606 : Index := 0#32
  let c0_1607 : Index := 0#32
  ![2, v2182.toNat, 0, 0]
def k0_off60 (i : grid0.Coords) : Fin 4 → Nat :=
  let c2_1623 : Index := 2#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let v2198 : BitVec 32 := Scalar.subi v25 v12
  let c0_i32_1621 : BitVec 32 := 0#32
  let v2199 : BitVec 1 := Scalar.cmpi .slt v2198 c0_i32_1621
  let c16_i32_1622 : BitVec 32 := 16#32
  let v2200 : BitVec 32 := Scalar.select v2199 c16_i32_1622 v2198
  let v2201 : Index := Scalar.indexCast v2200
  let c0_1624 : Index := 0#32
  let c0_1625 : Index := 0#32
  ![2, v2201.toNat, 0, 0]
def k0_mult10 (i : grid0.Coords) : BitVec 32 :=
  let c0_i32_1640 : BitVec 32 := 0#32
  let arg2 : BitVec 32 := BitVec.ofNat 32 (i 2).val
  let c1_i32_1633 : BitVec 32 := 1#32
  let v2211 : BitVec 32 := Scalar.addi arg2 c1_i32_1633
  let c2_i32_1634 : BitVec 32 := 2#32
  let c0_i32_1635 : BitVec 32 := 0#32
  let v2212 : BitVec 1 := Scalar.cmpi .eq c2_i32_1634 c0_i32_1635
  let c1_i32_1636 : BitVec 32 := 1#32
  let v2213 : BitVec 32 := Scalar.select v2212 c1_i32_1636 c2_i32_1634
  let v2214 : BitVec 32 := Scalar.remsi v2211 v2213
  let c0_i32_1638 : BitVec 32 := 0#32
  let v2216 : BitVec 1 := Scalar.cmpi .slt v2214 c0_i32_1638
  let c0_i32_1639 : BitVec 32 := 0#32
  let v2217 : BitVec 1 := Scalar.cmpi .slt v2213 c0_i32_1639
  let v2218 : BitVec 1 := Scalar.xori v2216 v2217
  let c0_i32_1637 : BitVec 32 := 0#32
  let v2215 : BitVec 1 := Scalar.cmpi .ne v2214 c0_i32_1637
  let v2219 : BitVec 1 := Scalar.andi v2218 v2215
  let v2220 : BitVec 32 := Scalar.addi v2214 v2213
  let v2221 : BitVec 32 := Scalar.select v2219 v2220 v2214
  let v2222 : BitVec 32 := Scalar.subi c0_i32_1640 v2221
  let c0_i32_1641 : BitVec 32 := 0#32
  let v2223 : BitVec 1 := Scalar.cmpi .slt v2222 c0_i32_1641
  let c16_i32_1642 : BitVec 32 := 16#32
  let v2224 : BitVec 32 := Scalar.select v2223 c16_i32_1642 v2222
  let c15_i32_1643 : BitVec 32 := 15#32
  let v2225 : BitVec 32 := Scalar.minsi v2224 c15_i32_1643
  let c512_i32_1644 : BitVec 32 := 512#32
  let v2226 : BitVec 32 := Scalar.muli v2225 c512_i32_1644
  v2226
def k0_off61 (i : grid0.Coords) : Fin 2 → Nat :=
  let c0_i32_1640 : BitVec 32 := 0#32
  let arg2 : BitVec 32 := BitVec.ofNat 32 (i 2).val
  let c1_i32_1633 : BitVec 32 := 1#32
  let v2211 : BitVec 32 := Scalar.addi arg2 c1_i32_1633
  let c2_i32_1634 : BitVec 32 := 2#32
  let c0_i32_1635 : BitVec 32 := 0#32
  let v2212 : BitVec 1 := Scalar.cmpi .eq c2_i32_1634 c0_i32_1635
  let c1_i32_1636 : BitVec 32 := 1#32
  let v2213 : BitVec 32 := Scalar.select v2212 c1_i32_1636 c2_i32_1634
  let v2214 : BitVec 32 := Scalar.remsi v2211 v2213
  let c0_i32_1638 : BitVec 32 := 0#32
  let v2216 : BitVec 1 := Scalar.cmpi .slt v2214 c0_i32_1638
  let c0_i32_1639 : BitVec 32 := 0#32
  let v2217 : BitVec 1 := Scalar.cmpi .slt v2213 c0_i32_1639
  let v2218 : BitVec 1 := Scalar.xori v2216 v2217
  let c0_i32_1637 : BitVec 32 := 0#32
  let v2215 : BitVec 1 := Scalar.cmpi .ne v2214 c0_i32_1637
  let v2219 : BitVec 1 := Scalar.andi v2218 v2215
  let v2220 : BitVec 32 := Scalar.addi v2214 v2213
  let v2221 : BitVec 32 := Scalar.select v2219 v2220 v2214
  let v2222 : BitVec 32 := Scalar.subi c0_i32_1640 v2221
  let c0_i32_1641 : BitVec 32 := 0#32
  let v2223 : BitVec 1 := Scalar.cmpi .slt v2222 c0_i32_1641
  let c16_i32_1642 : BitVec 32 := 16#32
  let v2224 : BitVec 32 := Scalar.select v2223 c16_i32_1642 v2222
  let c15_i32_1643 : BitVec 32 := 15#32
  let v2225 : BitVec 32 := Scalar.minsi v2224 c15_i32_1643
  let c512_i32_1644 : BitVec 32 := 512#32
  let v2226 : BitVec 32 := Scalar.muli v2225 c512_i32_1644
  let v2227 : BitVec 32 := v2226
  let v2228 : Index := Scalar.indexCast v2227
  let c256_1645 : Index := 256#32
  ![v2228.toNat, 256]
def k0_off62 (i : grid0.Coords) : Fin 4 → Nat :=
  let c3_2108 : Index := 3#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let c1_i32_2099 : BitVec 32 := 1#32
  let v2784 : BitVec 32 := Scalar.subi v25 c1_i32_2099
  let v2791 : BitVec 32 := Scalar.subi v2784 v12
  let c0_i32_2106 : BitVec 32 := 0#32
  let v2792 : BitVec 1 := Scalar.cmpi .slt v2791 c0_i32_2106
  let c16_i32_2107 : BitVec 32 := 16#32
  let v2793 : BitVec 32 := Scalar.select v2792 c16_i32_2107 v2791
  let v2794 : Index := Scalar.indexCast v2793
  let c0_2109 : Index := 0#32
  let c0_2110 : Index := 0#32
  ![3, v2794.toNat, 0, 0]
def k0_off63 (i : grid0.Coords) : Fin 4 → Nat :=
  let c3_2126 : Index := 3#32
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : BitVec 32 := Scalar.addi arg2 v12
  let v2810 : BitVec 32 := Scalar.subi v25 v12
  let c0_i32_2124 : BitVec 32 := 0#32
  let v2811 : BitVec 1 := Scalar.cmpi .slt v2810 c0_i32_2124
  let c16_i32_2125 : BitVec 32 := 16#32
  let v2812 : BitVec 32 := Scalar.select v2811 c16_i32_2125 v2810
  let v2813 : Index := Scalar.indexCast v2812
  let c0_2127 : Index := 0#32
  let c0_2128 : Index := 0#32
  ![3, v2813.toNat, 0, 0]
def k0_mult11 (i : grid0.Coords) : BitVec 32 :=
  let c0_i32_2143 : BitVec 32 := 0#32
  let arg2 : BitVec 32 := BitVec.ofNat 32 (i 2).val
  let c1_i32_2136 : BitVec 32 := 1#32
  let v2823 : BitVec 32 := Scalar.addi arg2 c1_i32_2136
  let c2_i32_2137 : BitVec 32 := 2#32
  let c0_i32_2138 : BitVec 32 := 0#32
  let v2824 : BitVec 1 := Scalar.cmpi .eq c2_i32_2137 c0_i32_2138
  let c1_i32_2139 : BitVec 32 := 1#32
  let v2825 : BitVec 32 := Scalar.select v2824 c1_i32_2139 c2_i32_2137
  let v2826 : BitVec 32 := Scalar.remsi v2823 v2825
  let c0_i32_2141 : BitVec 32 := 0#32
  let v2828 : BitVec 1 := Scalar.cmpi .slt v2826 c0_i32_2141
  let c0_i32_2142 : BitVec 32 := 0#32
  let v2829 : BitVec 1 := Scalar.cmpi .slt v2825 c0_i32_2142
  let v2830 : BitVec 1 := Scalar.xori v2828 v2829
  let c0_i32_2140 : BitVec 32 := 0#32
  let v2827 : BitVec 1 := Scalar.cmpi .ne v2826 c0_i32_2140
  let v2831 : BitVec 1 := Scalar.andi v2830 v2827
  let v2832 : BitVec 32 := Scalar.addi v2826 v2825
  let v2833 : BitVec 32 := Scalar.select v2831 v2832 v2826
  let v2834 : BitVec 32 := Scalar.subi c0_i32_2143 v2833
  let c0_i32_2144 : BitVec 32 := 0#32
  let v2835 : BitVec 1 := Scalar.cmpi .slt v2834 c0_i32_2144
  let c16_i32_2145 : BitVec 32 := 16#32
  let v2836 : BitVec 32 := Scalar.select v2835 c16_i32_2145 v2834
  let c15_i32_2146 : BitVec 32 := 15#32
  let v2837 : BitVec 32 := Scalar.minsi v2836 c15_i32_2146
  let c512_i32_2147 : BitVec 32 := 512#32
  let v2838 : BitVec 32 := Scalar.muli v2837 c512_i32_2147
  v2838
def k0_off64 (i : grid0.Coords) : Fin 2 → Nat :=
  let c0_i32_2143 : BitVec 32 := 0#32
  let arg2 : BitVec 32 := BitVec.ofNat 32 (i 2).val
  let c1_i32_2136 : BitVec 32 := 1#32
  let v2823 : BitVec 32 := Scalar.addi arg2 c1_i32_2136
  let c2_i32_2137 : BitVec 32 := 2#32
  let c0_i32_2138 : BitVec 32 := 0#32
  let v2824 : BitVec 1 := Scalar.cmpi .eq c2_i32_2137 c0_i32_2138
  let c1_i32_2139 : BitVec 32 := 1#32
  let v2825 : BitVec 32 := Scalar.select v2824 c1_i32_2139 c2_i32_2137
  let v2826 : BitVec 32 := Scalar.remsi v2823 v2825
  let c0_i32_2141 : BitVec 32 := 0#32
  let v2828 : BitVec 1 := Scalar.cmpi .slt v2826 c0_i32_2141
  let c0_i32_2142 : BitVec 32 := 0#32
  let v2829 : BitVec 1 := Scalar.cmpi .slt v2825 c0_i32_2142
  let v2830 : BitVec 1 := Scalar.xori v2828 v2829
  let c0_i32_2140 : BitVec 32 := 0#32
  let v2827 : BitVec 1 := Scalar.cmpi .ne v2826 c0_i32_2140
  let v2831 : BitVec 1 := Scalar.andi v2830 v2827
  let v2832 : BitVec 32 := Scalar.addi v2826 v2825
  let v2833 : BitVec 32 := Scalar.select v2831 v2832 v2826
  let v2834 : BitVec 32 := Scalar.subi c0_i32_2143 v2833
  let c0_i32_2144 : BitVec 32 := 0#32
  let v2835 : BitVec 1 := Scalar.cmpi .slt v2834 c0_i32_2144
  let c16_i32_2145 : BitVec 32 := 16#32
  let v2836 : BitVec 32 := Scalar.select v2835 c16_i32_2145 v2834
  let c15_i32_2146 : BitVec 32 := 15#32
  let v2837 : BitVec 32 := Scalar.minsi v2836 c15_i32_2146
  let c512_i32_2147 : BitVec 32 := 512#32
  let v2838 : BitVec 32 := Scalar.muli v2837 c512_i32_2147
  let v2839 : BitVec 32 := v2838
  let v2840 : Index := Scalar.indexCast v2839
  let c384_2148 : Index := 384#32
  ![v2840.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c8_i32 : BitVec 32 := 8#32
  let v1 : BitVec 32 := Scalar.addi c8_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.addi arg2 c1_i32
  let c15_i32 : BitVec 32 := 15#32
  let v2 : BitVec 32 := Scalar.minsi v1 c15_i32
  let v3 : BitVec 32 := Scalar.addi v0 v2
  let c8_i32 : BitVec 32 := 8#32
  let v4 : BitVec 32 := Scalar.addi c8_i32 arg1
  let c0_i32 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Proof.PoolValue.lean ====
/-
  The multi-scale pooling mixer: what its pipelined kernel leaves in the result array at `Ideal`. A step keeps the rows of its block
  below a halo of the 32 rows before it, sums each column group over its trailing window by doubling, and mixes each group by its matrix.
-/
module

public import proofs.«01_k».proof.Defs
public import proofs.«01_k».proof.Proof.Gen.PoolIdeal.Value
public import proofs.«01_k».proof.Proof.Gen.PoolRefIdeal.Read
public import proofs.«01_k».proof.Proof.Gen.Pool.Frame
public import Idealize.ShloMosaic.Lib.Pipeline.Value
public import Idealize.ShloMosaic.Lib.Pointwise
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PoolIdeal.Pooled

open Cert.PoolIdeal Cert.PoolIdeal.Gen

/-- The rows a step sees: the 32 rows before its block, then its block. -/
def hist (X : Vec Ideal S512x2048 .bf16) (P : Fin 32 → Fin 2048 → EReal) (r c : ℕ) : EReal :=
  if hc : c < 2048 then
    if h : r < 32 then P ⟨r, h⟩ ⟨c, hc⟩
    else if h' : r < 544 then X (ix2 ⟨r - 32, by omega⟩ ⟨c, hc⟩) else 0
  else 0

/-- The history as the step's first scratch array. -/
def histV (X : Vec Ideal S512x2048 .bf16) (P : Fin 32 → Fin 2048 → EReal) : Vec Ideal S544x2048 .f32 :=
  fun y => (hist X P (y 0).val (y 1).val : EReal)

/-- Sums over trailing windows by doubling, in the column group that begins at `c0`. -/
def lev (h : ℕ → ℕ → EReal) (c0 : ℕ) : ℕ → ℕ → ℕ → EReal
  | 0, r, c => h r (c0 + c)
  | k + 1, r, c => lev h c0 k r c + lev h c0 k (r - 2 ^ k) c

/-- How many rows of the trailing window of `2 ^ k` rows exist at row `t`. -/
def cnt (k t : ℕ) : EReal := (((min (t + 1) (2 ^ k) : ℕ) : ℝ) : EReal)

/-- A column group of a step's result: the group's window means less its own rows, mixed by the group's matrix, scaled and gated. -/
def grp (h : ℕ → ℕ → EReal) (ti : ℕ) (W : Vec Ideal S4x512x512 .bf16) (sc : Vec Ideal S1x2048 .f32) (sg : Vec Ideal S512x2048 .bf16)
    (g : ℕ) (hg : g < 4) (r c : Fin 512) : EReal :=
  (∑ k : Fin 512, (Ideal.div (lev h (512 * g) (g + 1) (32 + r.val) k.val) (cnt (g + 1) (512 * ti + r.val))
      - lev h (512 * g) 0 (32 + r.val) k.val) * W (ix3 ⟨g, hg⟩ k c))
    * sc (ix2 0 ⟨512 * g + c.val, by omega⟩) * sg (ix2 r ⟨512 * g + c.val, by omega⟩)

/-- A step's result block, from its history, its place in the sequence, the matrices, the scales and the gates. -/
def outBlock (h : ℕ → ℕ → EReal) (ti : ℕ) (W : Vec Ideal S4x512x512 .bf16) (sc : Vec Ideal S1x2048 .f32) (sg : Vec Ideal S512x2048 .bf16) :
    Vec Ideal S512x2048 .bf16 := fun y =>
  (grp h ti W sc sg ((y 1).val / 512) (by have h : (y 1).val < 2048 := (y 1).isLt; omega) (y 0) ⟨(y 1).val % 512, Nat.mod_lt _ (by decide)⟩ : EReal)

/-- The first scratch array after a step's two writes. -/
theorem canon_hist (X : Vec Ideal S512x2048 .bf16) (Q : Vec Ideal S32x2048 .f32) (i1 i2) :
    View.canon (Val := Elt Ideal) (s := S544x2048) (e := .f32) [⟨Rect.unit ![32, 0] ![512, 2048] i1, k0_pay5 X⟩,
        ⟨Rect.unit ![0, 0] ![32, 2048] i2, Q⟩] = histV X (fun r c => Q (ix2 r c)) := by
  funext y
  have y0 : (y 0).val < 544 := (y 0).isLt
  have y1 : (y 1).val < 2048 := (y 1).isLt
  refine View.canon_apply_of_pieces (histV X (fun r c => Q (ix2 r c))) _ ?_ y ?_
  · simp only [List.forall_mem_cons, List.not_mem_nil, false_imp_iff, implies_true, and_true]
    refine ⟨fun x => ?_, fun x => ?_⟩
    · unfold_payloads
      pointwise
      have x0 : (x 0).val < 512 := (x 0).isLt
      have x1 : (x 1).val < 2048 := (x 1).isLt
      unfold histV hist
      rw [ValueKit.rect_emb_unit_val, ValueKit.rect_emb_unit_val]
      have e0 : (![32, 0] : Fin 2 → ℕ) 0 = 32 := rfl
      have e1 : (![32, 0] : Fin 2 → ℕ) 1 = 0 := rfl
      rw [e0, e1, dif_pos (by omega), dif_neg (by omega), dif_pos (by omega)]
      refine congrArg X ?_
      blk_ext
    · have x0 : (x 0).val < 32 := (x 0).isLt
      have x1 : (x 1).val < 2048 := (x 1).isLt
      unfold histV hist
      rw [ValueKit.rect_emb_unit_val, ValueKit.rect_emb_unit_val]
      have e0 : (![0, 0] : Fin 2 → ℕ) 0 = 0 := rfl
      have e1 : (![0, 0] : Fin 2 → ℕ) 1 = 0 := rfl
      rw [e0, e1, dif_pos (by omega), dif_pos (by omega)]
      refine congrArg Q ?_
      blk_ext
  · by_cases hr : (y 0).val < 32
    · refine ⟨⟨Rect.unit ![0, 0] ![32, 2048] i2, Q⟩, List.mem_cons_of_mem _ (List.mem_singleton.mpr rfl), ?_⟩
      show y ∈ (Rect.unit (s := S544x2048) ![0, 0] ![32, 2048] i2).set
      rw [Rect.mem_set_unit]
      exact Fin.forall_fin_two.mpr ⟨⟨Nat.zero_le _, by show _ < 0 + 32; omega⟩, ⟨Nat.zero_le _, by show _ < 0 + 2048; omega⟩⟩
    · refine ⟨⟨Rect.unit ![32, 0] ![512, 2048] i1, k0_pay5 X⟩, List.mem_cons_self, ?_⟩
      show y ∈ (Rect.unit (s := S544x2048) ![32, 0] ![512, 2048] i1).set
      rw [Rect.mem_set_unit]
      exact Fin.forall_fin_two.mpr ⟨⟨by show 32 ≤ _; omega, by show _ < 32 + 512; omega⟩, ⟨Nat.zero_le _, by show _ < 0 + 2048; omega⟩⟩

/-- A block of window sums: `n` rows from row `p` of the column group that begins at `q`. -/
def levV (n : ℕ) (h : ℕ → ℕ → EReal) (q k p : ℕ) : Vec Ideal ⟨2, ![n, 512]⟩ .f32 := fun j => (lev h q k (p + (j 0).val) (j 1).val : EReal)

/-- The history buffer read back after its two stores: the carried rows below, the block's rows above. -/
theorem hist_read (v : View sig .tc .vmem S544x2048 .f32) (X : Vec Ideal S512x2048 .bf16) (Q : Vec Ideal S32x2048 .f32) (p q n : ℕ) (inb i1 i2) :
    v.readCov (Val := Elt Ideal) [⟨Rect.unit ![32, 0] ![512, 2048] i1, k0_pay5 X⟩,
        ⟨Rect.unit ![0, 0] ![32, 2048] i2, Q⟩] (Rect.unit (s := S544x2048) ![p, q] ![n, 512] inb).toLoadRect
      = levV n (hist X (fun r c => Q (ix2 r c))) q 0 p := by
  rw [View.readCov_eq_canon', canon_hist]
  funext j
  unfold histV levV lev
  rw [Rect.idx_unit_val, Rect.idx_unit_val]
  rfl

/-- A read of rows that were stored as a level's rows gives that level. -/
theorem lev_read (v : View sig .tc .vmem S544x512 .f32) (h : ℕ → ℕ → EReal) (q k lo n p n' : ℕ) (inb inb') (L : List (View.Piece (Elt Ideal) S544x512 .f32)) (hlo : lo ≤ p) (hn : p + n' ≤ lo + n) :
    v.readCov (Val := Elt Ideal) (⟨Rect.unit ![lo, 0] ![n, 512] inb, levV n h q k lo⟩ :: L) (Rect.unit (s := S544x512) ![p, 0] ![n', 512] inb').toLoadRect
      = levV n' h q k p := by
  rw [View.readCov_eq_canon']
  funext j
  have j0 : (j 0).val < n' := (j 0).isLt
  have j1 : (j 1).val < 512 := (j 1).isLt
  have e : (Rect.unit (s := S544x512) ![p, 0] ![n', 512] inb').toLoadRect.idx j
      = (Rect.unit (s := S544x512) ![lo, 0] ![n, 512] inb).emb (Fin.cons ⟨p - lo + (j 0).val, by show _ < n; omega⟩ (Fin.cons ⟨(j 1).val, j1⟩ finZeroElim)) := by
    funext a
    apply Fin.ext
    rw [Rect.idx_unit_val, ValueKit.rect_emb_unit_val]
    match a with
    | ⟨0, _⟩ => show p + (j 0).val = lo + (p - lo + (j 0).val); omega
    | ⟨1, _⟩ => rfl
  rw [e, View.canon_cons_emb]
  show lev h q k (lo + (p - lo + (j 0).val)) (j 1).val = lev h q k (p + (j 0).val) (j 1).val
  rw [show lo + (p - lo + (j 0).val) = p + (j 0).val by omega]

/-- The number of rows of a window counted in 32-bit integers is the number of rows. -/
theorem count_nat (p k : ℕ) (hp : p < 8192) (hk : k ≤ 4) (w : BitVec 32) (hw : w = BitVec.ofNat 32 (2 ^ k)) :
    (FloatOps.sitofp .f32 (IntOp.minsi (BitVec.ofNat 32 (p + 1)) w) : Ideal .f32) = cnt k p := by
  have hp : 2 ^ k ≤ 16 := (Nat.pow_le_pow_right (by decide) hk : 2 ^ k ≤ 2 ^ 4)
  have i1 : (BitVec.ofNat 32 (p + 1)).toInt = ((p + 1 : ℕ) : ℤ) := by
    rw [BitVec.toInt_eq_toNat_of_lt] <;> rw [BitVec.toNat_ofNat] <;> omega
  have i2 : w.toInt = ((2 ^ k : ℕ) : ℤ) := by
    rw [hw, BitVec.toInt_eq_toNat_of_lt] <;> rw [BitVec.toNat_ofNat, Nat.mod_eq_of_lt (by omega)]; omega
  show (((IntOp.minsi (BitVec.ofNat 32 (p + 1)) w).toInt : ℝ) : EReal) = _
  unfold cnt IntOp.minsi
  refine congrArg _ ?_
  by_cases hlt : (BitVec.ofNat 32 (p + 1)).slt w = true
  · rw [if_pos hlt, i1]
    rw [BitVec.slt, decide_eq_true_eq, i1, i2] at hlt
    rw [Nat.min_eq_left (by omega)]
    norm_cast
  · rw [if_neg hlt, i2]
    rw [BitVec.slt, decide_eq_true_eq, i1, i2] at hlt
    rw [Nat.min_eq_right (by omega)]
    norm_cast

/-- The same at a row of a step's block. -/
theorem count_at (a r k : ℕ) (ha : a < 16) (hr : r < 512) (hk : k ≤ 4) (w : BitVec 32) (hw : w = BitVec.ofNat 32 (2 ^ k)) :
    (FloatOps.sitofp .f32 (IntOp.minsi (IntOp.addi (IntOp.addi (Scalar.muli (BitVec.ofNat 32 a) 512#32) (BitVec.ofNat 32 r)) 1#32) w) : Ideal .f32)
      = cnt k (512 * a + r) := by
  have e : IntOp.addi (IntOp.addi (Scalar.muli (BitVec.ofNat 32 a) 512#32) (BitVec.ofNat 32 r)) 1#32 = BitVec.ofNat 32 (512 * a + r + 1) := by
    show BitVec.ofNat 32 a * 512#32 + BitVec.ofNat 32 r + 1#32 = _
    apply BitVec.eq_of_toNat_eq
    simp only [BitVec.toNat_add, BitVec.toNat_mul, BitVec.toNat_ofNat]
    omega
  rw [e]
  exact count_nat _ _ (by omega) hk w hw

/-- The second group's first doubling step: sums of two rows. -/
theorem pay9_eq (h : ℕ → ℕ → EReal) (q : ℕ) :
    k0_pay9 (F := Ideal) (levV 536 h q 0 8) (levV 536 h q 0 7)
      = levV 536 h q 1 8 := by
  funext j
  unfold_payloads
  pointwise
  unfold levV
  exact congrArg (fun p => lev h q 0 (8 + (j 0).val) (j 1).val + lev h q 0 p (j 1).val) (by show _ = 8 + (j 0).val - 1; omega)

/-- The third group's first doubling step. -/
theorem pay13_eq (h : ℕ → ℕ → EReal) (q : ℕ) :
    k0_pay13 (F := Ideal) (levV 536 h q 0 8) (levV 536 h q 0 7)
      = levV 536 h q 1 8 := pay9_eq h q

/-- The fourth group's first doubling step. -/
theorem pay17_eq (h : ℕ → ℕ → EReal) (q : ℕ) :
    k0_pay17 (F := Ideal) (levV 536 h q 0 8) (levV 536 h q 0 7)
      = levV 536 h q 1 8 := pay9_eq h q

/-- The third group's second doubling step: sums of four rows. -/
theorem pay14_eq (h : ℕ → ℕ → EReal) (q : ℕ) :
    k0_pay14 (F := Ideal) (levV 528 h q 1 16) (levV 528 h q 1 14)
      = levV 528 h q 2 16 := by
  funext j
  unfold_payloads
  pointwise
  unfold levV
  exact congrArg (fun p => lev h q 1 (16 + (j 0).val) (j 1).val + lev h q 1 p (j 1).val) (by show _ = 16 + (j 0).val - 2; omega)

/-- The fourth group's second doubling step. -/
theorem pay18_eq (h : ℕ → ℕ → EReal) (q : ℕ) :
    k0_pay18 (F := Ideal) (levV 528 h q 1 16) (levV 528 h q 1 14)
      = levV 528 h q 2 16 := pay14_eq h q

/-- The fourth group's third doubling step: sums of eight rows. -/
theorem pay1_eq (h : ℕ → ℕ → EReal) (q : ℕ) :
    k0_pay1 (F := Ideal) (k0_pay19 (levV 520 h q 2 24) (levV 520 h q 2 20))
      = levV 520 h q 3 24 := by
  funext j
  unfold_payloads
  pointwise
  unfold levV
  exact congrArg (fun p => lev h q 2 (24 + (j 0).val) (j 1).val + lev h q 2 p (j 1).val) (by show _ = 24 + (j 0).val - 4; omega)

/-- Two rows of one level, the window's length apart, sum to the next level's row. -/
theorem lev_step (h : ℕ → ℕ → EReal) (q k a b r c : ℕ) (ha : a = r) (hb : b = r - 2 ^ k) :
    lev h q k a c + lev h q k b c = lev h q (k + 1) r c := by
  subst ha hb; rfl

/-- Column group 0 of a step's result. -/
theorem group0 (h : ℕ → ℕ → EReal) (i : grid0.Coords) (W : Vec Ideal S4x512x512 .bf16) (sc : Vec Ideal S1x2048 .f32) (sg : Vec Ideal S512x2048 .bf16) (i1 i2 i3) :
    k0_pay8 (F := Ideal) (k0_pay7 i (levV 512 h 0 0 32) (levV 536 h 0 0 8) (levV 536 h 0 0 7) (View.ld W (Rect.unit ![0, 0, 0] ![1, 512, 512] i1)))
        (View.ld sc (Rect.unit ![0, 0] ![1, 512] i2)) (View.ld sg (Rect.unit ![0, 0] ![512, 512] i3))
      = fun x => (grp h (i 1).val W sc sg 0 (by decide) (x 0) (x 1) : EReal) := by
  funext x
  unfold_payloads
  pointwise
  unfold grp
  refine congrArg₂ (· * ·) (congrArg₂ (· * ·) (Finset.sum_congr rfl fun k _ => ?_) (congrArg sc ?_)) (congrArg sg ?_)
  · refine congrArg₂ (· * ·) (congrArg₂ (· - ·) (congrArg₂ Ideal.div ?_ (count_at (i 1).val (x 0).val 1 (i 1).isLt (x 0).isLt (by decide) _ rfl)) rfl) rfl
    exact lev_step h 0 0 _ _ _ k.val (by show 8 + (24 + (x 0).val) = _; omega) (by show 7 + (24 + (x 0).val) = 32 + (x 0).val - 1; omega)
  · blk_ext
  · blk_ext

/-- Column group 1 of a step's result. -/
theorem group1 (h : ℕ → ℕ → EReal) (i : grid0.Coords) (W : Vec Ideal S4x512x512 .bf16) (sc : Vec Ideal S1x2048 .f32) (sg : Vec Ideal S512x2048 .bf16) (i1 i2 i3) :
    k0_pay12 (F := Ideal) (k0_pay10 (k0_pay6 i) (levV 512 h 512 0 32) (levV 528 h 512 1 16) (levV 528 h 512 1 14) (View.ld W (Rect.unit ![1, 0, 0] ![1, 512, 512] i1)))
        (k0_pay11 (View.ld sc (Rect.unit ![0, 512] ![1, 512] i2))) (View.ld sg (Rect.unit ![0, 512] ![512, 512] i3))
      = fun x => (grp h (i 1).val W sc sg 1 (by decide) (x 0) (x 1) : EReal) := by
  funext x
  unfold_payloads
  pointwise
  unfold grp
  refine congrArg₂ (· * ·) (congrArg₂ (· * ·) (Finset.sum_congr rfl fun k _ => ?_) (congrArg sc ?_)) (congrArg sg ?_)
  · refine congrArg₂ (· * ·) (congrArg₂ (· - ·) (congrArg₂ Ideal.div ?_ (count_at (i 1).val (x 0).val 2 (i 1).isLt (x 0).isLt (by decide) _ rfl)) rfl) rfl
    exact lev_step h 512 1 _ _ _ k.val (by show 16 + (16 + (x 0).val) = _; omega) (by show 14 + (16 + (x 0).val) = 32 + (x 0).val - 2; omega)
  · blk_ext
  · blk_ext

/-- Column group 2 of a step's result. -/
theorem group2 (h : ℕ → ℕ → EReal) (i : grid0.Coords) (W : Vec Ideal S4x512x512 .bf16) (sc : Vec Ideal S1x2048 .f32) (sg : Vec Ideal S512x2048 .bf16) (i1 i2 i3) :
    k0_pay16 (F := Ideal) (k0_pay15 (k0_pay6 i) (levV 512 h 1024 0 32) (levV 520 h 1024 2 24) (levV 520 h 1024 2 20)) (View.ld W (Rect.unit ![2, 0, 0] ![1, 512, 512] i1))
        (View.ld sc (Rect.unit ![0, 1024] ![1, 512] i2)) (View.ld sg (Rect.unit ![0, 1024] ![512, 512] i3))
      = fun x => (grp h (i 1).val W sc sg 2 (by decide) (x 0) (x 1) : EReal) := by
  funext x
  unfold_payloads
  pointwise
  unfold grp
  refine congrArg₂ (· * ·) (congrArg₂ (· * ·) (Finset.sum_congr rfl fun k _ => ?_) (congrArg sc ?_)) (congrArg sg ?_)
  · refine congrArg₂ (· * ·) (congrArg₂ (· - ·) (congrArg₂ Ideal.div ?_ (count_at (i 1).val (x 0).val 3 (i 1).isLt (x 0).isLt (by decide) _ rfl)) rfl) rfl
    exact lev_step h 1024 2 _ _ _ k.val (by show 24 + (8 + (x 0).val) = _; omega) (by show 20 + (8 + (x 0).val) = 32 + (x 0).val - 4; omega)
  · blk_ext
  · blk_ext

/-- Column group 3 of a step's result. -/
theorem group3 (h : ℕ → ℕ → EReal) (i : grid0.Coords) (W : Vec Ideal S4x512x512 .bf16) (sc : Vec Ideal S1x2048 .f32) (sg : Vec Ideal S512x2048 .bf16) (i1 i2 i3) :
    k0_pay2 (F := Ideal) (k0_pay6 i) (levV 512 h 1536 0 32) (levV 512 h 1536 3 32) (levV 512 h 1536 3 24) (View.ld W (Rect.unit ![3, 0, 0] ![1, 512, 512] i1))
        (View.ld sc (Rect.unit ![0, 1536] ![1, 512] i2)) (View.ld sg (Rect.unit ![0, 1536] ![512, 512] i3))
      = fun x => (grp h (i 1).val W sc sg 3 (by decide) (x 0) (x 1) : EReal) := by
  funext x
  unfold_payloads
  pointwise
  unfold grp
  refine congrArg₂ (· * ·) (congrArg₂ (· * ·) (Finset.sum_congr rfl fun k _ => ?_) (congrArg sc ?_)) (congrArg sg ?_)
  · refine congrArg₂ (· * ·) (congrArg₂ (· - ·) (congrArg₂ Ideal.div ?_ (count_at (i 1).val (x 0).val 4 (i 1).isLt (x 0).isLt (by decide) _ rfl)) rfl) rfl
    exact lev_step h 1536 3 _ _ _ k.val (by show 32 + (x 0).val = _; omega) (by show 24 + (x 0).val = 32 + (x 0).val - 8; omega)
  · blk_ext
  · blk_ext

/-- A step's result block from its four column groups. -/
theorem out_pieces (h : ℕ → ℕ → EReal) (ti : ℕ) (W : Vec Ideal S4x512x512 .bf16) (sc : Vec Ideal S1x2048 .f32) (sg : Vec Ideal S512x2048 .bf16) (h0 h1 h2 h3 : _ < 4) (i0 i1 i2 i3) :
    View.canon (Val := Elt Ideal) (s := S512x2048) (e := .bf16)
      [⟨Rect.unit ![0, 1536] ![512, 512] i3, fun x => (grp h ti W sc sg 3 h3 (x 0) (x 1) : EReal)⟩,
        ⟨Rect.unit ![0, 1024] ![512, 512] i2, fun x => (grp h ti W sc sg 2 h2 (x 0) (x 1) : EReal)⟩,
        ⟨Rect.unit ![0, 512] ![512, 512] i1, fun x => (grp h ti W sc sg 1 h1 (x 0) (x 1) : EReal)⟩,
        ⟨Rect.unit ![0, 0] ![512, 512] i0, fun x => (grp h ti W sc sg 0 h0 (x 0) (x 1) : EReal)⟩]
      = outBlock h ti W sc sg := by
  funext y
  refine View.canon_apply_of_pieces (outBlock h ti W sc sg) _ ?_ y (View.cover_of_tiledL (s := S512x2048) _ ![512, 512] (by sl_kernel_rfl) y)
  have key : ∀ (g : ℕ) (hg : g < 4) (x : S512x512.Idx) (z : S512x2048.Idx) (_ : (z 0).val = (x 0).val) (_ : (z 1).val = 512 * g + (x 1).val),
      grp h ti W sc sg g hg (x 0) (x 1) = outBlock h ti W sc sg z := by
    intro g hg x z e0 e1
    have x1 : (x 1).val < 512 := (x 1).isLt
    have eg : (z 1).val / 512 = g := by omega
    have ec : (z 1).val % 512 = (x 1).val := by omega
    unfold outBlock
    subst eg
    exact congrArg₂ (grp h ti W sc sg ((z 1).val / 512) hg) (Fin.ext e0.symm) (Fin.ext ec.symm)
  simp only [List.forall_mem_cons, List.not_mem_nil, false_imp_iff, implies_true, and_true]
  refine ⟨?_, ?_, ?_, ?_⟩ <;> intro x <;> refine key _ _ x _ ?_ ?_ <;>
    first
      | exact (ValueKit.rect_emb_unit_val ..).trans (Nat.zero_add _)
      | exact ValueKit.rect_emb_unit_val ..

variable (m : (ℓ : Loc nD τ sig) → Buf (Elt Ideal) ℓ) (ρ : Dev nD → PrngReg)

/-- What a sequence's first step leaves in the history. -/
theorem hist_A (c : Dev nD) (t : Fin cfg0.N) (h0 : t.val % 16 = 0) (h1 : ¬1 ≤ t.val % 16) : (outsAt0 m c t.val t.isLt).2
     = histV (iblk m c 0 t) (fun r c => k0_pay3 (F := Ideal) (ix2 r c)) := by
  rw [outsAt0_A m c t h0 h1]
  frame_out
  exact canon_hist _ _ _ _

/-- What a sequence's first step writes. -/
theorem out_A (c : Dev nD) (t : Fin cfg0.N) (h0 : t.val % 16 = 0) (h1 : ¬1 ≤ t.val % 16) : (outsAt0 m c t.val t.isLt).1
     = outBlock (hist (iblk m c 0 t) (fun r c => k0_pay3 (F := Ideal) (ix2 r c))) (grid0.coords t 1).val (iblk m c 2 t) (iblk m c 3 t) (iblk m c 1 t) := by
  rw [outsAt0_A m c t h0 h1]
  frame_out
  generalize (iblk m c 0 t : Vec Ideal S512x2048 .bf16) = x0
  generalize (iblk m c 1 t : Vec Ideal S512x2048 .bf16) = x1
  generalize (iblk m c 2 t : Vec Ideal S4x512x512 .bf16) = x2
  generalize (iblk m c 3 t : Vec Ideal S1x2048 .f32) = x3
  simp only [hist_read]
  simp (discharger := decide) only [pay9_eq, pay13_eq, pay17_eq, lev_read]
  simp (discharger := decide) only [pay14_eq, pay18_eq, lev_read]
  simp (discharger := decide) only [pay1_eq, lev_read]
  rw [group0, group1, group2, group3]
  exact out_pieces _ _ _ _ _ _ _ _ _ _ _ _ _

/-- The last 32 rows of a step's history. -/
def tail (R : Vec Ideal S544x2048 .f32) : Vec Ideal S32x2048 .f32 := fun j => R (ix2 ⟨512 + (j 0).val, by have h : (j 0).val < 32 := (j 0).isLt; omega⟩ (j 1))

/-- The last rows of the history, as a later step carries them. -/
theorem tail_eq (h : (Memref.whole cc0_scratch0).IsWhole) (R : Vec Ideal S544x2048 .f32) (inb) :
    k0_pay4 (F := Ideal) (View.ld (View.read (Elt Ideal) (View.whole cc0_scratch0) (h.unread R)) (Rect.unit ![512, 0] ![32, 2048] inb)) = tail R := by
  have e : View.read (Elt Ideal) (View.whole cc0_scratch0) (h.unread R) = R := Memref.IsWhole.read_unread _ _
  rw [e]
  funext j
  unfold_payloads
  pointwise
  unfold tail
  refine congrArg R ?_
  blk_ext

/-- What a later step leaves in the history. -/
theorem hist_B (c : Dev nD) (t : Fin cfg0.N) (h0 : ¬t.val % 16 = 0) (h1 : 1 ≤ t.val % 16) : (outsAt0 m c t.val t.isLt).2
     = histV (iblk m c 0 t) (fun r c' => tail (outsAt0 m c (t.val - 1) (Nat.lt_of_le_of_lt (Nat.sub_le _ _) t.isLt)).2 (ix2 r c')) := by
  rw [outsAt0_B m c t h0 h1]
  frame_out
  rw [tail_eq]
  exact canon_hist _ _ _ _

/-- What a later step writes. -/
theorem out_B (c : Dev nD) (t : Fin cfg0.N) (h0 : ¬t.val % 16 = 0) (h1 : 1 ≤ t.val % 16) : (outsAt0 m c t.val t.isLt).1
     = outBlock (hist (iblk m c 0 t) (fun r c' => tail (outsAt0 m c (t.val - 1) (Nat.lt_of_le_of_lt (Nat.sub_le _ _) t.isLt)).2 (ix2 r c')))
        (grid0.coords t 1).val (iblk m c 2 t) (iblk m c 3 t) (iblk m c 1 t) := by
  rw [outsAt0_B m c t h0 h1]
  frame_out
  generalize (iblk m c 0 t : Vec Ideal S512x2048 .bf16) = x0
  generalize (iblk m c 1 t : Vec Ideal S512x2048 .bf16) = x1
  generalize (iblk m c 2 t : Vec Ideal S4x512x512 .bf16) = x2
  generalize (iblk m c 3 t : Vec Ideal S1x2048 .f32) = x3
  simp only [tail_eq]
  simp only [hist_read]
  simp (discharger := decide) only [pay9_eq, pay13_eq, pay17_eq, lev_read]
  simp (discharger := decide) only [pay14_eq, pay18_eq, lev_read]
  simp (discharger := decide) only [pay1_eq, lev_read]
  rw [group0, group1, group2, group3]
  exact out_pieces _ _ _ _ _ _ _ _ _ _ _ _ _

/-- The history a step begins with: nothing at the start of a sequence, the end of the block before otherwise. -/
theorem hist_any (c : Dev nD) (t : Fin cfg0.N) : ∃ P, (outsAt0 m c t.val t.isLt).2 = histV (iblk m c 0 t) P := by
  by_cases h0 : t.val % 16 = 0
  · exact ⟨_, hist_A m c t h0 (by omega)⟩
  · exact ⟨_, hist_B m c t h0 (by omega)⟩

/-- A sequence's rows below 32 rows of zeros. -/
def seq (z : Vec Ideal S16384x20480 .bf16) (b : ℕ) (p c : ℕ) : EReal :=
  if h : p < 32 then 0 else if h' : b < 2 ∧ p - 32 < 8192 ∧ c < 2048 then z (ix2 ⟨b * 8192 + (p - 32), by omega⟩ ⟨c, by omega⟩) else 0

/-- Where each window stands at a step. -/
theorem idx0 : ∀ t : Fin cfg0.N, win0_0.index t = ![(grid0.coords t 0).val * 16 + (grid0.coords t 1).val, 0] :=
  (by decide +kernel : ∀ t : Fin grid0.N, _)
/-- The gates' window. -/
theorem idx1 : ∀ t : Fin cfg0.N, win0_1.index t = ![(grid0.coords t 0).val * 16 + (grid0.coords t 1).val, 1] :=
  (by decide +kernel : ∀ t : Fin grid0.N, _)
/-- The weights' window. -/
theorem idx2 : ∀ t : Fin cfg0.N, win0_2.index t = ![0, 0, 0] :=
  (by decide +kernel : ∀ t : Fin grid0.N, _)
/-- The scales' window. -/
theorem idx3 : ∀ t : Fin cfg0.N, win0_3.index t = ![0, 0] :=
  (by decide +kernel : ∀ t : Fin grid0.N, _)
/-- The result's window. -/
theorem idx4 : ∀ t : Fin cfg0.N, win0_4.index t = ![(grid0.coords t 0).val * 16 + (grid0.coords t 1).val, 0] :=
  (by decide +kernel : ∀ t : Fin grid0.N, _)
/-- A step's sequence. -/
theorem coords0 : ∀ t : Fin cfg0.N, (grid0.coords t 0).val = t.val / 16 := (by decide +kernel : ∀ t : Fin grid0.N, _)
/-- A step's block within its sequence. -/
theorem coords1 : ∀ t : Fin cfg0.N, (grid0.coords t 1).val = t.val % 16 := (by decide +kernel : ∀ t : Fin grid0.N, _)

/-- A step's block of the first argument. -/
theorem block0 (c : Dev nD) (t : Fin cfg0.N) (y : S512x2048.Idx) (i : S16384x20480.Idx)
    (h0 : (i 0).val = t.val * 512 + (y 0).val) (h1 : (i 1).val = (y 1).val) : (iblk m c 0 t : Vec Ideal S512x2048 .bf16) y
    = m ((c : Thread nD τ).loc main_arg0) i := by
  blk_simp [iblk]
  rw [V_main_arg0]
  refine congrArg _ ?_
  have e0 := coords0 t
  have e1 := coords1 t
  blk_ext [idx0 t]

/-- The history's carried rows. -/
theorem hist_lo (X : Vec Ideal S512x2048 .bf16) (P : Fin 32 → Fin 2048 → EReal) (r c : ℕ) (hr : r < 32) (hc : c < 2048) :
    hist X P r c = P ⟨r, hr⟩ ⟨c, hc⟩ := by
  unfold hist
  rw [dif_pos hc, dif_pos hr]

/-- The history's rows of the block. -/
theorem hist_hi (X : Vec Ideal S512x2048 .bf16) (P : Fin 32 → Fin 2048 → EReal) (r c : ℕ) (hr : 32 ≤ r) (hr' : r < 544) (hc : c < 2048) :
    hist X P r c = X (ix2 ⟨r - 32, by omega⟩ ⟨c, hc⟩) := by
  unfold hist
  rw [dif_pos hc, dif_neg (by omega), dif_pos hr']

/-- A sequence's own rows. -/
theorem seq_hi (z : Vec Ideal S16384x20480 .bf16) (b p c : ℕ) (hb : b < 2) (hp : 32 ≤ p) (hp' : p < 8224) (hc : c < 2048) :
    seq z b p c = z (ix2 ⟨b * 8192 + (p - 32), by omega⟩ ⟨c, by omega⟩) := by
  unfold seq
  rw [dif_neg (by omega), dif_pos ⟨hb, by omega, hc⟩]

/-- The rows a step sees are its sequence's, from the 32 before its block. -/
theorem out_any (c : Dev nD) (t : Fin cfg0.N) : ∃ h : ℕ → ℕ → EReal,
    (outsAt0 m c t.val t.isLt).1 = outBlock h (grid0.coords t 1).val (iblk m c 2 t) (iblk m c 3 t) (iblk m c 1 t)
    ∧ ∀ r c', r < 544 → c' < 2048 → h r c' = seq (m ((c : Thread nD τ).loc main_arg0)) (t.val / 16) (512 * (t.val % 16) + r) c' := by
  have ht : t.val < 32 := t.isLt
  by_cases h0 : t.val % 16 = 0
  · refine ⟨_, out_A m c t h0 (by omega), fun r c' hr hc => ?_⟩
    by_cases hr' : r < 32
    · rw [hist_lo _ _ _ _ hr' hc]
      unfold seq
      rw [dif_pos (by omega)]
      unfold_payloads
      pointwise
    · rw [hist_hi _ _ _ _ (by omega) hr hc, seq_hi _ _ _ _ (by omega) (by omega) (by omega) hc]
      exact block0 m c t _ _ (by show t.val / 16 * 8192 + (512 * (t.val % 16) + r - 32) = t.val * 512 + (r - 32); omega) rfl
  · refine ⟨_, out_B m c t h0 (by omega), fun r c' hr hc => ?_⟩
    obtain ⟨P, hP⟩ := hist_any m c ⟨t.val - 1, Nat.lt_of_le_of_lt (Nat.sub_le _ _) t.isLt⟩
    rw [seq_hi _ _ _ _ (by omega) (by omega) (by omega) hc]
    by_cases hr' : r < 32
    · rw [hist_lo _ _ _ _ hr' hc]
      refine (congrFun hP _).trans ((hist_hi _ P (512 + r) c' (by omega) (by omega) hc).trans ?_)
      exact block0 m c _ _ _ (by show t.val / 16 * 8192 + (512 * (t.val % 16) + r - 32) = (t.val - 1) * 512 + (512 + r - 32); omega) rfl
    · rw [hist_hi _ _ _ _ (by omega) hr hc]
      exact block0 m c t _ _ (by show t.val / 16 * 8192 + (512 * (t.val % 16) + r - 32) = t.val * 512 + (r - 32); omega) rfl

/-- Window sums of rows that are another array's rows from an offset are that array's window sums. -/
theorem lev_congr (h s : ℕ → ℕ → EReal) (o q : ℕ) (hs : ∀ r c, r < 544 → c < 2048 → h r c = s (o + r) c) (c : ℕ) (hc : q + c < 2048) :
    ∀ k r, 2 ^ k ≤ r + 1 → r < 544 → lev h q k r c = lev s q k (o + r) c
  | 0, r, _, hr => hs r _ hr hc
  | k + 1, r, hk, hr => by
    have hp : 2 ^ (k + 1) = 2 ^ k + 2 ^ k := by rw [Nat.pow_succ]; omega
    have hpos : 0 < 2 ^ k := Nat.two_pow_pos k
    show lev h q k r c + lev h q k (r - 2 ^ k) c = lev s q k (o + r) c + lev s q k (o + r - 2 ^ k) c
    rw [lev_congr h s o q hs c hc k r (by omega) hr, lev_congr h s o q hs c hc k (r - 2 ^ k) (by omega) (by omega),
      show o + (r - 2 ^ k) = o + r - 2 ^ k by omega]

/-- The pooling mixer's result, what the result array is shown to hold: each column group's window sum over the rows there are, less the
row itself, mixed by the group's matrix, scaled and gated. -/
def pooled (z : Vec Ideal S16384x20480 .bf16) (W : Vec Ideal S4x512x512 .f32) (sc : Vec Ideal S2048 .f32) : Vec Ideal S16384x2048 .bf16 := fun y =>
  have h : (y 1).val < 2048 := (y 1).isLt
  ((∑ k : Fin 512, (Ideal.div (lev (seq z ((y 0).val / 8192)) (512 * ((y 1).val / 512)) ((y 1).val / 512 + 1) (32 + (y 0).val % 8192) k.val)
      (cnt ((y 1).val / 512 + 1) ((y 0).val % 8192))
      - lev (seq z ((y 0).val / 8192)) (512 * ((y 1).val / 512)) 0 (32 + (y 0).val % 8192) k.val)
        * W (ix3 ⟨(y 1).val / 512, by omega⟩ k ⟨(y 1).val % 512, Nat.mod_lt _ (by decide)⟩))
    * sc (ix1 (y 1)) * z (ix2 (y 0) ⟨2048 + (y 1).val, by omega⟩) : EReal)

/-- The matrices the kernel stages are the argument cast on the host. -/
theorem V0 (c : Dev nD) (i : S4x512x512.Idx) : (V m c main_v0 i : EReal) = m ((c : Thread nD τ).loc main_arg1) i := by
  unfold V; after_results; rfl

/-- The scales the kernel stages are the argument as one row. -/
theorem V1 (c : Dev nD) : V m c main_v1 = shapeCast S1x2048 (m ((c : Thread nD τ).loc main_arg2)) shapeCasts_S2048_S1x2048 := by
  unfold V; after_results; rfl

/-- A step's block of the pooling mixer's result, where what it reads is the arguments'. -/
theorem block_pooled {h : ℕ → ℕ → EReal} {ti o : ℕ} {W' : Vec Ideal S4x512x512 .bf16} {sc' : Vec Ideal S1x2048 .f32} {sg : Vec Ideal S512x2048 .bf16}
    {z : Vec Ideal S16384x20480 .bf16} {W : Vec Ideal S4x512x512 .f32} {sc : Vec Ideal S2048 .f32} {y : S512x2048.Idx} {i : S16384x2048.Idx}
    (h1 : (i 1).val = (y 1).val) (ho : o = 512 * ti) (hti : 512 * ti + (y 0).val = (i 0).val % 8192)
    (hs : ∀ r c, r < 544 → c < 2048 → h r c = seq z ((i 0).val / 8192) (o + r) c)
    (hW : ∀ j, (W' j : EReal) = W j) (hsc : sc' (ix2 0 (y 1)) = sc (ix1 (i 1)))
    (hsg : ∀ j : S16384x20480.Idx, (j 0).val = (i 0).val → (j 1).val = 2048 + (y 1).val → sg y = z j) :
    outBlock h ti W' sc' sg y = pooled z W sc i := by
  have y0 : (y 0).val < 512 := (y 0).isLt
  have y1 : (y 1).val < 2048 := (y 1).isLt
  subst ho
  have e : ∀ (g k : ℕ) (hg : g < 4) (hk : k < 512) (l : ℕ) (hl : l ≤ 4), lev h (512 * g) l (32 + (y 0).val) k
      = lev (seq z ((i 0).val / 8192)) (512 * g) l (32 + (i 0).val % 8192) k := by
    intro g k hg hk l hl
    have hp : 2 ^ l ≤ 16 := (Nat.pow_le_pow_right (by decide) hl : 2 ^ l ≤ 2 ^ 4)
    rw [lev_congr h (seq z ((i 0).val / 8192)) (512 * ti) (512 * g) hs k (by omega) l (32 + (y 0).val) (by omega) (by omega), ← hti]
    congr 1; omega
  unfold outBlock grp pooled
  refine congrArg₂ (· * ·) (congrArg₂ (· * ·) (Finset.sum_congr rfl fun k _ => ?_) ?_) ?_
  · rw [e _ _ (by omega) k.isLt _ (by omega), e _ _ (by omega) k.isLt _ (by omega), hti, hW]
    simp only [h1]
  · refine (congrArg sc' ?_).trans hsc
    blk_ext
  · refine (congrArg sg ?_).trans (hsg _ rfl ?_)
    · blk_ext
    · show 2048 + (i 1).val = _; omega

/-- The result array after the run is the pooling mixer's result. -/
theorem final (c : Dev nD) : (dats m 0 c).arrAt 4 cfg0.N
    = pooled (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨h, ho, hs⟩ := out_any m c t
  rw [ho]
  have ht : t.val < 32 := t.isLt
  have e0 := coords0 t
  have e1 := coords1 t
  have y0 : (y 0).val < 512 := (y 0).isLt
  have y1 : (y 1).val < 2048 := (y 1).isLt
  have i0 : ((win0_4.blk t).view.emb y 0).val = t.val * 512 + (y 0).val := by
    blk_simp [idx4 t]
    omega
  have i1 : ((win0_4.blk t).view.emb y 1).val = (y 1).val := by
    blk_simp [idx4 t]
  refine block_pooled (o := 512 * (t.val % 16)) i1 (by rw [e1]) (by rw [e1, i0]; omega) (by rw [i0, show (t.val * 512 + (y 0).val) / 8192 = t.val / 16 by omega]; exact hs) (fun j => ?_) ?_ (fun j h0 h1 => ?_)
  · blk_simp [iblk]
    rw [V0]
    refine congrArg _ ?_
    blk_ext [idx2 t]
  · blk_simp [iblk]
    rw [V1]
    pointwise
    refine congrArg _ ?_
    blk_ext [idx3 t, idx4 t]
  · blk_simp [iblk]
    rw [V_main_arg0]
    refine congrArg _ ?_
    rw [i0] at h0
    blk_ext [idx1 t]

end Cert.PoolIdeal.Pooled

end
-- ==== Proof.Logistic.lean ====
/-
  The logistic function in the kernels' spelling, one half of `tanh (v / 2)` plus one half, is `1 / (1 + exp (-v))` at
  every extended real.
-/
module

public import Idealize.ShloMosaic.PureOps.Ideal
public import Idealize.ShloMosaic.PureOps.Ideal.Laws
public import Idealize.ShloMosaic.Lib.IdealHost

@[expose] public section

noncomputable section

open Idealize.ShloMosaic

namespace Cert.Proof.Logistic

/-- The float 0.5. -/
theorem half : Ideal.ofBits .f32 0x3F000000#32 = (((1 : ℝ) / 2 : ℝ) : EReal) := by
  simp [Ideal.ofBits, Ideal.ieee, -EReal.coe_mul]
  norm_num

/-- One half of the hyperbolic tangent of the half, plus one half, over the reals. -/
theorem real (v : ℝ) : 1 / 2 * Real.tanh (1 / 2 * v) + 1 / 2 = (1 + Real.exp (-v))⁻¹ := by
  rw [Real.tanh_eq_sinh_div_cosh, Real.sinh_eq, Real.cosh_eq]
  have h : Real.exp (-v) = Real.exp (-(1 / 2 * v)) * Real.exp (-(1 / 2 * v)) := by
    rw [← Real.exp_add]; congr 1; ring
  have h1 : Real.exp (1 / 2 * v) * Real.exp (-(1 / 2 * v)) = 1 := by
    rw [← Real.exp_add]; simp
  have ha := Real.exp_pos (1 / 2 * v)
  have hb := Real.exp_pos (-(1 / 2 * v))
  rw [h]
  generalize Real.exp (1 / 2 * v) = a at *
  generalize Real.exp (-(1 / 2 * v)) = b at *
  field_simp
  nlinarith

/-- The same at every extended real. -/
theorem at_all (v : EReal) :
    Ideal.ofBits .f32 0x3F000000#32 * Ideal.tanh (Ideal.ofBits .f32 0x3F000000#32 * v) + Ideal.ofBits .f32 0x3F000000#32 = Ideal.logistic v := by
  rw [half]
  induction v with
  | bot =>
    rw [EReal.coe_mul_bot_of_pos (by norm_num), Ideal.tanh_bot, Ideal.logistic_bot, mul_neg, mul_one, ← EReal.coe_neg, ← EReal.coe_add]
    norm_num
  | coe v =>
    rw [← EReal.coe_mul, Ideal.tanh_coe, Ideal.logistic_coe, ← EReal.coe_mul, ← EReal.coe_add, real]
  | top =>
    rw [EReal.coe_mul_top_of_pos (by norm_num), Ideal.tanh_top, Ideal.logistic_top, mul_one, ← EReal.coe_add]
    norm_num

end Cert.Proof.Logistic

end
-- ==== Proof.InProjValue.lean ====
/-
  The input projection with its activations by column range, and the casts of four weights beside it: what its pipelined kernel
  leaves in the five result arrays at `Ideal`, and that the reference computes the same.
-/
module

public import proofs.«01_k».proof.Defs
public import proofs.«01_k».proof.Proof.Logistic
public import proofs.«01_k».proof.Proof.Gen.InProjIdeal.Value
public import proofs.«01_k».proof.Proof.Gen.InProjRefIdeal.Read
public import proofs.«01_k».proof.Proof.Gen.InProj.Frame
public import Idealize.ShloMosaic.Lib.Pipeline.Value
public import Idealize.ShloMosaic.Lib.Pointwise
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjIdeal.Projected

open Cert.InProjIdeal Cert.InProjIdeal.Gen

/-- The query's factor: one over the root of 128, over the logarithm of 2. -/
abbrev queryScale : EReal := (((Real.sqrt 128)⁻¹ * (Real.log 2)⁻¹ : ℝ) : EReal)

/-- The query factor that the kernel names denotes that real. -/
theorem queryScale_named : Named.named (F := Ideal) Cert.InProjIdeal.κ "query_scale" (φ := .f32) 0x3E0293EE#32 = queryScale :=
  IdealRules.named_const.ideal_named_scalar _ _ _ _ rfl

/-- One half of a value. -/
abbrev halved (v : EReal) : EReal := Ideal.ofBits .f32 0x3F000000#32 * v

/-- What the kernel does to a product in column tile `j`: nothing, or the query's factor, or the gate `v * sigmoid v`, or the sigmoid,
    the last two by the hyperbolic tangent of the half. -/
def act (j : Nat) (v : EReal) : EReal :=
  if 12 ≤ j then Ideal.ofBits .f32 0x3F000000#32 * Ideal.tanh (halved v) + Ideal.ofBits .f32 0x3F000000#32
  else if j = 2 ∨ j = 3 ∨ j = 10 ∨ j = 11 then halved v + halved v * Ideal.tanh (halved v)
  else if 4 ≤ j ∧ j ≤ 5 then v * queryScale
  else v

/-- A block's product with a function of each entry. -/
def block (f : EReal → EReal) (x : Vec Ideal S1024x4096 .bf16) (w : Vec Ideal S4096x1024 .bf16) : Vec Ideal S1024x1024 .bf16 :=
  fun y => (f (∑ k : Fin 4096, (x (ix2 (y 0) k) : EReal) * w (ix2 k (y 1)) : EReal) : EReal)

/-- A block at an index, from the index's coordinates. -/
theorem block_at (f : EReal → EReal) (x : Vec Ideal S1024x4096 .bf16) (w : Vec Ideal S4096x1024 .bf16) (r c : Nat) (hr : r < 1024)
    (hc : c < 1024) (y : S1024x1024.Idx) (h0 : (y 0).val = r) (h1 : (y 1).val = c) :
    f (∑ k : Fin 4096, (x (ix2 ⟨r, hr⟩ k) : EReal) * w (ix2 k ⟨c, hc⟩) : EReal) = block f x w y := by
  subst h0 h1; rfl

variable (m : (ℓ : Loc nD τ sig) → Buf (Elt Ideal) ℓ) (ρ : Dev nD → PrngReg)

/-- A column tile that stores the bare product. -/
abbrev Plain (j : Nat) : Prop := j = 0 ∨ j = 1 ∨ j = 6 ∨ j = 7 ∨ j = 8 ∨ j = 9

theorem act_plain {j : Nat} (h1 : ¬(4 ≤ j ∧ j ≤ 5)) (h2 : ¬(j = 2 ∨ j = 3 ∨ j = 10 ∨ j = 11)) (h3 : ¬12 ≤ j) : act j = fun v => v := by
  funext v; unfold act; rw [if_neg h3, if_neg h2, if_neg h1]
theorem act_query {j : Nat} (h1 : 4 ≤ j ∧ j ≤ 5) : act j = fun v => v * queryScale := by
  funext v; unfold act; rw [if_neg (by omega), if_neg (by omega), if_pos h1]
theorem act_gate {j : Nat} (h2 : j = 2 ∨ j = 3 ∨ j = 10 ∨ j = 11) : act j = fun v => halved v + halved v * Ideal.tanh (halved v) := by
  funext v; unfold act; rw [if_neg (by omega), if_pos h2]
theorem act_sigmoid {j : Nat} (h3 : 12 ≤ j) :
    act j = fun v => Ideal.ofBits .f32 0x3F000000#32 * Ideal.tanh (halved v) + Ideal.ofBits .f32 0x3F000000#32 := by
  funext v; unfold act; rw [if_pos h3]

theorem out_A (c : Dev nD) (t : Fin cfg0.N) (h0 : (t.val % 20 = 0 ∨ t.val % 20 = 1 ∨ t.val % 20 = 6 ∨ t.val % 20 = 7 ∨ t.val % 20 = 8 ∨ t.val % 20 = 9)) (h1 : ¬(4 ≤ t.val % 20 ∧ t.val % 20 ≤ 5)) (h2 : ¬(t.val % 20 = 2 ∨ t.val % 20 = 3 ∨ t.val % 20 = 10 ∨ t.val % 20 = 11)) (h3 : ¬12 ≤ t.val % 20) :
    (outsAt0 m c t.val t.isLt).1 = block (act (t.val % 20)) (iblk m c 0 t) (iblk m c 1 t) := by
  rw [outsAt0_A m c t h0 h1 h2 h3, act_plain h1 h2 h3]
  frame_out
  generalize (iblk m c 0 t : Vec Ideal S1024x4096 .bf16) = x0
  generalize (iblk m c 1 t : Vec Ideal S4096x1024 .bf16) = x1
  funext y
  refine View.canon_apply_of_pieces (block _ _ _) _ ?_ y
    (View.cover_of_tiledL (s := S1024x1024) _ S512x256.size (by sl_kernel_rfl) y)
  simp only [List.forall_mem_cons, List.not_mem_nil, false_imp_iff, implies_true, and_true]
  refine ⟨?_, ?_, ?_, ?_, ?_, ?_, ?_, ?_⟩ <;> intro x <;> unfold_payloads <;> pointwise <;>
    refine block_at (fun v => v) x0 x1 _ _ _ _ _ ?_ ?_ <;>
    first | exact ValueKit.rect_emb_unit_val .. | exact (ValueKit.rect_emb_unit_val ..).trans (Nat.zero_add _)

theorem out_C (c : Dev nD) (t : Fin cfg0.N) (h0 : ¬(t.val % 20 = 0 ∨ t.val % 20 = 1 ∨ t.val % 20 = 6 ∨ t.val % 20 = 7 ∨ t.val % 20 = 8 ∨ t.val % 20 = 9)) (h1 : (4 ≤ t.val % 20 ∧ t.val % 20 ≤ 5)) (h2 : ¬(t.val % 20 = 2 ∨ t.val % 20 = 3 ∨ t.val % 20 = 10 ∨ t.val % 20 = 11)) (h3 : ¬12 ≤ t.val % 20) :
    (outsAt0 m c t.val t.isLt).1 = block (act (t.val % 20)) (iblk m c 0 t) (iblk m c 1 t) := by
  rw [outsAt0_C m c t h0 h1 h2 h3, act_query h1]
  frame_out
  generalize (iblk m c 0 t : Vec Ideal S1024x4096 .bf16) = x0
  generalize (iblk m c 1 t : Vec Ideal S4096x1024 .bf16) = x1
  funext y
  refine View.canon_apply_of_pieces (block _ _ _) _ ?_ y
    (View.cover_of_tiledL (s := S1024x1024) _ S512x256.size (by sl_kernel_rfl) y)
  simp only [List.forall_mem_cons, List.not_mem_nil, false_imp_iff, implies_true, and_true]
  refine ⟨?_, ?_, ?_, ?_, ?_, ?_, ?_, ?_⟩ <;> intro x <;> unfold_payloads <;> pointwise [queryScale_named] <;>
    refine block_at (fun v => v * queryScale) x0 x1 _ _ _ _ _ ?_ ?_ <;>
    first | exact ValueKit.rect_emb_unit_val .. | exact (ValueKit.rect_emb_unit_val ..).trans (Nat.zero_add _)

theorem out_B (c : Dev nD) (t : Fin cfg0.N) (h0 : ¬(t.val % 20 = 0 ∨ t.val % 20 = 1 ∨ t.val % 20 = 6 ∨ t.val % 20 = 7 ∨ t.val % 20 = 8 ∨ t.val % 20 = 9)) (h1 : ¬(4 ≤ t.val % 20 ∧ t.val % 20 ≤ 5)) (h2 : (t.val % 20 = 2 ∨ t.val % 20 = 3 ∨ t.val % 20 = 10 ∨ t.val % 20 = 11)) (h3 : ¬12 ≤ t.val % 20) :
    (outsAt0 m c t.val t.isLt).1 = block (act (t.val % 20)) (iblk m c 0 t) (iblk m c 1 t) := by
  rw [outsAt0_B m c t h0 h1 h2 h3, act_gate h2]
  frame_out
  generalize (iblk m c 0 t : Vec Ideal S1024x4096 .bf16) = x0
  generalize (iblk m c 1 t : Vec Ideal S4096x1024 .bf16) = x1
  funext y
  refine View.canon_apply_of_pieces (block _ _ _) _ ?_ y
    (View.cover_of_tiledL (s := S1024x1024) _ S512x256.size (by sl_kernel_rfl) y)
  simp only [List.forall_mem_cons, List.not_mem_nil, false_imp_iff, implies_true, and_true]
  refine ⟨?_, ?_, ?_, ?_, ?_, ?_, ?_, ?_⟩ <;> intro x <;> unfold_payloads <;> pointwise <;>
    refine block_at (fun v => halved v + halved v * Ideal.tanh (halved v)) x0 x1 _ _ _ _ _ ?_ ?_ <;>
    first | exact ValueKit.rect_emb_unit_val .. | exact (ValueKit.rect_emb_unit_val ..).trans (Nat.zero_add _)

theorem out_D (c : Dev nD) (t : Fin cfg0.N) (h0 : ¬(t.val % 20 = 0 ∨ t.val % 20 = 1 ∨ t.val % 20 = 6 ∨ t.val % 20 = 7 ∨ t.val % 20 = 8 ∨ t.val % 20 = 9)) (h1 : ¬(4 ≤ t.val % 20 ∧ t.val % 20 ≤ 5)) (h2 : ¬(t.val % 20 = 2 ∨ t.val % 20 = 3 ∨ t.val % 20 = 10 ∨ t.val % 20 = 11)) (h3 : 12 ≤ t.val % 20) :
    (outsAt0 m c t.val t.isLt).1 = block (act (t.val % 20)) (iblk m c 0 t) (iblk m c 1 t) := by
  rw [outsAt0_D m c t h0 h1 h2 h3, act_sigmoid h3]
  frame_out
  generalize (iblk m c 0 t : Vec Ideal S1024x4096 .bf16) = x0
  generalize (iblk m c 1 t : Vec Ideal S4096x1024 .bf16) = x1
  funext y
  refine View.canon_apply_of_pieces (block _ _ _) _ ?_ y
    (View.cover_of_tiledL (s := S1024x1024) _ S512x256.size (by sl_kernel_rfl) y)
  simp only [List.forall_mem_cons, List.not_mem_nil, false_imp_iff, implies_true, and_true]
  refine ⟨?_, ?_, ?_, ?_, ?_, ?_, ?_, ?_⟩ <;> intro x <;> unfold_payloads <;> pointwise <;>
    refine block_at (fun v => Ideal.ofBits .f32 0x3F000000#32 * Ideal.tanh (halved v) + Ideal.ofBits .f32 0x3F000000#32) x0 x1 _ _ _ _ _ ?_ ?_ <;>
    first | exact ValueKit.rect_emb_unit_val .. | exact (ValueKit.rect_emb_unit_val ..).trans (Nat.zero_add _)

/-- Whatever the column tile, the step's block is the product of the two staged blocks with that tile's function of each entry. -/
theorem out_eq (c : Dev nD) (t : Fin cfg0.N) :
    (outsAt0 m c t.val t.isLt).1 = block (act (t.val % 20)) (iblk m c 0 t) (iblk m c 1 t) := by
  by_cases h3 : 12 ≤ t.val % 20
  · exact out_D m c t (by omega) (by omega) (by omega) h3
  by_cases h2 : t.val % 20 = 2 ∨ t.val % 20 = 3 ∨ t.val % 20 = 10 ∨ t.val % 20 = 11
  · exact out_B m c t (by omega) (by omega) h2 h3
  by_cases h1 : 4 ≤ t.val % 20 ∧ t.val % 20 ≤ 5
  · exact out_C m c t (by omega) h1 h2 h3
  · exact out_A m c t (by omega) h1 h2 h3

/-- Whatever the column tile, the step hands on the four staged weight blocks, cast. -/
theorem casts_eq (c : Dev nD) (t : Fin cfg0.N) :
    (outsAt0 m c t.val t.isLt).2 = (fun y => iblk m c 2 t y, fun y => iblk m c 3 t y, fun y => iblk m c 4 t y, fun y => iblk m c 5 t y) := by
  by_cases h3 : 12 ≤ t.val % 20
  · rw [outsAt0_D m c t (by omega) (by omega) (by omega) h3]; frame_out; rfl
  by_cases h2 : t.val % 20 = 2 ∨ t.val % 20 = 3 ∨ t.val % 20 = 10 ∨ t.val % 20 = 11
  · rw [outsAt0_B m c t (by omega) (by omega) h2 h3]; frame_out; rfl
  by_cases h1 : 4 ≤ t.val % 20 ∧ t.val % 20 ≤ 5
  · rw [outsAt0_C m c t (by omega) h1 h2 h3]; frame_out; rfl
  · rw [outsAt0_A m c t (by omega) h1 h2 h3]; frame_out; rfl

theorem idx0 : ∀ t : Fin cfg0.N, win0_0.index t = ![t.val / 20, 0] := (by decide +kernel : ∀ t : Fin grid0.N, _)
theorem idx1 : ∀ t : Fin cfg0.N, win0_1.index t = ![0, t.val % 20] := (by decide +kernel : ∀ t : Fin grid0.N, _)
theorem idx6 : ∀ t : Fin cfg0.N, win0_6.index t = ![t.val / 20, t.val % 20] := (by decide +kernel : ∀ t : Fin grid0.N, _)
theorem idx2 : ∀ t : Fin cfg0.N, win0_2.index t = ![min t.val 127, 0] := (by decide +kernel : ∀ t : Fin grid0.N, _)
theorem idx3 : ∀ t : Fin cfg0.N, win0_3.index t = ![min t.val 127, 0] := (by decide +kernel : ∀ t : Fin grid0.N, _)
theorem idx4 : ∀ t : Fin cfg0.N, win0_4.index t = ![min t.val 255, 0] := (by decide +kernel : ∀ t : Fin grid0.N, _)
theorem idx5 : ∀ t : Fin cfg0.N, win0_5.index t = ![min t.val 255, 0] := (by decide +kernel : ∀ t : Fin grid0.N, _)
theorem idx7 : ∀ t : Fin cfg0.N, win0_7.index t = ![min t.val 127, 0] := (by decide +kernel : ∀ t : Fin grid0.N, _)
theorem idx8 : ∀ t : Fin cfg0.N, win0_8.index t = ![min t.val 127, 0] := (by decide +kernel : ∀ t : Fin grid0.N, _)
theorem idx9 : ∀ t : Fin cfg0.N, win0_9.index t = ![min t.val 255, 0] := (by decide +kernel : ∀ t : Fin grid0.N, _)
theorem idx10 : ∀ t : Fin cfg0.N, win0_10.index t = ![min t.val 255, 0] := (by decide +kernel : ∀ t : Fin grid0.N, _)

/-- The whole projection: the product of the two arguments, each entry through its column tile's function. -/
def whole (a : Vec Ideal S16384x4096 .bf16) (b : Vec Ideal S4096x20480 .f32) : Vec Ideal S16384x20480 .bf16 :=
  fun y => (act ((y 1).val / 1024) (∑ k : Fin 4096, (a (ix2 (y 0) k) : EReal) * b (ix2 k (y 1)) : EReal) : EReal)

/-- A block is the whole projection where its operands are the arguments' rows and columns. -/
theorem block_eq_whole {x0 : Vec Ideal S1024x4096 .bf16} {x1 : Vec Ideal S4096x1024 .bf16} {y : S1024x1024.Idx}
    {a : Vec Ideal S16384x4096 .bf16} {b : Vec Ideal S4096x20480 .f32} {i : S16384x20480.Idx} {j : Nat} (hj : (i 1).val / 1024 = j)
    (h0 : ∀ k : Fin 4096, (x0 (ix2 (y 0) k) : EReal) = a (ix2 (i 0) k)) (h1 : ∀ k : Fin 4096, (x1 (ix2 k (y 1)) : EReal) = b (ix2 k (i 1))) :
    block (act j) x0 x1 y = whole a b i := by
  subst hj
  exact congrArg (act _) (Finset.sum_congr rfl fun k _ => by rw [h0, h1])

/-- The weight the kernel stages is the argument cast on the host. -/
theorem weight (c : Dev nD) (i : S4096x20480.Idx) : (V m c main_v0 i : EReal) = m ((c : Thread nD τ).loc main_arg1) i := by
  unfold V; after_results; rfl

/-- The result array after the run is the whole projection. -/
theorem final (c : Dev nD) : (dats m 0 c).arrAt 6 cfg0.N
    = whole (m ((c : Thread nD τ).loc main_arg0)) (m ((c : Thread nD τ).loc main_arg1)) := by
  refine (dats m 0 c).arrAt_eq_of_covers 6 _ (by decide +kernel) fun t hf y => ?_
  blk_simp
  rw [after0_6, out_eq]
  refine block_eq_whole ?_ (fun k => ?_) (fun k => ?_)
  · simp [idx6 t]
    have h : (y 1).val < 1024 := (y 1).isLt
    omega
  · blk_simp [iblk]
    rw [V_main_arg0]
    refine congrArg _ ?_
    blk_ext [idx0 t, idx6 t]
  · blk_simp [iblk]
    refine (weight m c _).trans (congrArg _ ?_)
    blk_ext [idx1 t, idx6 t]

/-- The step's own blocks of the four cast weights. -/
theorem cast7 (c : Dev nD) (t : Fin cfg0.N) (y : S16x4096.Idx) : ((outsAt0 m c t.val t.isLt).2.1 y : EReal) = iblk m c 2 t y := by
  rw [casts_eq]
theorem cast8 (c : Dev nD) (t : Fin cfg0.N) (y : S16x4096.Idx) : ((outsAt0 m c t.val t.isLt).2.2.1 y : EReal) = iblk m c 3 t y := by
  rw [casts_eq]
theorem cast9 (c : Dev nD) (t : Fin cfg0.N) (y : S16x4096.Idx) : ((outsAt0 m c t.val t.isLt).2.2.2.1 y : EReal) = iblk m c 4 t y := by
  rw [casts_eq]
theorem cast10 (c : Dev nD) (t : Fin cfg0.N) (y : S16x4096.Idx) : ((outsAt0 m c t.val t.isLt).2.2.2.2 y : EReal) = iblk m c 5 t y := by
  rw [casts_eq]

/-- The first cast weight after the run is the argument. -/
theorem final7 (c : Dev nD) : (dats m 0 c).arrAt 7 cfg0.N = fun i => (m ((c : Thread nD τ).loc main_arg2) i : EReal) := by
  refine (dats m 0 c).arrAt_eq_of_covers 7 _ (by decide +kernel) fun t hf y => ?_
  blk_simp
  rw [after0_7]
  refine (cast7 m c t _).trans ?_
  blk_simp [iblk]
  rw [V_main_arg2]
  refine congrArg _ ?_
  blk_ext [idx2 t, idx7 t]

/-- The second cast weight after the run is the argument. -/
theorem final8 (c : Dev nD) : (dats m 0 c).arrAt 8 cfg0.N = fun i => (m ((c : Thread nD τ).loc main_arg3) i : EReal) := by
  refine (dats m 0 c).arrAt_eq_of_covers 8 _ (by decide +kernel) fun t hf y => ?_
  blk_simp
  rw [after0_8]
  refine (cast8 m c t _).trans ?_
  blk_simp [iblk]
  rw [V_main_arg3]
  refine congrArg _ ?_
  blk_ext [idx3 t, idx8 t]

/-- The third cast weight after the run is the argument. -/
theorem final9 (c : Dev nD) : (dats m 0 c).arrAt 9 cfg0.N = fun i => (m ((c : Thread nD τ).loc main_arg4) i : EReal) := by
  refine (dats m 0 c).arrAt_eq_of_covers 9 _ (by decide +kernel) fun t hf y => ?_
  blk_simp
  rw [after0_9]
  refine (cast9 m c t _).trans ?_
  blk_simp [iblk]
  rw [V_main_arg4]
  refine congrArg _ ?_
  blk_ext [idx4 t, idx9 t]

/-- The fourth cast weight after the run is the argument. -/
theorem final10 (c : Dev nD) : (dats m 0 c).arrAt 10 cfg0.N = fun i => (m ((c : Thread nD τ).loc main_arg5) i : EReal) := by
  refine (dats m 0 c).arrAt_eq_of_covers 10 _ (by decide +kernel) fun t hf y => ?_
  blk_simp
  rw [after0_10]
  refine (cast10 m c t _).trans ?_
  blk_simp [iblk]
  rw [V_main_arg5]
  refine congrArg _ ?_
  blk_ext [idx5 t, idx10 t]

end Cert.InProjIdeal.Projected

end
-- ==== Proof.InProjClaims.lean ====
/-
  The input projection: the reference's value read as the kernel's, and the five claims.
-/
module

public import proofs.«01_k».proof.Defs
public import proofs.«01_k».proof.Proof.InProjValue
public import Idealize.ShloMosaic.Lib.ReduceAll
public import Idealize.ShloMosaic.Lib.KernelVsHost

@[expose] public section

set_option maxRecDepth 16384

noncomputable section

open Idealize.ShloMosaic Idealize.ShloMosaic.TcCoe Idealize.SL.Sem

namespace Cert.Proof.InProjClaims

open Cert.InProjRefIdeal Cert.InProjRefIdeal.Gen Cert.InProjRefIdeal.Read
open Cert.InProjIdeal.Projected (act halved queryScale)

/-- The float 128. -/
theorem headDim : Ideal.ofBits .f32 0x43000000#32 = ((128 : ℝ) : EReal) := by
  simp [Ideal.ofBits, Ideal.ieee, -EReal.coe_mul]
  norm_num

/-- The float 2. -/
theorem two : Ideal.ofBits .f32 0x40000000#32 = ((2 : ℝ) : EReal) := by
  simp [Ideal.ofBits, Ideal.ieee, -EReal.coe_mul]
  norm_num

/-- The float 1. -/
theorem one : Ideal.ofBits .f32 0x3F800000#32 = 1 := by
  have h : Ideal.ofBits .f32 0x3F800000#32 = ((1 : ℝ) : EReal) := by
    simp [Ideal.ofBits, Ideal.ieee, -EReal.coe_mul]
    norm_num
  exact h

/-- Dividing by the root of 128 and then by the logarithm of 2 multiplies by the query's factor. -/
theorem query_at (v : EReal) :
    Ideal.div (Ideal.div v (Ideal.sqrt (Ideal.ofBits .f32 0x43000000#32))) (Ideal.log (Ideal.ofBits .f32 0x40000000#32)) = v * queryScale := by
  have h2 : Real.log 2 ≠ 0 := (Real.log_pos (by norm_num)).ne'
  have h1 : Real.sqrt 128 ≠ 0 := by positivity
  rw [headDim, two, Ideal.sqrt_coe, Ideal.log_coe, if_neg (by norm_num), if_neg (by norm_num), Ideal.div_coe h1, Ideal.div_coe h2,
    mul_assoc, ← EReal.coe_mul, one_div, one_div]

/-- The logistic function as the reference spells it. -/
theorem logistic_at (v : EReal) :
    Ideal.div (Ideal.ofBits .f32 0x3F800000#32) (Ideal.ofBits .f32 0x3F800000#32 + Ideal.exp (-v)) = Ideal.logistic v := by
  rw [one]; rfl

/-- The gate by the hyperbolic tangent of the half is the value times its logistic function, at a real. -/
theorem gate_at (v : ℝ) : halved (v : EReal) + halved (v : EReal) * Ideal.tanh (halved (v : EReal)) = (v : EReal) * Ideal.logistic (v : EReal) := by
  rw [← Cert.Proof.Logistic.at_all]
  unfold Cert.InProjIdeal.Projected.halved
  rw [Cert.Proof.Logistic.half, ← EReal.coe_mul, Ideal.tanh_coe, ← EReal.coe_mul, ← EReal.coe_mul, ← EReal.coe_add, ← EReal.coe_add, ← EReal.coe_mul]
  congr 1; ring

/-- A sum of products of reals is a real. -/
theorem sum_real {n : Nat} (f g : Fin n → EReal) (hf : ∀ k, ∃ r : ℝ, f k = r) (hg : ∀ k, ∃ r : ℝ, g k = r) :
    ∃ r : ℝ, (∑ k, f k * g k) = (r : EReal) := by
  choose a ha using hf
  choose b hb using hg
  refine ⟨∑ k, a k * b k, ?_⟩
  simp only [ha, hb, ← EReal.coe_mul]
  induction (Finset.univ : Finset (Fin n)) using Finset.cons_induction with
  | empty => simp
  | cons i s hi ih => rw [Finset.sum_cons, Finset.sum_cons, ih, EReal.coe_add]

/-- What is below infinity in magnitude is a real. -/
theorem real_of_abs_lt (x : EReal) (h : max x (-x) < ⊤) : ∃ r : ℝ, x = r := by
  induction x with
  | bot => simp at h
  | coe r => exact ⟨r, rfl⟩
  | top => simp at h

variable (a : Vec Ideal S16384x4096 .bf16) (b : Vec Ideal S4096x20480 .f32)

/-- The reference's product at an index. -/
theorem product_at (i : S16384x20480.Idx) :
    (val_main_v1 (F := Ideal) a b i : EReal) = ∑ k : Fin 4096, (a (ix2 (i 0) k) : EReal) * b (ix2 k (i 1)) := by
  refine (val_main_v1_apply a b i).trans (Finset.sum_congr rfl fun k _ => congrArg₂ _ (congrArg a ?_) (congrArg b ?_)) <;>
    funext d <;> match d with
    | ⟨0, _⟩ => rfl
    | ⟨1, _⟩ => rfl

/-- An index with the coordinates of another is that one. -/
theorem idx_eq (j i : S16384x20480.Idx) (h0 : (j 0).val = (i 0).val) (h1 : (j 1).val = (i 1).val) : j = i := by
  funext d; match d with
  | ⟨0, _⟩ => exact Fin.ext h0
  | ⟨1, _⟩ => exact Fin.ext h1

/-- A concatenation along the columns at a column inside one of its pieces of 2048 columns. -/
theorem narrow (xs : List ((s : Shape) × (s.Idx → EReal))) (h : Shape.Concatenates (xs.map (·.1)) S16384x20480 1) (i : S16384x20480.Idx)
    (k : Nat) (hk : k < xs.length) (x : S16384x2048.Idx → EReal) (hx : xs[k] = ⟨S16384x2048, x⟩) (o : Nat)
    (ho : (((xs.take k).map (·.1)).map fun s => if h : s.rank = 2 then s.size ((1 : Fin 2).cast h.symm) else 0).sum = o)
    (lo : o ≤ (i 1).val) (hi : (i 1).val < o + 2048) :
    concatenate S16384x20480 1 xs h i = x (ix2 (i 0) ⟨(i 1).val - o, by omega⟩) := by
  refine concatenate_apply_piece 1 xs h i k hk S16384x2048 x hx rfl o ho _ ?_ ?_
  · intro d hd; match d with
    | ⟨0, _⟩ => rfl
    | ⟨1, _⟩ => exact absurd rfl hd
  · show o + ((i 1).val - o) = (i 1).val; omega

/-- The same inside a piece of 4096 columns. -/
theorem broad (xs : List ((s : Shape) × (s.Idx → EReal))) (h : Shape.Concatenates (xs.map (·.1)) S16384x20480 1) (i : S16384x20480.Idx)
    (k : Nat) (hk : k < xs.length) (x : S16384x4096.Idx → EReal) (hx : xs[k] = ⟨S16384x4096, x⟩) (o : Nat)
    (ho : (((xs.take k).map (·.1)).map fun s => if h : s.rank = 2 then s.size ((1 : Fin 2).cast h.symm) else 0).sum = o)
    (lo : o ≤ (i 1).val) (hi : (i 1).val < o + 4096) :
    concatenate S16384x20480 1 xs h i = x (ix2 (i 0) ⟨(i 1).val - o, by omega⟩) := by
  refine concatenate_apply_piece 1 xs h i k hk S16384x4096 x hx rfl o ho _ ?_ ?_
  · intro d hd; match d with
    | ⟨0, _⟩ => rfl
    | ⟨1, _⟩ => exact absurd rfl hd
  · show o + ((i 1).val - o) = (i 1).val; omega

set_option maxRecDepth 65536 in
/-- The reference's result at an index: its column range's function of the product there. -/
theorem ref_at (i : S16384x20480.Idx) (hv : ∃ r : ℝ, (val_main_v1 (F := Ideal) a b i : EReal) = r) :
    (val_main_v30 (F := Ideal) a b i : EReal) = act ((i 1).val / 1024) (val_main_v1 (F := Ideal) a b i) := by
  have hi : (i 1).val < 20480 := (i 1).isLt
  obtain ⟨r, hr⟩ := hv
  unfold val_main_v30
  by_cases c0 : (i 1).val < 2048
  · refine (narrow _ _ i 0 (Nat.lt_of_sub_eq_succ rfl) (val_main_v2 (F := Ideal) a b) rfl 0 rfl (by omega) (by omega)).trans ?_
    rw [val_main_v2_apply, idx_eq (idx_main_v2 _) i rfl (by show (i 1).val - 0 = _; omega),
      Cert.InProjIdeal.Projected.act_plain (by omega) (by omega) (by omega)]
  by_cases c1 : (i 1).val < 4096
  · refine (narrow _ _ i 1 (Nat.lt_of_sub_eq_succ rfl) (val_main_v10 (F := Ideal) a b) rfl 2048 rfl (by omega) (by omega)).trans ?_
    simp only [val_main_v10_apply, val_main_call0_v5_apply, val_main_call0_v4_apply, val_main_call0_cst_0_apply, val_main_call0_v3_apply,
      val_main_call0_v2_apply, val_main_call0_cst_apply, val_main_call0_v1_apply, val_main_call0_v0_apply, val_main_v3_apply]
    rw [idx_eq (idx_main_v3 _) i rfl (by show 2048 + ((i 1).val - 2048) = _; omega), Cert.InProjIdeal.Projected.act_gate (by omega), hr]
    exact (congrArg (fun x : EReal => (r : EReal) * x) (logistic_at r)).trans (gate_at r).symm
  by_cases c2 : (i 1).val < 6144
  · refine (narrow _ _ i 2 (Nat.lt_of_sub_eq_succ rfl) (val_main_v16 (F := Ideal) a b) rfl 4096 rfl (by omega) (by omega)).trans ?_
    simp only [val_main_v16_apply, val_main_v15_apply, val_main_v14_apply, val_main_cst_0_apply, val_main_v13_apply, val_main_v12_apply,
      val_main_v11_apply, val_main_cst_apply, val_main_v4_apply]
    rw [idx_eq (idx_main_v4 _) i rfl (by show 4096 + ((i 1).val - 4096) = _; omega), Cert.InProjIdeal.Projected.act_query (by omega)]
    exact query_at _
  by_cases c3 : (i 1).val < 8192
  · refine (narrow _ _ i 3 (Nat.lt_of_sub_eq_succ rfl) (val_main_v5 (F := Ideal) a b) rfl 6144 rfl (by omega) (by omega)).trans ?_
    rw [val_main_v5_apply, idx_eq (idx_main_v5 _) i rfl (by show 6144 + ((i 1).val - 6144) = _; omega),
      Cert.InProjIdeal.Projected.act_plain (by omega) (by omega) (by omega)]
  by_cases c4 : (i 1).val < 10240
  · refine (narrow _ _ i 4 (Nat.lt_of_sub_eq_succ rfl) (val_main_v6 (F := Ideal) a b) rfl 8192 rfl (by omega) (by omega)).trans ?_
    rw [val_main_v6_apply, idx_eq (idx_main_v6 _) i rfl (by show 8192 + ((i 1).val - 8192) = _; omega),
      Cert.InProjIdeal.Projected.act_plain (by omega) (by omega) (by omega)]
  by_cases c5 : (i 1).val < 12288
  · refine (narrow _ _ i 5 (Nat.lt_of_sub_eq_succ rfl) (val_main_v17 (F := Ideal) a b) rfl 10240 rfl (by omega) (by omega)).trans ?_
    simp only [val_main_v17_apply, val_main_call1_v5_apply, val_main_call1_v4_apply, val_main_call1_cst_0_apply, val_main_call1_v3_apply,
      val_main_call1_v2_apply, val_main_call1_cst_apply, val_main_call1_v1_apply, val_main_call1_v0_apply, val_main_v7_apply]
    rw [idx_eq (idx_main_v7 _) i rfl (by show 10240 + ((i 1).val - 10240) = _; omega), Cert.InProjIdeal.Projected.act_gate (by omega), hr]
    exact (congrArg (fun x : EReal => (r : EReal) * x) (logistic_at r)).trans (gate_at r).symm
  by_cases c6 : (i 1).val < 16384
  · refine (broad _ _ i 6 (Nat.lt_of_sub_eq_succ rfl) (val_main_v23 (F := Ideal) a b) rfl 12288 rfl (by omega) (by omega)).trans ?_
    simp only [val_main_v23_apply, val_main_v22_apply, val_main_cst_2_apply, val_main_v21_apply, val_main_v20_apply, val_main_cst_1_apply, val_main_v19_apply, val_main_v18_apply, val_main_v8_apply]
    rw [idx_eq (idx_main_v8 _) i rfl (by show 12288 + ((i 1).val - 12288) = _; omega), Cert.InProjIdeal.Projected.act_sigmoid (by omega)]
    exact (logistic_at _).trans (Cert.Proof.Logistic.at_all _).symm
  · refine (broad _ _ i 7 (Nat.lt_of_sub_eq_succ rfl) (val_main_v29 (F := Ideal) a b) rfl 16384 rfl (by omega) (by omega)).trans ?_
    simp only [val_main_v29_apply, val_main_v28_apply, val_main_cst_4_apply, val_main_v27_apply, val_main_v26_apply, val_main_cst_3_apply, val_main_v25_apply, val_main_v24_apply, val_main_v9_apply]
    rw [idx_eq (idx_main_v9 _) i rfl (by show 16384 + ((i 1).val - 16384) = _; omega), Cert.InProjIdeal.Projected.act_sigmoid (by omega)]
    exact (logistic_at _).trans (Cert.Proof.Logistic.at_all _).symm

/-- The reference's result is the kernel's, where every entry of the two factors is a real. -/
theorem ref_eq (ha : ∀ i, ∃ r : ℝ, (a i : EReal) = r) (hb : ∀ i, ∃ r : ℝ, (b i : EReal) = r) :
    val_main_v31 (F := Ideal) a b = Cert.InProjIdeal.Projected.whole a b := by
  funext i
  refine (ref_at a b i ?_).trans (congrArg _ (product_at a b i))
  rw [product_at]
  exact sum_real _ _ (fun k => ha _) (fun k => hb _)

/-- The float infinity. -/
theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- A comparison of a magnitude with infinity that says yes makes the value a real. -/
theorem real_of_cmp (x inf : EReal) (hinf : inf = ⊤) (h : Ideal.cmp .olt (max x (-x)) inf = 1#1) : ∃ r : ℝ, x = r := by
  subst hinf
  refine real_of_abs_lt x ?_
  by_contra hc
  simp [Ideal.cmp, hc] at h

instance : Subsingleton Cert.Pre_finite_factors.S_.Idx := ⟨fun i j => funext fun d => d.elim0⟩

/-- The precondition says that every entry of the two factors is a real. -/
theorem finite [Cert.Pre_finite_factors.Facts] (x2 x3 : FVec Ideal Cert.Pre_finite_factors.S2048x4096 .f32)
    (x4 x5 : FVec Ideal Cert.Pre_finite_factors.S4096x4096 .f32) (h : Cert.Pre_finite_factors.fn (F := Ideal) a b x2 x3 x4 x5 = fun _ => 1#1) :
    (∀ i, ∃ r : ℝ, (a i : EReal) = r) ∧ (∀ i, ∃ r : ℝ, (b i : EReal) = r) := by
  have h0 := congrFun h (fun d => d.elim0)
  unfold Cert.Pre_finite_factors.fn at h0
  obtain ⟨h1, h2⟩ := IntOp.andi_eq_one.1 h0
  exact ⟨fun i => real_of_cmp _ _ inf16 (Host.reduce_andi_all _ _ _ _ _ h1 i), fun i => real_of_cmp _ _ inf32 (Host.reduce_andi_all _ _ _ _ _ h2 i)⟩

/-- The side conditions of the precondition's own program. -/
instance preFacts : Cert.Pre_finite_factors.Facts where
  bcast_S_S16384x4096 := by decide +kernel
  reducesTo_S16384x4096_S_d0_1 := by decide +kernel
  h_S_ := by decide +kernel
  bcast_S_S4096x20480 := by decide +kernel
  reducesTo_S4096x20480_S_d0_1 := by decide +kernel

/-- Frames of the three programs. -/
theorem frame_ideal [Cert.Pre_finite_factors.Facts] : Cert.quiescent_InProjIdeal := fun m ρ _ => Cert.InProjIdeal.Gen.frame m ρ
theorem frame : Cert.quiescent_InProj := fun m ρ _ => Cert.InProj.Gen.frame m ρ
theorem frame_ref [Cert.Pre_finite_factors.Facts] : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

/-- The same two frames for every initial memory. -/
theorem frame_ideal_free : Cert.quiescent_InProjIdeal_pre_none := fun m ρ _ => Cert.InProjIdeal.Gen.frame m ρ
theorem frame_ref_free : Cert.quiescent_InProjRefIdeal_pre_none := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

/-- The one named constant, the query's factor, names its real. -/
theorem preserves : Cert.preserves_InProj_InProjIdeal :=
  IdealRules.named_const.statement Cert.InProjIdeal.κ "query_scale" .f32 0x3E0293EE#32 (((Real.sqrt 128)⁻¹ * (Real.log 2)⁻¹ : ℝ) : EReal) rfl

/-- The kernel's five results and the reference's are the same functions of the same arguments. -/
theorem algebraic [Cert.Pre_finite_factors.Facts] : Cert.algebraic_InProjIdeal_InProjRefIdeal := by
  intro m ρ m' ρ' hpre hagree
  refine ⟨fun c => Cert.InProjIdeal.Projected.whole (m (c.tc.loc Cert.InProjIdeal.main_arg0)) (m (c.tc.loc Cert.InProjIdeal.main_arg1)),
    fun c i => (m (c.tc.loc Cert.InProjIdeal.main_arg2) i : EReal), fun c i => (m (c.tc.loc Cert.InProjIdeal.main_arg3) i : EReal),
    fun c i => (m (c.tc.loc Cert.InProjIdeal.main_arg4) i : EReal), fun c i => (m (c.tc.loc Cert.InProjIdeal.main_arg5) i : EReal), ?_, ?_⟩
  · exact (θ_run Cert.InProjIdeal.defs _ _).mono
      (fun _ h c => ⟨(h c).1.trans (Cert.InProjIdeal.Projected.final m c), (h c).2.1.trans (Cert.InProjIdeal.Projected.final7 m c),
        (h c).2.2.1.trans (Cert.InProjIdeal.Projected.final8 m c), (h c).2.2.2.1.trans (Cert.InProjIdeal.Projected.final9 m c),
        (h c).2.2.2.2.1.trans (Cert.InProjIdeal.Projected.final10 m c), (h c).2.2.2.2.2⟩)
      (Cert.InProjIdeal.Value.run_blocks (F := Ideal) m ρ)
  · refine (θ_run Cert.InProjRefIdeal.defs _ _).mono (fun _ h c => ?_) (Cert.InProjRefIdeal.Value.run (F := Ideal) m' ρ')
    obtain ⟨e0, e1, e2, e3, e4, e5⟩ := hagree c
    obtain ⟨ha, hb⟩ := finite _ _ _ _ _ _ (hpre c)
    refine ⟨(h c).1.trans ((val_main_v31_eq m' c).trans ?_), (h c).2.1.trans ?_, (h c).2.2.1.trans ?_, (h c).2.2.2.1.trans ?_,
      (h c).2.2.2.2.1.trans ?_, (h c).2.2.2.2.2⟩
    · rw [e0, e1]; exact ref_eq _ _ ha hb
    · rw [e2]; rfl
    · rw [e3]; rfl
    · rw [e4]; rfl
    · rw [e5]; rfl

end Cert.Proof.InProjClaims

end
-- ==== Proof.PoolClaims.lean ====
/-
  The claims of the multi-scale pooling mixer's call: its reference sums each window as the difference of two cumulative sums, the kernel by
  doubling; at reals the two are one sum.
-/
module

public import proofs.«01_k».proof.Proof.PoolValue
public import proofs.«01_k».proof.Proof.InProjClaims
public import Idealize.ShloMosaic.Lib.KernelVsHost
public import Idealize.ShloMosaic.Lib.ReduceAll

@[expose] public section

set_option maxRecDepth 16384

noncomputable section

open Idealize.ShloMosaic Idealize.ShloMosaic.TcCoe Idealize.SL.Sem

namespace Cert.Proof.PoolClaims

open Cert.PoolRefIdeal Cert.PoolRefIdeal.Gen Cert.PoolRefIdeal.Read
open Cert.PoolIdeal.Pooled (seq lev cnt pooled)

/-- A left fold of sums is the sum. -/
theorem foldl_sum {α : Type} (g : α → EReal) : ∀ (l : List α) (v : EReal), l.foldl (fun r n => r + g n) v = v + (l.map g).sum
  | [], v => by simp
  | a :: l, v => by
    rw [List.foldl_cons, foldl_sum g l (v + g a), List.map_cons, List.sum_cons, add_assoc]

/-- The sum of a sequence's first `n` rows in a column. -/
def cum (f : ℕ → ℕ → EReal) (n c : ℕ) : EReal := ∑ p ∈ Finset.range n, f (32 + p) c

/-- Window sums by doubling are the sums over the windows. -/
theorem lev_sum (f : ℕ → ℕ → EReal) (q c : ℕ) : ∀ k p, lev f q k p c = ∑ d ∈ Finset.range (2 ^ k), f (p - d) (q + c)
  | 0, p => by simp [lev]
  | k + 1, p => by
    show lev f q k p c + lev f q k (p - 2 ^ k) c = _
    rw [lev_sum f q c k p, lev_sum f q c k (p - 2 ^ k), show 2 ^ (k + 1) = 2 ^ k + 2 ^ k by rw [Nat.pow_succ]; omega, Finset.sum_range_add]
    simp only [Nat.sub_sub]

/-- A difference of two prefix sums is the sum over the window between them, at reals. -/
theorem window_real (r : ℕ → ℝ) (s : ℕ) : ∀ w, (∑ p ∈ Finset.range (s + 1), r p) - ∑ p ∈ Finset.range (s + 1 - w), r p
      = ∑ d ∈ Finset.range w, if d ≤ s then r (s - d) else 0
  | 0 => by simp
  | w + 1 => by
    rw [Finset.sum_range_succ (fun d => if d ≤ s then r (s - d) else 0) w, ← window_real r s w]
    by_cases h : w ≤ s
    · rw [if_pos h, show s + 1 - w = (s - w) + 1 by omega, Finset.sum_range_succ r (s - w), show s + 1 - (w + 1) = s - w by omega]
      ring
    · rw [if_neg h, show s + 1 - w = 0 by omega, show s + 1 - (w + 1) = 0 by omega]
      ring

/-- A sum of reals, as an extended real. -/
theorem sum_coe (r : ℕ → ℝ) (s : Finset ℕ) : (∑ p ∈ s, ((r p : ℝ) : EReal)) = ((∑ p ∈ s, r p : ℝ) : EReal) := by
  induction s using Finset.cons_induction with
  | empty => simp
  | cons i s hi ih => rw [Finset.sum_cons, Finset.sum_cons, ih, EReal.coe_add]

/-- The difference of the two cumulative sums is the window's sum, where the rows are reals. -/
theorem window (f : ℕ → ℕ → EReal) (q c s k : ℕ) (h0 : ∀ p c, p < 32 → f p c = 0) (hf : ∀ p, ∃ r : ℝ, f p (q + c) = r) (hk : k ≤ 4) :
    cum f (s + 1) (q + c) - cum f (s + 1 - 2 ^ k) (q + c) = lev f q k (32 + s) c := by
  choose r hr using hf
  have hp : 2 ^ k ≤ 16 := (Nat.pow_le_pow_right (by decide) hk : 2 ^ k ≤ 2 ^ 4)
  rw [lev_sum]
  unfold cum
  simp only [hr, sum_coe]
  rw [← EReal.coe_sub]
  refine congrArg _ ((window_real (fun p => r (32 + p)) s (2 ^ k)).trans (Finset.sum_congr rfl fun d hd => ?_))
  have hd' := Finset.mem_range.mp hd
  by_cases hds : d ≤ s
  · rw [if_pos hds, show 32 + (s - d) = 32 + s - d by omega]
  · rw [if_neg hds]
    have := hr (32 + s - d)
    rw [h0 _ _ (by omega)] at this
    exact EReal.coe_injective this

variable (x0 : (⟨S16384x20480, .bf16⟩ : BufTy).Contents (Elt Ideal)) (x1 : (⟨S4x512x512, .f32⟩ : BufTy).Contents (Elt Ideal)) (x2 : (⟨S2048, .f32⟩ : BufTy).Contents (Elt Ideal))

/-- The first column slice, at an index. -/
theorem u_at (i : S2x8192x2048.Idx) : (val_main_v2 (F := Ideal) x0 i : EReal) = seq x0 (i 0).val (32 + (i 1).val) (i 2).val := by
  have h0 : (i 0).val < 2 := (i 0).isLt
  have h1 : (i 1).val < 8192 := (i 1).isLt
  have h2 : (i 2).val < 2048 := (i 2).isLt
  rw [val_main_v2_apply, val_main_v1_apply, val_main_v0_apply, Cert.PoolIdeal.Pooled.seq_hi _ _ _ _ h0 (by omega) (by omega) h2]
  show x0 _ = x0 _
  refine congrArg x0 (funext fun a => Fin.ext ?_)
  match a with
  | ⟨0, _⟩ => show (((i 0).val * 8192 + (i 1).val) * 20480 + (i 2).val) / 20480 = (i 0).val * 8192 + (32 + (i 1).val - 32); omega
  | ⟨1, _⟩ => show (((i 0).val * 8192 + (i 1).val) * 20480 + (i 2).val) % 20480 = (i 2).val; omega

/-- The gates' column slice, at an index. -/
theorem gate_at (i : S2x8192x2048.Idx) (j : S16384x20480.Idx) (e0 : (j 0).val = (i 0).val * 8192 + (i 1).val) (e1 : (j 1).val = 2048 + (i 2).val) :
    (val_main_v3 (F := Ideal) x0 i : EReal) = x0 j := by
  have h0 : (i 0).val < 2 := (i 0).isLt
  have h1 : (i 1).val < 8192 := (i 1).isLt
  have h2 : (i 2).val < 2048 := (i 2).isLt
  rw [val_main_v3_apply, val_main_v1_apply, val_main_v0_apply]
  show x0 _ = x0 _
  refine congrArg x0 (funext fun a => Fin.ext ?_)
  match a with
  | ⟨0, _⟩ => show (((i 0).val * 8192 + (i 1).val) * 20480 + (2048 + (i 2).val)) / 20480 = (j 0).val; omega
  | ⟨1, _⟩ => show (((i 0).val * 8192 + (i 1).val) * 20480 + (2048 + (i 2).val)) % 20480 = (j 1).val; omega

/-- The window's shape: all the rows of one column. -/
abbrev colW : Shape := ⟨3, ![1, 8192, 1]⟩

/-- The coordinates of the window's entries. -/
theorem colW_coord (n : Fin colW.numel) : (colW.rowMajor.symm n 0).val = 0 ∧ (colW.rowMajor.symm n 1).val = n.val ∧ (colW.rowMajor.symm n 2).val = 0 := by
  have h := Shape.rowMajor_val_three (d := ![1, 8192, 1]) (colW.rowMajor.symm n)
  rw [Equiv.apply_symm_apply] at h
  have a0 : (colW.rowMajor.symm n 0).val < 1 := (colW.rowMajor.symm n 0).isLt
  have a2 : (colW.rowMajor.symm n 2).val < 1 := (colW.rowMajor.symm n 2).isLt
  have h' : n.val = ((colW.rowMajor.symm n 0).val * 8192 + (colW.rowMajor.symm n 1).val) * 1 + (colW.rowMajor.symm n 2).val := h
  refine ⟨?_, ?_, ?_⟩ <;> omega

/-- The cumulative sum, at an index. -/
theorem cum_at (i : S2x8192x2048.Idx) : (val_main_v4 (F := Ideal) x0 i : EReal) = cum (seq x0 (i 0).val) ((i 1).val + 1) (i 2).val := by
  have h0 : (i 0).val < 2 := (i 0).isLt
  have h1 : (i 1).val < 8192 := (i 1).isLt
  have h2 : (i 2).val < 2048 := (i 2).isLt
  have hz : (val_main_call0_v0 (F := Ideal) (Shape.Idx.first h_S_) : EReal) = 0 := by
    rw [val_main_call0_v0_apply, val_main_call0_cst_apply]
    show Ideal.ofBits .f32 0x00000000#32 = 0
    simp
  unfold val_main_v4 Host.reduceWindowAdd
  rw [Ideal.hostReduceWindowAdd_def, hz]
  unfold Ideal.hostReduceWindowAdd Host.reduceWindow
  refine (foldl_sum _ _ _).trans ?_
  rw [zero_add, ← Fin.sum_univ_def]
  refine (Finset.sum_congr rfl (g := fun n : Fin colW.numel => (fun p : ℕ => if 8191 ≤ (i 1).val + p then seq x0 (i 0).val (32 + ((i 1).val + p - 8191)) (i 2).val else 0) n.val)
    fun n _ => ?_).trans ?_
  · obtain ⟨n0, n1, n2⟩ := colW_coord n
    have hn : n.val < 8192 := n.isLt
    show _ = if 8191 ≤ (i 1).val + n.val then seq x0 (i 0).val (32 + ((i 1).val + n.val - 8191)) (i 2).val else 0
    by_cases hc : 8191 ≤ (i 1).val + n.val
    · rw [if_pos hc]
      refine (dif_pos ?_).trans ((u_at x0 _).trans ?_)
      rotate_left
      · show seq x0 ((i 0).val * 1 + (colW.rowMajor.symm n 0).val - 0) (32 + ((i 1).val * 1 + (colW.rowMajor.symm n 1).val - 8191)) ((i 2).val * 1 + (colW.rowMajor.symm n 2).val - 0) = _
        rw [n0, n1, n2]
        simp only [Nat.mul_one, Nat.add_zero, Nat.sub_zero]
      · intro a
        match a with
        | ⟨0, _⟩ => exact ⟨Nat.zero_le _, by show (i 0).val * 1 + (colW.rowMajor.symm n 0).val - 0 < 2; omega⟩
        | ⟨1, _⟩ => exact ⟨by show 8191 ≤ (i 1).val * 1 + (colW.rowMajor.symm n 1).val; omega, by show (i 1).val * 1 + (colW.rowMajor.symm n 1).val - 8191 < 8192; omega⟩
        | ⟨2, _⟩ => exact ⟨Nat.zero_le _, by show (i 2).val * 1 + (colW.rowMajor.symm n 2).val - 0 < 2048; omega⟩
    · rw [if_neg hc]
      refine dif_neg ?_
      intro hin
      have := (hin 1).1
      have t : 8191 ≤ (i 1).val * 1 + (colW.rowMajor.symm n 1).val := this
      omega
  refine (Finset.sum_range (fun p : ℕ => if 8191 ≤ (i 1).val + p then seq x0 (i 0).val (32 + ((i 1).val + p - 8191)) (i 2).val else 0)).symm.trans ?_
  rw [show colW.numel = (8191 - (i 1).val) + ((i 1).val + 1) by show 8192 = _; omega, Finset.sum_range_add]
  unfold cum
  rw [Finset.sum_eq_zero, zero_add]
  · refine Finset.sum_congr rfl fun p hp => ?_
    rw [if_pos (by omega), show (i 1).val + (8191 - (i 1).val + p) - 8191 = p by omega]
  · intro p hp
    have := Finset.mem_range.mp hp
    rw [if_neg (by omega)]

/-- The cumulative sum below 16 rows of zeros, at an index. -/
theorem padded_at (i : S2x8208x2048.Idx) : (val_main_v5 (F := Ideal) x0 i : EReal) = cum (seq x0 (i 0).val) ((i 1).val + 1 - 16) (i 2).val := by
  have h1 : (i 1).val < 8208 := (i 1).isLt
  unfold val_main_v5
  by_cases h : 16 ≤ (i 1).val
  · refine (pad_apply_of_inside _ _ _ _ _ _ _ i (fun a => match a with
      | ⟨0, _⟩ => ⟨(i 0).val, (i 0).isLt⟩
      | ⟨1, _⟩ => ⟨(i 1).val - 16, by show _ < 8192; omega⟩
      | ⟨2, _⟩ => ⟨(i 2).val, (i 2).isLt⟩ : S2x8192x2048.Idx) (fun a => match a with
      | ⟨0, _⟩ => by show (i 0).val = 0 + (i 0).val * (0 + 1); omega
      | ⟨1, _⟩ => by show (i 1).val = 16 + ((i 1).val - 16) * (0 + 1); omega
      | ⟨2, _⟩ => by show (i 2).val = 0 + (i 2).val * (0 + 1); omega)).trans ?_
    rw [cum_at]
    show cum _ ((i 1).val - 16 + 1) _ = _
    rw [show (i 1).val - 16 + 1 = (i 1).val + 1 - 16 by omega]
  · refine (pad_apply_of_not_inside _ _ _ _ _ _ _ i 1 (fun hh => h hh.1)).trans ?_
    rw [val_main_call1_v0_apply, val_main_c_apply, show (i 1).val + 1 - 16 = 0 by omega]
    show (((0#32 : BitVec 32).toInt : ℝ) : EReal) = _
    unfold cum
    simp

/-- The mean over the group's window at a position. -/
def mean (g : ℕ) (i : S2x8192x512.Idx) : EReal :=
  Ideal.div (lev (seq x0 (i 0).val) (512 * g) (g + 1) (32 + (i 1).val) (i 2).val) (cnt (g + 1) (i 1).val)

/-- The number of a window's positions, as the reference counts it. -/
theorem count_ref (j : S1x8192x1.Idx) (k : ℕ) (hj : (j 1).val < 8192) (hk : k ≤ 4) (w : BitVec 32) (hw : w = BitVec.ofNat 32 (2 ^ k)) :
    (FloatOps.sitofp .f32 (IntOp.minsi (IntOp.addi (val_main_v7 (F := Ideal) j) 1#32) w) : Ideal .f32) = cnt k (j 1).val := by
  have e : IntOp.addi (val_main_v7 (F := Ideal) j) 1#32 = BitVec.ofNat 32 ((j 1).val + 1) := by
    rw [val_main_v7_apply, val_main_v6_apply]
    show BitVec.ofNat 32 (j 1).val + 1#32 = _
    apply BitVec.eq_of_toNat_eq
    simp only [BitVec.toNat_add, BitVec.toNat_ofNat]
    omega
  rw [e]
  exact Cert.PoolIdeal.Pooled.count_nat _ k hj hk w hw

/-- The quotient of the difference of two cumulative sums by the count is the mean. -/
theorem quotient (hs : ∀ b p c, ∃ r : ℝ, seq x0 b p c = r) (g : ℕ) (hg : g ≤ 3) (i : S2x8192x512.Idx) (u v w : EReal)
    (hu : u = cum (seq x0 (i 0).val) ((i 1).val + 1) (512 * g + (i 2).val))
    (hv : v = cum (seq x0 (i 0).val) ((i 1).val + 1 - 2 ^ (g + 1)) (512 * g + (i 2).val)) (hw : w = cnt (g + 1) (i 1).val) :
    Ideal.div (u - v) w = mean x0 g i := by
  rw [hu, hv, hw, window _ _ _ _ _ (fun p c hp => by unfold seq; rw [dif_pos hp]) (fun p => hs _ p _) (by omega)]
  rfl

/-- Each group's quotient is its mean. -/
theorem mean0 (hs : ∀ b p c, ∃ r : ℝ, seq x0 b p c = r) (i : S2x8192x512.Idx) : (val_main_v17 (F := Ideal) x0 i : EReal) = mean x0 0 i := by
  have h1 : (i 1).val < 8192 := (i 1).isLt
  have e4 : (val_main_v14 (F := Ideal) x0 i : EReal) = cum (seq x0 (i 0).val) ((i 1).val + 1) (0 + (i 2).val) := by
    rw [val_main_v14_apply, cum_at]; simp
  have e5 : (val_main_v8 (F := Ideal) x0 i : EReal) = cum (seq x0 (i 0).val) ((i 1).val + 1 - 2 ^ 1) (0 + (i 2).val) := by
    rw [val_main_v8_apply, padded_at]
    refine congrArg₂ (cum _) ?_ ?_
    · show 14 + (i 1).val + 1 - 16 = _; omega
    · simp
  have ec : (val_main_v16 (F := Ideal) i : EReal) = cnt 1 (i 1).val := by
    simp only [val_main_v16_apply, val_main_v13_apply, val_main_v12_apply, val_main_v10_apply, val_main_v9_apply, val_main_c_0_apply, val_main_v11_apply, val_main_c_1_apply]
    exact count_ref _ 1 h1 (by decide) _ rfl
  exact quotient x0 hs 0 (by decide) i _ _ _ e4 e5 ec

/-- The same of the next group. -/
theorem mean1 (hs : ∀ b p c, ∃ r : ℝ, seq x0 b p c = r) (i : S2x8192x512.Idx) : (val_main_v27 (F := Ideal) x0 i : EReal) = mean x0 1 i := by
  have h1 : (i 1).val < 8192 := (i 1).isLt
  have e4 : (val_main_v24 (F := Ideal) x0 i : EReal) = cum (seq x0 (i 0).val) ((i 1).val + 1) (512 + (i 2).val) := by
    rw [val_main_v24_apply, cum_at]
  have e5 : (val_main_v18 (F := Ideal) x0 i : EReal) = cum (seq x0 (i 0).val) ((i 1).val + 1 - 2 ^ 2) (512 + (i 2).val) := by
    rw [val_main_v18_apply, padded_at]
    refine congrArg₂ (cum _) ?_ ?_
    · show 12 + (i 1).val + 1 - 16 = _; omega
    · simp
  have ec : (val_main_v26 (F := Ideal) i : EReal) = cnt 2 (i 1).val := by
    simp only [val_main_v26_apply, val_main_v23_apply, val_main_v22_apply, val_main_v20_apply, val_main_v19_apply, val_main_c_2_apply, val_main_v21_apply, val_main_c_3_apply]
    exact count_ref _ 2 h1 (by decide) _ rfl
  exact quotient x0 hs 1 (by decide) i _ _ _ e4 e5 ec

/-- The same of the next group. -/
theorem mean2 (hs : ∀ b p c, ∃ r : ℝ, seq x0 b p c = r) (i : S2x8192x512.Idx) : (val_main_v37 (F := Ideal) x0 i : EReal) = mean x0 2 i := by
  have h1 : (i 1).val < 8192 := (i 1).isLt
  have e4 : (val_main_v34 (F := Ideal) x0 i : EReal) = cum (seq x0 (i 0).val) ((i 1).val + 1) (1024 + (i 2).val) := by
    rw [val_main_v34_apply, cum_at]
  have e5 : (val_main_v28 (F := Ideal) x0 i : EReal) = cum (seq x0 (i 0).val) ((i 1).val + 1 - 2 ^ 3) (1024 + (i 2).val) := by
    rw [val_main_v28_apply, padded_at]
    refine congrArg₂ (cum _) ?_ ?_
    · show 8 + (i 1).val + 1 - 16 = _; omega
    · simp
  have ec : (val_main_v36 (F := Ideal) i : EReal) = cnt 3 (i 1).val := by
    simp only [val_main_v36_apply, val_main_v33_apply, val_main_v32_apply, val_main_v30_apply, val_main_v29_apply, val_main_c_4_apply, val_main_v31_apply, val_main_c_5_apply]
    exact count_ref _ 3 h1 (by decide) _ rfl
  exact quotient x0 hs 2 (by decide) i _ _ _ e4 e5 ec

/-- The same of the next group. -/
theorem mean3 (hs : ∀ b p c, ∃ r : ℝ, seq x0 b p c = r) (i : S2x8192x512.Idx) : (val_main_v47 (F := Ideal) x0 i : EReal) = mean x0 3 i := by
  have h1 : (i 1).val < 8192 := (i 1).isLt
  have e4 : (val_main_v44 (F := Ideal) x0 i : EReal) = cum (seq x0 (i 0).val) ((i 1).val + 1) (1536 + (i 2).val) := by
    rw [val_main_v44_apply, cum_at]
  have e5 : (val_main_v38 (F := Ideal) x0 i : EReal) = cum (seq x0 (i 0).val) ((i 1).val + 1 - 2 ^ 4) (1536 + (i 2).val) := by
    rw [val_main_v38_apply, padded_at]
    refine congrArg₂ (cum _) ?_ ?_
    · show (i 1).val + 1 - 16 = _; omega
    · simp
  have ec : (val_main_v46 (F := Ideal) i : EReal) = cnt 4 (i 1).val := by
    simp only [val_main_v46_apply, val_main_v43_apply, val_main_v42_apply, val_main_v40_apply, val_main_v39_apply, val_main_c_6_apply, val_main_v41_apply, val_main_c_7_apply]
    exact count_ref _ 4 h1 (by decide) _ rfl
  exact quotient x0 hs 3 (by decide) i _ _ _ e4 e5 ec

set_option maxRecDepth 65536 in
/-- The four groups' means joined, at an index. -/
theorem means_at (hs : ∀ b p c, ∃ r : ℝ, seq x0 b p c = r) (i : S2x8192x4x512.Idx) :
    (val_main_v52 (F := Ideal) x0 i : EReal) = mean x0 (i 2).val (ix3 ⟨(i 0).val, (i 0).isLt⟩ ⟨(i 1).val, (i 1).isLt⟩ ⟨(i 3).val, (i 3).isLt⟩) := by
  have h2 : (i 2).val < 4 := (i 2).isLt
  have piece : ∀ (xs : List ((s : Shape) × (s.Idx → EReal))) (h : Shape.Concatenates (xs.map (·.1)) S2x8192x4x512 2)
      (k : Nat) (hk : k < xs.length) (x : S2x8192x1x512.Idx → EReal) (hx : xs[k] = ⟨S2x8192x1x512, x⟩)
      (ho : (((xs.take k).map (·.1)).map fun s => if h : s.rank = 4 then s.size ((2 : Fin 4).cast h.symm) else 0).sum = k) (hik : (i 2).val = k),
      concatenate S2x8192x4x512 2 xs h i = x (ix4 ⟨(i 0).val, (i 0).isLt⟩ ⟨(i 1).val, (i 1).isLt⟩ 0 ⟨(i 3).val, (i 3).isLt⟩) := by
    intro xs h k hk x hx ho hik
    refine concatenate_apply_piece 2 xs h i k hk S2x8192x1x512 x hx rfl k ho _ ?_ ?_
    · intro d hd; match d with
      | ⟨0, _⟩ => rfl
      | ⟨1, _⟩ => rfl
      | ⟨2, _⟩ => exact absurd rfl hd
      | ⟨3, _⟩ => rfl
    · show k + 0 = (i 2).val; omega
  unfold val_main_v52
  obtain c | c | c | c : (i 2).val = 0 ∨ (i 2).val = 1 ∨ (i 2).val = 2 ∨ (i 2).val = 3 := by omega
  · rw [c]
    refine (piece _ _ 0 (Nat.lt_of_sub_eq_succ rfl) (val_main_v48 (F := Ideal) x0) rfl rfl c).trans ?_
    rw [val_main_v48_apply]; exact mean0 x0 hs _
  · rw [c]
    refine (piece _ _ 1 (Nat.lt_of_sub_eq_succ rfl) (val_main_v49 (F := Ideal) x0) rfl rfl c).trans ?_
    rw [val_main_v49_apply]; exact mean1 x0 hs _
  · rw [c]
    refine (piece _ _ 2 (Nat.lt_of_sub_eq_succ rfl) (val_main_v50 (F := Ideal) x0) rfl rfl c).trans ?_
    rw [val_main_v50_apply]; exact mean2 x0 hs _
  · rw [c]
    refine (piece _ _ 3 (Nat.lt_of_sub_eq_succ rfl) (val_main_v51 (F := Ideal) x0) rfl rfl c).trans ?_
    rw [val_main_v51_apply]; exact mean3 x0 hs _

/-- The means less the entry itself, at an index. -/
theorem diff_at (hs : ∀ b p c, ∃ r : ℝ, seq x0 b p c = r) (i : S2x8192x4x512.Idx) (b s g k : ℕ) (hb : (i 0).val = b) (hs' : (i 1).val = s)
    (hg : (i 2).val = g) (hk : (i 3).val = k) :
    (val_main_v54 (F := Ideal) x0 i : EReal)
      = Ideal.div (lev (seq x0 b) (512 * g) (g + 1) (32 + s) k) (cnt (g + 1) s) - lev (seq x0 b) (512 * g) 0 (32 + s) k := by
  have h0 : (i 0).val < 2 := (i 0).isLt
  have h1 : (i 1).val < 8192 := (i 1).isLt
  have h2 : (i 2).val < 4 := (i 2).isLt
  have h3 : (i 3).val < 512 := (i 3).isLt
  subst hb hs' hg hk
  refine (val_main_v54_apply x0 i).trans (congrArg₂ (fun a b : EReal => a - b) (means_at x0 hs i) ?_)
  rw [val_main_v53_apply, u_at]
  have a0 : ((((i 0).val * 8192 + (i 1).val) * 4 + (i 2).val) * 512 + (i 3).val) / 16777216 = (i 0).val := by omega
  have a1 : ((((i 0).val * 8192 + (i 1).val) * 4 + (i 2).val) * 512 + (i 3).val) / 2048 % 8192 = (i 1).val := by omega
  have a2 : ((((i 0).val * 8192 + (i 1).val) * 4 + (i 2).val) * 512 + (i 3).val) % 2048 = 512 * (i 2).val + (i 3).val := by omega
  show _ = seq x0 (i 0).val (32 + (i 1).val) (512 * (i 2).val + (i 3).val)
  exact congr (congrArg₂ (seq x0) a0 (congrArg (fun n => 32 + n) a1)) a2

/-- The reference's result is the kernel's, where every entry of the first columns is a real. -/
theorem ref_eq (hs : ∀ b p c, ∃ r : ℝ, seq x0 b p c = r) : val_main_v63 (F := Ideal) x0 x1 x2 = pooled x0 x1 x2 := by
  funext y
  have h0 : (y 0).val < 16384 := (y 0).isLt
  have h1 : (y 1).val < 2048 := (y 1).isLt
  refine (val_main_v63_apply x0 x1 x2 y).trans ((val_main_v62_apply x0 x1 x2 y).trans ?_)
  generalize hi : idx_main_v62 y = i
  have i0 : (i 0).val = (y 0).val / 8192 := by rw [← hi]; show ((y 0).val * 2048 + (y 1).val) / 16777216 = _; omega
  have i1 : (i 1).val = (y 0).val % 8192 := by rw [← hi]; show ((y 0).val * 2048 + (y 1).val) / 2048 % 8192 = _; omega
  have i2 : (i 2).val = (y 1).val := by rw [← hi]; show ((y 0).val * 2048 + (y 1).val) % 2048 = _; omega
  unfold pooled
  refine congrArg₂ (fun a b : EReal => a * b) (congrArg₂ (fun a b : EReal => a * b) ?_ ?_) ?_
  · rw [val_main_v57_apply, val_main_v56_apply, val_main_v55_apply]
    refine Finset.sum_congr rfl fun k _ => (mul_comm _ _).trans (congrArg₂ (fun a b : EReal => a * b) (diff_at x0 hs _ _ _ _ _ ?_ ?_ ?_ ?_) (congrArg x1 (funext fun d => Fin.ext ?_)))
    · show (((i 0).val * 8192 + (i 1).val) * 2048 + (i 2).val) / 16777216 = _; omega
    · show (((i 0).val * 8192 + (i 1).val) * 2048 + (i 2).val) / 2048 % 8192 = _; omega
    · show (((i 0).val * 8192 + (i 1).val) * 2048 + (i 2).val) / 512 % 4 = _; omega
    · rfl
    · match d with
      | ⟨0, _⟩ => show (((i 0).val * 8192 + (i 1).val) * 2048 + (i 2).val) / 512 % 4 = (y 1).val / 512; omega
      | ⟨1, _⟩ => rfl
      | ⟨2, _⟩ => show (((i 0).val * 8192 + (i 1).val) * 2048 + (i 2).val) % 512 = (y 1).val % 512; omega
  · rw [val_main_v59_apply, val_main_v58_apply]
    refine congrArg x2 (funext fun d => ?_)
    match d with
    | ⟨0, _⟩ => exact Fin.ext i2
  · refine gate_at x0 i _ ?_ ?_
    · show (y 0).val = _; omega
    · show 2048 + (y 1).val = _; omega

/-- The precondition says that every entry of the first columns is a real. -/
theorem finite [Cert.Pre_finite_inputs.Facts] (h : Cert.Pre_finite_inputs.fn (F := Ideal) x0 x1 x2 = fun _ => 1#1) :
    ∀ b p c, ∃ r : ℝ, seq x0 b p c = r := by
  intro b p c
  unfold seq
  split
  · exact ⟨0, rfl⟩
  · split
    · rename_i hp hc
      have h0 := congrFun h (ix2 ⟨b * 8192 + (p - 32), by omega⟩ ⟨c, by omega⟩)
      unfold Cert.Pre_finite_inputs.fn at h0
      refine Cert.Proof.InProjClaims.real_of_cmp _ _ Cert.Proof.InProjClaims.inf16 (Eq.trans ?_ h0)
      refine congrArg₂ (Ideal.cmp .olt) (congrArg (fun v : EReal => max v (-v)) ?_) rfl
      refine congrArg x0 (funext fun d => Fin.ext ?_)
      match d with
      | ⟨0, _⟩ => show b * 8192 + (p - 32) = 0 + (b * 8192 + (p - 32)); omega
      | ⟨1, _⟩ => show c = 0 + c; omega
    · exact ⟨0, rfl⟩

/-- The side conditions of the precondition's own program. -/
instance preFacts : Cert.Pre_finite_inputs.Facts where
  slices_S16384x20480_S16384x2048_0_0 := by decide +kernel
  bcast_S_S16384x2048 := by decide +kernel

/-- Frames of the three programs. -/
theorem frame_ideal [Cert.Pre_finite_inputs.Facts] : Cert.quiescent_PoolIdeal := fun m ρ _ => Cert.PoolIdeal.Gen.frame m ρ
/-- The kernel's own frame. -/
theorem frame : Cert.quiescent_Pool := fun m ρ _ => Cert.Pool.Gen.frame m ρ
/-- The reference's frame. -/
theorem frame_ref [Cert.Pre_finite_inputs.Facts] : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- The same two frames for every initial memory. -/
theorem frame_ideal_free : Cert.quiescent_PoolIdeal_pre_none := fun m ρ _ => Cert.PoolIdeal.Gen.frame m ρ
/-- The reference's frame for every initial memory. -/
theorem frame_ref_free : Cert.quiescent_PoolRefIdeal_pre_none := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- The kernel's result and the reference's are the same function of the same arguments. -/
theorem algebraic [Cert.Pre_finite_inputs.Facts] : Cert.algebraic_PoolIdeal_PoolRefIdeal := by
  intro m ρ m' ρ' hpre hagree
  refine ⟨fun c => pooled (m (c.tc.loc Cert.PoolIdeal.main_arg0)) (m (c.tc.loc Cert.PoolIdeal.main_arg1)) (m (c.tc.loc Cert.PoolIdeal.main_arg2)), ?_, ?_⟩
  · exact (θ_run Cert.PoolIdeal.defs _ _).mono (fun _ h c => ⟨(h c).1.trans (Cert.PoolIdeal.Pooled.final m c), (h c).2⟩)
      (Cert.PoolIdeal.Value.run_blocks (F := Ideal) m ρ)
  · refine (θ_run Cert.PoolRefIdeal.defs _ _).mono (fun _ h c => ?_) (Cert.PoolRefIdeal.Value.run (F := Ideal) m' ρ')
    obtain ⟨e0, e1, e2⟩ := hagree c
    refine ⟨(h c).1.trans ((val_main_v63_eq m' c).trans ?_), (h c).2⟩
    rw [e0, e1, e2]
    exact ref_eq _ _ _ (finite _ _ _ (hpre c))

end Cert.Proof.PoolClaims

end
-- ==== Proof.MergeValue.lean ====
/-
  The gated merge `m_pool * (y_pool @ w_pool_b) + m_attn * (y_attn @ w_attn_b)`, the gates two column ranges of the input
  projection's output: what its pipelined kernel leaves in the result array at `Ideal`.
-/
module

public import proofs.«01_k».proof.Defs
public import proofs.«01_k».proof.Proof.Gen.MergeIdeal.Value
public import proofs.«01_k».proof.Proof.Gen.MergeRefIdeal.Read
public import proofs.«01_k».proof.Proof.Gen.Merge.Frame
public import Idealize.ShloMosaic.Lib.Pipeline.Value
public import Idealize.ShloMosaic.Lib.Pointwise
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.Gated

open Cert.MergeIdeal Cert.MergeIdeal.Gen

/-- The gated sum of two products, over blocks: `x4`, `x5` the gates' blocks. -/
def gated (x0 x1 : Vec Ideal S1024x2048 .bf16) (x2 x3 : Vec Ideal S2048x1024 .bf16) (x4 x5 : Vec Ideal S1024x1024 .bf16) :
    Vec Ideal S1024x1024 .bf16 := fun y =>
  ((x4 y : EReal) * (∑ k : Fin 2048, (x0 (ix2 (y 0) k) : EReal) * x2 (ix2 k (y 1)))
    + (x5 y : EReal) * (∑ k : Fin 2048, (x1 (ix2 (y 0) k) : EReal) * x3 (ix2 k (y 1))) : EReal)

/-- The gated sum at an index, from the index's coordinates. -/
theorem gated_at (x0 x1 : Vec Ideal S1024x2048 .bf16) (x2 x3 : Vec Ideal S2048x1024 .bf16) (x4 x5 : Vec Ideal S1024x1024 .bf16)
    (r c : Nat) (hr : r < 1024) (hc : c < 1024) (y : S1024x1024.Idx) (h0 : (y 0).val = r) (h1 : (y 1).val = c) :
    ((x4 (ix2 ⟨r, hr⟩ ⟨c, hc⟩) : EReal) * (∑ k : Fin 2048, (x0 (ix2 ⟨r, hr⟩ k) : EReal) * x2 (ix2 k ⟨c, hc⟩))
      + (x5 (ix2 ⟨r, hr⟩ ⟨c, hc⟩) : EReal) * (∑ k : Fin 2048, (x1 (ix2 ⟨r, hr⟩ k) : EReal) * x3 (ix2 k ⟨c, hc⟩)) : EReal)
      = gated x0 x1 x2 x3 x4 x5 y := by
  subst h0 h1
  have e : ix2 (y 0) (y 1) = y := (eq_ix2 y).symm
  exact congrArg₂ (· + ·) (congrArg (· * _) (congrArg x4 e)) (congrArg (· * _) (congrArg x5 e))

/-- The whole body: whatever tile an index of the block lies in, the block holds the gated sum there. -/
theorem out_eq (x0 x1 : Vec Ideal S1024x2048 .bf16) (x2 x3 : Vec Ideal S2048x1024 .bf16) (x4 x5 : Vec Ideal S1024x1024 .bf16) :
    out0_6 x0 x1 x2 x3 x4 x5 = gated x0 x1 x2 x3 x4 x5 := by
  funext y
  unfold out0_6
  refine View.canon_apply_of_pieces (gated x0 x1 x2 x3 x4 x5) _ ?_ y (cover0_6 _ _ _ _ _ _ _ _ y)
  simp only [List.forall_mem_cons, List.not_mem_nil, false_imp_iff, implies_true, and_true]
  refine ⟨?_, ?_, ?_, ?_, ?_, ?_, ?_, ?_⟩ <;> intro x <;> unfold_payloads <;> pointwise <;>
    refine gated_at x0 x1 x2 x3 x4 x5 _ _ _ _ _ ?_ ?_ <;>
    first | exact ValueKit.rect_emb_unit_val .. | exact (ValueKit.rect_emb_unit_val ..).trans (Nat.zero_add _)

variable (m : (ℓ : Loc nD τ sig) → Buf (Elt Ideal) ℓ) (ρ : Dev nD → PrngReg)

/-- The gated sum of the whole arguments: the gates at columns 12288 and 16384 of the projection `z`. -/
def whole (p q : Vec Ideal S16384x2048 .bf16) (v w : Vec Ideal S2048x4096 .bf16) (z : Vec Ideal S16384x20480 .bf16) :
    Vec Ideal S16384x4096 .bf16 := fun y =>
  ((z (ix2 (y 0) ⟨12288 + (y 1).val, Nat.add_lt_add_left (y 1).isLt 12288 |>.trans_le (by decide)⟩) : EReal)
      * (∑ k : Fin 2048, (p (ix2 (y 0) k) : EReal) * v (ix2 k (y 1)))
    + (z (ix2 (y 0) ⟨16384 + (y 1).val, Nat.add_lt_add_left (y 1).isLt 16384 |>.trans_le (by decide)⟩) : EReal)
      * (∑ k : Fin 2048, (q (ix2 (y 0) k) : EReal) * w (ix2 k (y 1))) : EReal)

/-- A block's gated sum is the whole one where the blocks are the arguments' rows and columns. -/
theorem gated_eq_whole {x0 x1 : Vec Ideal S1024x2048 .bf16} {x2 x3 : Vec Ideal S2048x1024 .bf16} {x4 x5 : Vec Ideal S1024x1024 .bf16}
    {y : S1024x1024.Idx} {p q : Vec Ideal S16384x2048 .bf16} {v w : Vec Ideal S2048x4096 .bf16} {z : Vec Ideal S16384x20480 .bf16}
    {i : S16384x4096.Idx}
    (h0 : ∀ k : Fin 2048, x0 (ix2 (y 0) k) = p (ix2 (i 0) k)) (h1 : ∀ k : Fin 2048, x1 (ix2 (y 0) k) = q (ix2 (i 0) k))
    (h2 : ∀ k : Fin 2048, x2 (ix2 k (y 1)) = v (ix2 k (i 1))) (h3 : ∀ k : Fin 2048, x3 (ix2 k (y 1)) = w (ix2 k (i 1)))
    (h4 : x4 y = z (ix2 (i 0) ⟨12288 + (i 1).val, Nat.add_lt_add_left (i 1).isLt 12288 |>.trans_le (by decide)⟩))
    (h5 : x5 y = z (ix2 (i 0) ⟨16384 + (i 1).val, Nat.add_lt_add_left (i 1).isLt 16384 |>.trans_le (by decide)⟩)) :
    gated x0 x1 x2 x3 x4 x5 y = whole p q v w z i := by
  unfold gated whole
  rw [h4, h5]
  simp only [h0, h1, h2, h3]

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![0, (grid0.coords t 1).val] := (by decide +kernel : ∀ t : Fin grid0.N, _)
theorem idx4 : ∀ t : Fin cfg0.N, win0_4.index t = ![(grid0.coords t 0).val, 12 + (grid0.coords t 1).val] :=
  (by decide +kernel : ∀ t : Fin grid0.N, _)
theorem idx5 : ∀ t : Fin cfg0.N, win0_5.index t = ![(grid0.coords t 0).val, 16 + (grid0.coords t 1).val] :=
  (by decide +kernel : ∀ t : Fin grid0.N, _)
theorem idx6 : ∀ t : Fin cfg0.N, win0_6.index t = ![(grid0.coords t 0).val, (grid0.coords t 1).val] :=
  (by decide +kernel : ∀ t : Fin grid0.N, _)

/-- The result array after the run is the gated sum of the arguments. -/
theorem final (c : Dev nD) : (dats m 0 c).arrAt 6 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6, out_eq]
  refine gated_eq_whole (fun k => ?_) (fun k => ?_) (fun k => ?_) (fun k => ?_) ?_ ?_ <;> blk_simp [iblk]
  · rw [V_main_arg0]
    refine congrArg _ ?_
    blk_ext [idx0 t, idx6 t]
  · rw [V_main_arg1]
    refine congrArg _ ?_
    blk_ext [idx1 t, idx6 t]
  · rw [V_main_arg2]
    refine congrArg _ ?_
    blk_ext [idx2 t, idx6 t]
  · rw [V_main_arg3]
    refine congrArg _ ?_
    blk_ext [idx3 t, idx6 t]
  · rw [V_main_arg4]
    refine congrArg _ ?_
    blk_ext [idx4 t, idx6 t]
  · rw [V_main_arg4]
    refine congrArg _ ?_
    blk_ext [idx5 t, idx6 t]

end Cert.MergeIdeal.Gated

namespace Cert.Proof.MergeClaims

open Cert.MergeRefIdeal.Read

/-- The reference's value is the gated sum of its arguments. -/
theorem ref_eq (p q : Vec Ideal Cert.MergeRefIdeal.S16384x2048 .bf16) (v w : Vec Ideal Cert.MergeRefIdeal.S2048x4096 .bf16)
    (z : Vec Ideal Cert.MergeRefIdeal.S16384x20480 .bf16) :
    val_main_v12 (F := Ideal) p q v w z = Cert.MergeIdeal.Gated.whole p q v w z := by
  funext i
  show (val_main_v1 (F := Ideal) z i : EReal) * (val_main_v5 (F := Ideal) p v i : EReal)
    + (val_main_v2 (F := Ideal) z i : EReal) * (val_main_v9 (F := Ideal) q w i : EReal) = _
  rw [val_main_v1_apply, val_main_v2_apply, val_main_v5_apply, val_main_v9_apply]
  unfold Cert.MergeIdeal.Gated.whole
  have e2 {n d : Nat} (f g : (⟨2, ![n, d]⟩ : Shape).Idx) (h0 : f 0 = g 0) (h1 : f 1 = g 1) : f = g := by
    funext d; match d with
    | ⟨0, _⟩ => exact h0
    | ⟨1, _⟩ => exact h1
  refine congrArg₂ _ (congrArg₂ _ (congrArg z (e2 _ _ rfl rfl)) (Finset.sum_congr rfl fun k _ => ?_))
    (congrArg₂ _ (congrArg z (e2 _ _ rfl rfl)) (Finset.sum_congr rfl fun k _ => ?_))
  · exact congrArg₂ _ (congrArg p (e2 _ _ rfl rfl)) (congrArg v (e2 _ _ rfl rfl))
  · exact congrArg₂ _ (congrArg q (e2 _ _ rfl rfl)) (congrArg w (e2 _ _ rfl rfl))

/-- Frames of the three programs. -/
theorem frame_ideal : Cert.quiescent_MergeIdeal := fun m ρ _ => Cert.MergeIdeal.Gen.frame m ρ
theorem frame : Cert.quiescent_Merge := fun m ρ _ => Cert.Merge.Gen.frame m ρ
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel's result and the reference's are the same gated sum of the same arguments. -/
theorem algebraic : Cert.algebraic_MergeIdeal_MergeRefIdeal := by
  intro m ρ m' ρ' _ hagree
  refine ⟨fun c => Cert.MergeIdeal.Gated.whole (m (c.tc.loc Cert.MergeIdeal.main_arg0)) (m (c.tc.loc Cert.MergeIdeal.main_arg1))
    (m (c.tc.loc Cert.MergeIdeal.main_arg2)) (m (c.tc.loc Cert.MergeIdeal.main_arg3)) (m (c.tc.loc Cert.MergeIdeal.main_arg4)), ?_, ?_⟩
  · exact (θ_run Cert.MergeIdeal.defs _ _).mono
      (fun _ h c => ⟨(h c).1.trans (Cert.MergeIdeal.Gated.final m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    obtain ⟨h0, h1, h2, h3, h4⟩ := hagree c
    rw [h0, h1, h2, h3, h4]
    exact (val_main_v12_eq _ _ _ _ _).trans (ref_eq _ _ _ _ _)

end Cert.Proof.MergeClaims

end
-- ==== Proof.OutProjValue.lean ====
/-
  The out projection `merged @ w_out`: what its pipelined kernel leaves in the result array at `Ideal`, and that it is
  the plain product of the two arguments, which is also what the reference computes.
-/
module

public import proofs.«01_k».proof.Defs
public import proofs.«01_k».proof.Proof.Gen.OutProjIdeal.Value
public import proofs.«01_k».proof.Proof.Gen.OutProjRefIdeal.Read
public import proofs.«01_k».proof.Proof.Gen.OutProj.Frame
public import Idealize.ShloMosaic.Lib.Pipeline.Value
public import Idealize.ShloMosaic.Lib.Pointwise
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Product

open Cert.OutProjIdeal Cert.OutProjIdeal.Gen

/-- The product of a [1024, 4096] row block and a [4096, 1024] column block. -/
def prod (x0 : Vec Ideal S1024x4096 .bf16) (x1 : Vec Ideal S4096x1024 .bf16) : Vec Ideal S1024x1024 .bf16 :=
  fun y => (∑ k : Fin 4096, (x0 (ix2 (y 0) k) : EReal) * x1 (ix2 k (y 1)) : EReal)

/-- One tile of the body: the product of 512 loaded rows and 256 loaded columns, at an index. -/
theorem tile (a : FVec Ideal S512x4096 .bf16) (b : FVec Ideal S4096x256 .bf16) (j : S512x256.Idx) :
    truncf .bf16 (matmul dot_S512x4096_S4096x256_S512x256_1_0_0_1_n_n none a b (constant S512x256 .f32 0x00000000#32)) bitsLt_bf16_f32 j
      = (∑ k : Fin 4096, (a (ix2 (j 0) k) : EReal) * b (ix2 k (j 1)) : EReal) := by
  pointwise

/-- The product of two blocks at an index, from the index's coordinates. -/
theorem prod_at (x0 : Vec Ideal S1024x4096 .bf16) (x1 : Vec Ideal S4096x1024 .bf16) (r c : Nat) (hr : r < 1024) (hc : c < 1024)
    (y : S1024x1024.Idx) (h0 : (y 0).val = r) (h1 : (y 1).val = c) :
    (∑ k : Fin 4096, (x0 (ix2 ⟨r, hr⟩ k) : EReal) * x1 (ix2 k ⟨c, hc⟩) : EReal) = prod x0 x1 y := by
  subst h0 h1; rfl

/-- The whole body: whatever tile an index of the block lies in, the block holds the product there. -/
theorem out_eq (x0 : Vec Ideal S1024x4096 .bf16) (x1 : Vec Ideal S4096x1024 .bf16) : out0_2 x0 x1 = prod x0 x1 := by
  funext y
  unfold out0_2
  refine View.canon_apply_of_pieces (prod x0 x1) _ ?_ y (cover0_2 _ _ _ _ _ _ _ _ y)
  simp only [List.forall_mem_cons, List.not_mem_nil, false_imp_iff, implies_true, and_true]
  refine ⟨?_, ?_, ?_, ?_, ?_, ?_, ?_, ?_⟩ <;> intro x <;> refine (tile _ _ x).trans ?_ <;> pointwise <;>
    refine prod_at x0 x1 _ _ _ _ _ ?_ ?_ <;>
    first | exact ValueKit.rect_emb_unit_val .. | exact (ValueKit.rect_emb_unit_val ..).trans (Nat.zero_add _)

variable (m : (ℓ : Loc nD τ sig) → Buf (Elt Ideal) ℓ) (ρ : Dev nD → PrngReg)

/-- The product of the two whole arguments, what the result array is shown to hold. -/
def whole (a : Vec Ideal S16384x4096 .bf16) (b : Vec Ideal S4096x4096 .bf16) : Vec Ideal S16384x4096 .bf16 :=
  fun y => (∑ k : Fin 4096, (a (ix2 (y 0) k) : EReal) * b (ix2 k (y 1)) : EReal)

/-- A block's product is the whole product where the blocks are the arguments' rows and columns. -/
theorem prod_eq_whole {x0 : Vec Ideal S1024x4096 .bf16} {x1 : Vec Ideal S4096x1024 .bf16} {y : S1024x1024.Idx}
    {a : Vec Ideal S16384x4096 .bf16} {b : Vec Ideal S4096x4096 .bf16} {i : S16384x4096.Idx}
    (h0 : ∀ k : Fin 4096, x0 (ix2 (y 0) k) = a (ix2 (i 0) k)) (h1 : ∀ k : Fin 4096, x1 (ix2 k (y 1)) = b (ix2 k (i 1))) :
    prod x0 x1 y = whole a b i :=
  Finset.sum_congr rfl fun k _ => by rw [h0, h1]

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The result array after the run is the product of the arguments. -/
theorem final (c : Dev nD) : (dats m 0 c).arrAt 2 cfg0.N
    = whole (m ((c : Thread nD τ).loc main_arg0)) (m ((c : Thread nD τ).loc main_arg1)) := by
  refine (dats m 0 c).arrAt_eq_of_covers 2 _ (by decide +kernel) fun t hf y => ?_
  blk_simp
  rw [after0_2, out_eq]
  refine prod_eq_whole (fun k => ?_) (fun k => ?_)
  · blk_simp [iblk]
    rw [V_main_arg0]
    refine congrArg _ ?_
    blk_ext [idx0 t, idx2 t]
  · blk_simp [iblk]
    rw [V_main_arg1]
    refine congrArg _ ?_
    blk_ext [idx1 t, idx2 t]

end Cert.OutProjIdeal.Product

end
-- ==== Proof.OutProjClaims.lean ====
/-
  The claims on the out projection: its frames, and that at `Ideal` its result is the reference's product.
-/
module

public import proofs.«01_k».proof.Proof.OutProjValue

@[expose] public section

set_option maxRecDepth 16384

noncomputable section

open Idealize.ShloMosaic Idealize.ShloMosaic.TcCoe Idealize.SL.Sem

namespace Cert.Proof.OutProjClaims

open Cert.OutProjRefIdeal.Read

/-- The reference's value is the product of its two arguments. -/
theorem ref_eq (a : Vec Ideal Cert.OutProjRefIdeal.S16384x4096 .bf16) (b : Vec Ideal Cert.OutProjRefIdeal.S4096x4096 .bf16) :
    val_main_v3 (F := Ideal) a b = Cert.OutProjIdeal.Product.whole a b := by
  funext i
  rw [val_main_v3_apply]
  refine (val_main_v2_apply a b i).trans ?_
  unfold Cert.OutProjIdeal.Product.whole
  refine Finset.sum_congr rfl fun k _ => ?_
  refine congrArg₂ _ (congrArg a ?_) (congrArg b ?_) <;> funext d <;> match d with
    | ⟨0, _⟩ => rfl
    | ⟨1, _⟩ => rfl

/-- Frames of the three programs. -/
theorem frame_ideal : Cert.quiescent_OutProjIdeal := fun m ρ _ => Cert.OutProjIdeal.Gen.frame m ρ
theorem frame : Cert.quiescent_OutProj := fun m ρ _ => Cert.OutProj.Gen.frame m ρ
theorem frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The kernel's result and the reference's are the same product of the same arguments. -/
theorem algebraic : Cert.algebraic_OutProjIdeal_OutProjRefIdeal := by
  intro m ρ m' ρ' _ hagree
  refine ⟨fun c => Cert.OutProjIdeal.Product.whole (m (c.tc.loc Cert.OutProjIdeal.main_arg0)) (m (c.tc.loc Cert.OutProjIdeal.main_arg1)), ?_, ?_⟩
  · exact (θ_run Cert.OutProjIdeal.defs _ _).mono
      (fun _ h c => ⟨(h c).1.trans (Cert.OutProjIdeal.Product.final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    rw [(hagree c).1, (hagree c).2]
    exact (val_main_v3_eq _ _).trans (ref_eq _ _)

end Cert.Proof.OutProjClaims

end
-- ==== Proof.PleValue.lean ====
/-
  The last residual `x + sigmoid(x @ w_gate) * (p @ w_proj)`, `x` the second residual with its normed projection: what its
  pipelined kernel leaves in the result array at `Ideal`, and that the reference computes the same.
-/
module

public import proofs.«01_k».proof.Defs
public import proofs.«01_k».proof.Proof.Gen.PleIdeal.Frame
public import Idealize.ShloMosaic.Lib.Pipeline.Value
public import proofs.«01_k».proof.Proof.Gen.PleRefIdeal.Read
public import proofs.«01_k».proof.Proof.Gen.Ple.Frame
public import proofs.«01_k».proof.Proof.Logistic
public import Idealize.ShloMosaic.Lib.Pointwise
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PleIdeal.Normed

open Cert.PleIdeal Cert.PleIdeal.Gen

/-- One over the root mean square of a row of length 4096. -/
def rstd {n : Nat} (t : FVec Ideal ⟨2, ![n, 4096]⟩ .bf16) (r : Fin n) : EReal :=
  Ideal.rsqrt (Ideal.div (∑ k : Fin 4096, (t (ix2 r k) : EReal) * t (ix2 r k) : EReal) (Ideal.ofBits .f32 0x45800000#32)
    + Ideal.ofBits .f32 0x358637BD#32)

/-- The residual: a row plus the normed row of the second array, times a gain. -/
def resid {n : Nat} (x : FVec Ideal ⟨2, ![n, 4096]⟩ .f32) (t : FVec Ideal ⟨2, ![n, 4096]⟩ .bf16) (g : FVec Ideal ⟨2, ![1, 4096]⟩ .f32)
    (y : (⟨2, ![n, 4096]⟩ : Shape).Idx) : EReal :=
  (x y : EReal) + t y * rstd t (y 0) * g (ix2 0 (y 1))

/-- The reciprocal root mean square the loop's trip computes on its rows. -/
theorem pay4_apply (v : Vec Ideal S16x4096 .bf16) (y : S16x1.Idx) : k0_pay4 v y = rstd v (y 0) := by
  pointwise [k0_pay4, k0_pay3, k0_pay2]
  rfl

/-- The residual the loop's trip computes on its rows. -/
theorem pay5_apply (v : Vec Ideal S16x4096 .bf16) (x : Vec Ideal S16x4096 .f32) (g : Vec Ideal S1x4096 .f32) (y : S16x4096.Idx) :
    k0_pay5 v x g y = resid x v g y := by
  pointwise [k0_pay5, k0_pay3, k0_pay2]
  rfl

/-- The reciprocal root mean square of rows that agree. -/
theorem rstd_congr {n n' : Nat} {t : FVec Ideal ⟨2, ![n, 4096]⟩ .bf16} {t' : FVec Ideal ⟨2, ![n', 4096]⟩ .bf16} {r : Fin n} {r' : Fin n'}
    (h : ∀ k : Fin 4096, (t (ix2 r k) : EReal) = t' (ix2 r' k)) : rstd t r = rstd t' r' := by
  unfold rstd
  simp only [h]

/-- The residual of rows that agree. -/
theorem resid_congr {n n' : Nat} {x : FVec Ideal ⟨2, ![n, 4096]⟩ .f32} {x' : FVec Ideal ⟨2, ![n', 4096]⟩ .f32}
    {t : FVec Ideal ⟨2, ![n, 4096]⟩ .bf16} {t' : FVec Ideal ⟨2, ![n', 4096]⟩ .bf16} {g g' : FVec Ideal ⟨2, ![1, 4096]⟩ .f32}
    {y : (⟨2, ![n, 4096]⟩ : Shape).Idx} {y' : (⟨2, ![n', 4096]⟩ : Shape).Idx}
    (hx : ∀ k : Fin 4096, x (ix2 (y 0) k) = x' (ix2 (y' 0) k)) (ht : ∀ k : Fin 4096, t (ix2 (y 0) k) = t' (ix2 (y' 0) k))
    (hg : ∀ k : Fin 4096, g (ix2 0 k) = g' (ix2 0 k)) (h1 : (y 1 : Fin 4096) = y' 1) : resid x t g y = resid x' t' g' y' := by
  obtain ⟨a, b, rfl⟩ : ∃ a b, y = ix2 a b := ⟨y 0, y 1, eq_ix2 y⟩
  obtain ⟨a', b', rfl⟩ : ∃ a b, y' = ix2 a b := ⟨y' 0, y' 1, eq_ix2 y'⟩
  change b = b' at h1
  subst h1
  unfold resid
  exact congrArg₂ (fun u v : EReal => u + v) (hx b) (congrArg₂ (fun u v : EReal => u * v)
    (congrArg₂ (fun u v : EReal => u * v) (ht b) (rstd_congr fun k => ht k)) (hg b))

/-- Two indices of a matrix with the same coordinates. -/
theorem ext2 {n d : Nat} {f g : (⟨2, ![n, d]⟩ : Shape).Idx} (h0 : (f 0).val = (g 0).val) (h1 : (f 1).val = (g 1).val) : f = g := by
  funext d
  match d with
  | ⟨0, _⟩ => exact Fin.ext h0
  | ⟨1, _⟩ => exact Fin.ext h1

section Loop
variable (𝒱 : Variants) (c : Dev nD) (bd : Option 𝒱.V) (i : grid0.Coords) (arg2 : Memref sig .tc .vmem S512x4096 .f32) (h2 : arg2.IsWhole)
  (arg3 : Memref sig .tc .vmem S512x4096 .bf16) (h3 : arg3.IsWhole) (arg4 : Memref sig .tc .vmem S512x512 .f32) (h4 : arg4.IsWhole)
  (arg5 : Memref sig .tc .vmem S512x512 .bf16) (h5 : arg5.IsWhole) (arg6 : Memref sig .tc .vmem S1x4096 .f32) (h6 : arg6.IsWhole)
  (arg7 : Memref sig .tc .vmem S4096x512 .bf16) (h7 : arg7.IsWhole) (arg8 : Memref sig .tc .vmem S512x256 .f32) (h8 : arg8.IsWhole)
  (arg9 : Memref sig .tc .vmem S256x512 .bf16) (h9 : arg9.IsWhole) (arg10 : Memref sig .tc .vmem S512x512 .f32) (h10 : arg10.IsWhole)
  (arg11 : Memref sig .tc .vmem S512x4096 .bf16) (h11 : arg11.IsWhole) (arg12 : Memref sig .tc .vmem S512x1 .f32) (h12 : arg12.IsWhole)
  (hc : k0_cond1 i = 1#1)
  (x : Vec Ideal S512x4096 .f32) (t : Vec Ideal S512x4096 .bf16) (g : Vec Ideal S1x4096 .f32)

/-- The trips' stores: whatever rows a trip stores are the residual's, and their reciprocal root mean squares. -/
theorem pieces (n : Nat) :
    (∀ p ∈ (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) n).1, ∀ y, p.2 y = resid x t g (p.1.emb y))
    ∧ (∀ p ∈ (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) n).2, ∀ y, p.2 y = rstd t (p.1.emb y 0)) := by
  induction n with
  | zero => exact ⟨fun p hp => absurd hp (by simp [pb_k0_t1]), fun p hp => absurd hp (by simp [pb_k0_t1])⟩
  | succ n ih =>
    by_cases hn : n < k0_t1_loop.trips
    · rw [pb_k0_t1_succ (F := Ideal) (k := ⟨n, hn⟩)]
      unfold tripL_k0_t1 trip_k0_t1
      refine ⟨fun p hp => ?_, fun p hp => ?_⟩
      · rcases List.mem_append.mp hp with hp | hp
        · rw [List.mem_singleton] at hp
          subst hp
          intro y
          refine (pay5_apply _ _ _ y).trans ?_
          simp only [View.readAt_eq_ld, Memref.IsWhole.read_unread]
          refine resid_congr (fun k => congrArg x (ext2 ?_ ?_)) (fun k => congrArg t (ext2 ?_ ?_)) (fun k => congrArg g (ext2 ?_ ?_)) (Fin.ext ?_)
          all_goals simp [k0_off1_eq]
        · exact ih.1 p hp
      · rcases List.mem_append.mp hp with hp | hp
        · rw [List.mem_singleton] at hp
          subst hp
          intro y
          refine (pay4_apply _ y).trans ?_
          simp only [View.readAt_eq_ld, Memref.IsWhole.read_unread]
          refine rstd_congr (fun k => congrArg t (ext2 ?_ ?_))
          all_goals simp [k0_off1_eq, k0_off2_eq]
        · exact ih.2 p hp
    · rw [pb_k0_t1.eq_2]
      unfold pb_k0_t1Step
      rw [dif_neg hn]
      exact ih

/-- What the loop leaves in the first scratch: the residual of its rows. -/
theorem canon_resid : View.canon (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) (Scf.trips 0#32 (Scalar.addi 0#32 32#32) 1#32)).1 = resid x t g := by
  funext y
  exact View.canon_apply_of_pieces (resid x t g) _ (pieces 𝒱 c bd i arg2 h2 arg3 h3 arg4 h4 arg5 h5 arg6 h6 arg7 h7 arg8 h8 arg9 h9 arg10 h10 arg11 h11 arg12 h12 hc x t g _).1 y
    (View.cover_of_tiledL (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) (Scf.trips 0#32 (Scalar.addi 0#32 32#32) 1#32)).1 S16x4096.size (by sl_kernel_rfl) y)

/-- What the loop leaves in the second scratch: their reciprocal root mean squares. -/
theorem canon_rstd : View.canon (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) (Scf.trips 0#32 (Scalar.addi 0#32 32#32) 1#32)).2 = fun y => rstd t (y 0) := by
  funext y
  exact View.canon_apply_of_pieces (fun y => rstd t (y 0)) _ (pieces 𝒱 c bd i arg2 h2 arg3 h3 arg4 h4 arg5 h5 arg6 h6 arg7 h7 arg8 h8 arg9 h9 arg10 h10 arg11 h11 arg12 h12 hc x t g _).2 y
    (View.cover_of_tiledL (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) (Scf.trips 0#32 (Scalar.addi 0#32 32#32) 1#32)).2 S16x1.size (by sl_kernel_rfl) y)

/-- The first scratch read whole after the loop. -/
theorem read_resid (w : View sig .tc .vmem S512x4096 .bf16) :
    w.readCov (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) (Scf.trips 0#32 (Scalar.addi 0#32 32#32) 1#32)).1 (Rect.unit ![0, 0] ![512, 4096] inb_S512x4096_S512x4096_0_0).toLoadRect = resid x t g := by
  rw [View.readCov_eq_canon', canon_resid]
  exact funext fun y => congrArg (resid x t g) (ext2 (by simp) (by simp))

/-- The second scratch read whole after the loop. -/
theorem read_rstd (w : View sig .tc .vmem S512x1 .f32) :
    w.readCov (pb_k0_t1 (F := Ideal) 𝒱 c bd i arg2 h2 arg3 h3 arg4 h4 arg5 h5 arg6 h6 arg7 h7 arg8 h8 arg9 h9 arg10 h10 arg11 h11 arg12 h12 hc (h2.unread x) (h3.unread t) (h6.unread g) (Scf.trips 0#32 (Scalar.addi 0#32 32#32) 1#32)).2 (Rect.unit ![0, 0] ![512, 1] inb_S512x1_S512x1_0_0).toLoadRect = fun y => rstd t (y 0) := by
  rw [View.readCov_eq_canon', canon_rstd]
  exact funext fun y => congrArg (rstd t) (Fin.ext (by simp))

end Loop

/-- The block stored, over the scratches' contents `X`, `R` and the blocks of the other operands; `j` its column of blocks. -/
def block (X : Vec Ideal S512x4096 .bf16) (R : Vec Ideal S512x1 .f32) (x : Vec Ideal S512x512 .f32) (t : Vec Ideal S512x512 .bf16)
    (g : Vec Ideal S1x4096 .f32) (w : Vec Ideal S4096x512 .bf16) (p : Vec Ideal S512x256 .f32) (v : Vec Ideal S256x512 .bf16) (j : Fin 8) :
    Vec Ideal S512x512 .f32 := fun y =>
  ((x y : EReal) + t y * R (ix2 (y 0) 0) * g (ix2 0 ⟨512 * j.val + (y 1).val, by have : (y 1).val < 512 := (y 1).isLt; omega⟩)
    + Ideal.logistic (∑ k : Fin 4096, (X (ix2 (y 0) k) : EReal) * w (ix2 k (y 1)) : EReal)
      * (∑ k : Fin 256, (p (ix2 (y 0) k) : EReal) * v (ix2 k (y 1)) : EReal) : EReal)

/-- The block at an index, from the index's coordinates, the logistic function in the kernel's spelling. -/
theorem block_at (X : Vec Ideal S512x4096 .bf16) (R : Vec Ideal S512x1 .f32) (x : Vec Ideal S512x512 .f32) (t : Vec Ideal S512x512 .bf16)
    (g : Vec Ideal S1x4096 .f32) (w : Vec Ideal S4096x512 .bf16) (p : Vec Ideal S512x256 .f32) (v : Vec Ideal S256x512 .bf16) (j : Fin 8)
    (r c : Fin 512) (a : Fin 1) (b : Fin 4096) (hb : b.val = 512 * j.val + c.val) (y : S512x512.Idx) (h0 : (y 0).val = r.val) (h1 : (y 1).val = c.val) :
    ((x (ix2 r c) : EReal) + t (ix2 r c) * R (ix2 r 0) * g (ix2 a b)
      + (Ideal.ofBits .f32 0x3F000000#32 * Ideal.tanh (Ideal.ofBits .f32 0x3F000000#32 * (∑ k : Fin 4096, (X (ix2 r k) : EReal) * w (ix2 k c)))
          + Ideal.ofBits .f32 0x3F000000#32) * (∑ k : Fin 256, (p (ix2 r k) : EReal) * v (ix2 k c)) : EReal)
      = block X R x t g w p v j y := by
  obtain rfl : r = y 0 := Fin.ext h0.symm
  obtain rfl : c = y 1 := Fin.ext h1.symm
  obtain rfl : a = 0 := Subsingleton.elim _ _
  have eb : b = ⟨512 * j.val + (y 1).val, by have : (y 1).val < 512 := (y 1).isLt; omega⟩ := Fin.ext hb
  have e : ix2 (y 0) (y 1) = y := (eq_ix2 y).symm
  rw [Cert.Proof.Logistic.at_all, eb]
  exact congrArg₂ (· + ·) (congrArg₂ (· + ·) (congrArg x e) (congrArg (fun z : EReal => z * _ * _) (congrArg t e))) rfl

/-- The two halves stored are the block. -/
theorem block_eq (i : grid0.Coords) (X : Vec Ideal S512x4096 .bf16) (R : Vec Ideal S512x1 .f32) (x : Vec Ideal S512x512 .f32) (t : Vec Ideal S512x512 .bf16)
    (g : Vec Ideal S1x4096 .f32) (w : Vec Ideal S4096x512 .bf16) (p : Vec Ideal S512x256 .f32) (v : Vec Ideal S256x512 .bf16) :
    View.canon (Val := Elt Ideal) [(⟨Rect.unit ![0, 256] S512x256.size inb_S512x512_S512x256_0_256,
            k0_pay1 (k0_pay9 p (View.ld v (Rect.unit ![0, 256] S256x256.size inb_S256x512_S256x256_0_256)))
              (k0_pay12 (View.ld x (Rect.unit ![0, 256] S512x256.size inb_S512x512_S512x256_0_256))
                (View.ld t (Rect.unit ![0, 256] S512x256.size inb_S512x512_S512x256_0_256)) R
                (View.ld g (Rect.unit (k0_off3 i 256#32) S1x256.size (k0_off3_inb i 1))))
              (k0_pay13 (k0_pay8 X (View.ld w (Rect.unit ![0, 256] S4096x256.size inb_S4096x512_S4096x256_0_256))))⟩ : View.Piece (Elt Ideal) S512x512 .f32),
          ⟨Rect.unit ![0, 0] S512x256.size inb_S512x512_S512x256_0_0,
            k0_pay11 (k0_pay6 X (View.ld w (Rect.unit ![0, 0] S4096x256.size inb_S4096x512_S4096x256_0_0)))
              (k0_pay7 p (View.ld v (Rect.unit ![0, 0] S256x256.size inb_S256x512_S256x256_0_0)))
              (View.ld x (Rect.unit ![0, 0] S512x256.size inb_S512x512_S512x256_0_0))
              (k0_pay10 (View.ld t (Rect.unit ![0, 0] S512x256.size inb_S512x512_S512x256_0_0))) R
              (View.ld g (Rect.unit (k0_off3 i 0#32) S1x256.size (k0_off3_inb i 0)))⟩] = block X R x t g w p v (i 1) := by
  funext y
  refine View.canon_apply_of_pieces (block X R x t g w p v (i 1)) _ ?_ y (View.cover_of_tiledL (s := S512x512) _ ![512, 256] (by sl_kernel_rfl) y)
  simp only [List.forall_mem_cons, List.not_mem_nil, false_imp_iff, implies_true, and_true]
  refine ⟨?_, ?_⟩ <;> intro (y : S512x256.Idx) <;> unfold_payloads <;> pointwise [k0_off3_eq]
  · refine block_at X R x t g w p v (i 1) (y 0) ⟨256 + (y 1).val, _⟩ _ _ ?_ _ ?_ ?_
    · have e : k0_off3 i 256#32 = ![0, 512 * (i 1).val + 256 * 1] := k0_off3_eq i 1
      simp [e, add_assoc]
    · simp
    · simp
  · refine block_at X R x t g w p v (i 1) (y 0) ⟨(y 1).val, _⟩ _ _ ?_ _ ?_ ?_
    · have e : k0_off3 i 0#32 = ![0, 512 * (i 1).val + 256 * 0] := k0_off3_eq i 0
      simp [e, add_assoc]
    · simp
    · simp

variable (m : (ℓ : Loc nD τ sig) → Buf (Elt Ideal) ℓ) (ρ : Dev nD → PrngReg)

theorem idx0 : ∀ t : Fin cfg0.N, t.val % 8 = 0 → win0_0.index t = ![t.val / 8, 0] := (by decide +kernel : ∀ t : Fin grid0.N, _)
theorem idx1 : ∀ t : Fin cfg0.N, t.val % 8 = 0 → win0_1.index t = ![t.val / 8, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val % 8] := (by decide +kernel : ∀ t : Fin grid0.N, _)
theorem idx6 : ∀ t : Fin cfg0.N, win0_6.index t = ![t.val / 8, 0] := (by decide +kernel : ∀ t : Fin grid0.N, _)
theorem idx7 : ∀ t : Fin cfg0.N, win0_7.index t = ![0, t.val % 8] := (by decide +kernel : ∀ t : Fin grid0.N, _)
theorem idx8 : ∀ t : Fin cfg0.N, win0_8.index t = ![t.val / 8, t.val % 8] := (by decide +kernel : ∀ t : Fin grid0.N, _)
theorem col : ∀ t : Fin cfg0.N, (grid0.coords t 1).val = t.val % 8 := (by decide +kernel : ∀ t : Fin grid0.N, _)

/-- The residual of the whole arguments, the gain as a row. -/
abbrev residual (c : Dev nD) : Vec Ideal S16384x4096 .bf16 := resid (V m c main_arg0) (V m c main_arg1) (V m c main_v0)

/-- The rows of a point's row of blocks. -/
def row (t : Fin cfg0.N) (a : Fin 512) : Fin 16384 := ⟨512 * (t.val / 8) + a.val, by
  have : t.val < 256 := t.isLt
  omega⟩

/-- The residual of the blocks of rows staged at the first point of a row of blocks. -/
theorem resid_first (c : Dev nD) (t : Fin cfg0.N) (h : t.val % 8 = 0) (y : S512x4096.Idx) :
    resid (iblk m c 0 t) (iblk m c 1 t) (iblk m c 4 t) y = residual m c (ix2 (row t (y 0)) (y 1)) := by
  refine resid_congr (fun k => ?_) (fun k => ?_) (fun k => ?_) rfl <;> blk_simp [iblk] <;> refine congrArg _ ?_
  · blk_ext [idx0 t h, row]
  · blk_ext [idx1 t h, row]
  · blk_ext [idx4 t]

/-- The reciprocal root mean squares of the rows staged at the first point of a row of blocks. -/
theorem rstd_first (c : Dev nD) (t : Fin cfg0.N) (h : t.val % 8 = 0) (a : Fin 512) :
    rstd (n := 512) (iblk m c 1 t) a = rstd (n := 16384) (V m c main_arg1) (row t a) := by
  refine rstd_congr fun k => ?_
  blk_simp [iblk]
  refine congrArg _ ?_
  blk_ext [idx1 t h, row]

/-- The scratches at the first point of a row of blocks: its rows' residual and reciprocal root mean squares. -/
theorem scratch_A (c : Dev nD) (t : Fin cfg0.N) (h : t.val % 8 = 0) :
    (∀ y : S512x4096.Idx, (outsAt0 m c t.val t.isLt).2.1 y = residual m c (ix2 (row t (y 0)) (y 1)))
    ∧ (∀ y : S512x1.Idx, (outsAt0 m c t.val t.isLt).2.2 y = rstd (V m c main_arg1) (row t (y 0))) := by
  rw [outsAt0_A m c t h]
  frame_out
  rw [canon_resid, canon_rstd]
  exact ⟨resid_first m c t h, fun y => rstd_first m c t h (y 0)⟩

/-- The scratches at every point of a row of blocks. -/
theorem scratch (c : Dev nD) (n : Nat) (hn : n < cfg0.N) :
    (∀ y : S512x4096.Idx, (outsAt0 m c n hn).2.1 y = residual m c (ix2 (row ⟨n, hn⟩ (y 0)) (y 1)))
    ∧ (∀ y : S512x1.Idx, (outsAt0 m c n hn).2.2 y = rstd (V m c main_arg1) (row ⟨n, hn⟩ (y 0))) := by
  induction n with
  | zero => exact scratch_A m c ⟨0, hn⟩ rfl
  | succ n ih =>
    by_cases h : (n + 1) % 8 = 0
    · exact scratch_A m c ⟨n + 1, hn⟩ h
    · rw [outsAt0_B m c ⟨n + 1, hn⟩ h]
      have e : ∀ a, row ⟨n + 1, hn⟩ a = row ⟨n, Nat.lt_of_succ_lt hn⟩ a := fun a => Fin.ext (by
        simp only [row]; omega)
      obtain ⟨i0, i1⟩ := ih (Nat.lt_of_succ_lt hn)
      exact ⟨fun y => (i0 y).trans (congrArg (fun r => residual m c (ix2 r (y 1))) (e (y 0)).symm),
        fun y => (i1 y).trans (congrArg (rstd (V m c main_arg1)) (e (y 0)).symm)⟩

/-- The block written back at the first point of a row of blocks. -/
theorem out_A (c : Dev nD) (t : Fin cfg0.N) (h : t.val % 8 = 0) : (outsAt0 m c t.val t.isLt).1
    = block (resid (iblk m c 0 t) (iblk m c 1 t) (iblk m c 4 t)) (fun y => rstd (iblk m c 1 t) (y 0)) (iblk m c 2 t) (iblk m c 3 t)
      (iblk m c 4 t) (iblk m c 5 t) (iblk m c 6 t) (iblk m c 7 t) (grid0.coords t 1) := by
  rw [outsAt0_A m c t h]
  frame_out
  rw [read_resid, read_rstd]
  exact block_eq (grid0.coords t) _ _ _ _ _ _ _ _

/-- The block written back at a later point of the row. -/
theorem out_B (c : Dev nD) (t : Fin cfg0.N) (h : ¬t.val % 8 = 0) : (outsAt0 m c t.val t.isLt).1
    = block (outsAt0 m c (t.val - 1) (Nat.lt_of_le_of_lt (Nat.sub_le _ _) t.isLt)).2.1 (outsAt0 m c (t.val - 1) (Nat.lt_of_le_of_lt (Nat.sub_le _ _) t.isLt)).2.2
      (iblk m c 2 t) (iblk m c 3 t) (iblk m c 4 t) (iblk m c 5 t) (iblk m c 6 t) (iblk m c 7 t) (grid0.coords t 1) := by
  rw [outsAt0_B m c t h]
  frame_out
  exact (block_eq (grid0.coords t) _ _ _ _ _ _ _ _).trans (congrArg₂ (fun X R => block X R (iblk m c 2 t) (iblk m c 3 t)
    (iblk m c 4 t) (iblk m c 5 t) (iblk m c 6 t) (iblk m c 7 t) (grid0.coords t 1))
    (Memref.IsWhole.read_unread _ _) (Memref.IsWhole.read_unread _ _))

/-- The block written back at any point, over the residual and the reciprocal root mean squares of its rows. -/
theorem out_any (c : Dev nD) (t : Fin cfg0.N) : ∃ (X : Vec Ideal S512x4096 .bf16) (R : Vec Ideal S512x1 .f32),
    (outsAt0 m c t.val t.isLt).1 = block X R (iblk m c 2 t) (iblk m c 3 t) (iblk m c 4 t) (iblk m c 5 t) (iblk m c 6 t)
      (iblk m c 7 t) (grid0.coords t 1)
    ∧ (∀ y : S512x4096.Idx, X y = residual m c (ix2 (row t (y 0)) (y 1)))
    ∧ (∀ y : S512x1.Idx, R y = rstd (V m c main_arg1) (row t (y 0))) := by
  by_cases h : t.val % 8 = 0
  · exact ⟨_, _, out_A m c t h, resid_first m c t h, fun y => rstd_first m c t h (y 0)⟩
  · refine ⟨_, _, out_B m c t h, ?_⟩
    have e : ∀ a, row ⟨t.val - 1, Nat.lt_of_le_of_lt (Nat.sub_le _ _) t.isLt⟩ a = row t a := fun a => Fin.ext (by
      simp only [row]; omega)
    obtain ⟨i0, i1⟩ := scratch m c (t.val - 1) (Nat.lt_of_le_of_lt (Nat.sub_le _ _) t.isLt)
    exact ⟨fun y => (i0 y).trans (congrArg (fun r => residual m c (ix2 r (y 1))) (e (y 0))),
      fun y => (i1 y).trans (congrArg (rstd (V m c main_arg1)) (e (y 0)))⟩

/-- The whole result: the residual plus the gate of its product times the other product. -/
def total (x : Vec Ideal S16384x4096 .f32) (t : Vec Ideal S16384x4096 .bf16) (g : Vec Ideal S1x4096 .f32) (w : Vec Ideal S4096x4096 .bf16)
    (p : Vec Ideal S16384x256 .f32) (v : Vec Ideal S256x4096 .f32) : Vec Ideal S16384x4096 .f32 := fun y =>
  (resid x t g y + Ideal.logistic (∑ k : Fin 4096, resid x t g (ix2 (y 0) k) * (w (ix2 k (y 1)) : EReal) : EReal)
      * (∑ k : Fin 256, (p (ix2 (y 0) k) : EReal) * v (ix2 k (y 1)) : EReal) : EReal)

/-- A block is the whole result where what it reads is the arguments' rows and columns. -/
theorem block_total {X : Vec Ideal S512x4096 .bf16} {R : Vec Ideal S512x1 .f32} {x : Vec Ideal S512x512 .f32} {t : Vec Ideal S512x512 .bf16}
    {g : Vec Ideal S1x4096 .f32} {w : Vec Ideal S4096x512 .bf16} {p : Vec Ideal S512x256 .f32} {v : Vec Ideal S256x512 .bf16} {j : Fin 8}
    {x' : Vec Ideal S16384x4096 .f32} {t' : Vec Ideal S16384x4096 .bf16} {g' : Vec Ideal S1x4096 .f32} {w' : Vec Ideal S4096x4096 .bf16}
    {p' : Vec Ideal S16384x256 .f32} {v' : Vec Ideal S256x4096 .f32} {y : S512x512.Idx} {z : S16384x4096.Idx}
    (hX : ∀ k : Fin 4096, X (ix2 (y 0) k) = resid x' t' g' (ix2 (z 0) k)) (hR : R (ix2 (y 0) 0) = rstd t' (z 0))
    (hx : x y = x' z) (ht : t y = t' z)
    (hg : g (ix2 0 ⟨512 * j.val + (y 1).val, by have : (y 1).val < 512 := (y 1).isLt; omega⟩) = g' (ix2 0 (z 1)))
    (hw : ∀ k : Fin 4096, w (ix2 k (y 1)) = w' (ix2 k (z 1))) (hp : ∀ k : Fin 256, p (ix2 (y 0) k) = p' (ix2 (z 0) k))
    (hv : ∀ k : Fin 256, v (ix2 k (y 1)) = v' (ix2 k (z 1))) :
    block X R x t g w p v j y = total x' t' g' w' p' v' z := by
  unfold block total
  rw [hR, hx, ht, hg]
  simp only [hX, hw, hp, hv]
  rfl

/-- The kernel's fifth operand: the gain as one row. -/
theorem V0 (c : Dev nD) : V m c main_v0 = shapeCast S1x4096 (m ((c : Thread nD τ).loc main_arg2)) shapeCasts_S4096_S1x4096 := by
  unfold V
  after_results
  rfl

/-- The kernel's seventh operand: the embedding as rows. -/
theorem V1 (c : Dev nD) : V m c main_v1
    = shapeCast S16384x256 (m ((c : Thread nD τ).loc main_arg4)) shapeCasts_S2x8192x256_S16384x256 := by
  unfold V
  after_results
  rfl

/-- The kernel's eighth operand: the embedding's weight. -/
theorem V2 (c : Dev nD) (i : S256x4096.Idx) : V m c main_v2 i = m ((c : Thread nD τ).loc main_arg5) i := by
  unfold V
  after_results
  rfl

/-- The result array after the run. -/
theorem final (c : Dev nD) : (dats m 0 c).arrAt 8 cfg0.N
    = total (m ((c : Thread nD τ).loc main_arg0)) (m ((c : Thread nD τ).loc main_arg1))
        (shapeCast S1x4096 (m ((c : Thread nD τ).loc main_arg2)) shapeCasts_S4096_S1x4096) (m ((c : Thread nD τ).loc main_arg3))
        (shapeCast S16384x256 (m ((c : Thread nD τ).loc main_arg4)) shapeCasts_S2x8192x256_S16384x256)
        (m ((c : Thread nD τ).loc main_arg5)) := by
  rw [← V0 m c, ← V1 m c, ← V_main_arg0 m c, ← V_main_arg1 m c, ← V_main_arg3 m c]
  refine (dats m 0 c).arrAt_eq_of_covers 8 _ (by decide +kernel) fun t hf y => ?_
  blk_simp
  rw [after0_8]
  obtain ⟨X, R, e, hX, hR⟩ := out_any m c t
  rw [e]
  refine block_total (fun k => (hX _).trans (congrArg (residual m c) (ext2 ?_ rfl)))
    ((hR _).trans (congrArg (rstd (V m c main_arg1)) (Fin.ext ?_))) ?_ ?_ ?_ (fun k => ?_) (fun k => ?_) (fun k => ?_)
    <;> blk_simp [iblk]
  · simp [idx8 t, row, Nat.mul_comm]
  · simp [idx8 t, row, Nat.mul_comm]
  · refine congrArg _ ?_
    blk_ext [idx2 t, idx8 t]
  · refine congrArg _ ?_
    blk_ext [idx3 t, idx8 t]
  · refine congrArg _ ?_
    blk_ext [idx4 t, idx8 t, col t]
  · refine congrArg _ ?_
    blk_ext [idx5 t, idx8 t]
  · refine congrArg _ ?_
    blk_ext [idx6 t, idx8 t]
  · rw [V2]
    refine congrArg _ ?_
    blk_ext [idx7 t, idx8 t]

/-- An argument that a window stages is after the run as at the start. -/
theorem kept {r : PUnit × MemSt nD τ sig (Elt Ideal)} (h : Pipeline.FramePost cfgs (dats m) 0 (V m) r) (c : Dev nD) (w : Fin cfg0.W)
    (hw : (cfg0.win w).isOut = false) : r.2.mem ((cfg0.spec w).arr.view.loc (c.tc : Thread nD τ)) = V m c (Pipeline.arrRef spec0 w) :=
  (h.in_eq c w hw).trans (A_eq m c w)

/-- The run, with the result array and the arguments named. -/
theorem run_named : θ_run defs (onTc (τ := τ) (main (F := Ideal))) ⟨m, fun _ => 0, ρ⟩ fun r => ∀ c : Dev nD,
      r.2.mem ((c : Thread nD τ).loc main_v3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨h.out_eq c 8,
    (kept m h c 2 rfl).trans (V_main_arg0 m c), (kept m h c 3 rfl).trans (V_main_arg1 m c),
    (h.rest_eq c main_arg2 (by decide)).trans (V_main_arg2 m c), (kept m h c 5 rfl).trans (V_main_arg3 m c),
    (h.rest_eq c main_arg4 (by decide)).trans (V_main_arg4 m c), (h.rest_eq c main_arg5 (by decide)).trans (V_main_arg5 m c)⟩)
    (run_main m ρ)

end Cert.PleIdeal.Normed

namespace Cert.Proof.PleClaims

open Cert.PleRefIdeal.Read

/-- A vector read as one row. -/
theorem row_at (g : Vec Ideal Cert.PleIdeal.S4096 .f32) (j : Cert.PleIdeal.S1x4096.Idx) (k : Fin 4096) (h : (j 1).val = k.val) :
    shapeCast Cert.PleIdeal.S1x4096 g Cert.PleIdeal.Gen.shapeCasts_S4096_S1x4096 j = g (ix1 k) := by
  refine (shapeCast_addUnit_apply ![4096] g _ j).trans (congrArg g ?_)
  funext d
  match d with
  | ⟨0, _⟩ => exact Fin.ext h

/-- The reference's residual. -/
theorem ref_resid (x : Vec Ideal Cert.PleRefIdeal.S16384x4096 .f32) (t : Vec Ideal Cert.PleRefIdeal.S16384x4096 .bf16)
    (g : Vec Ideal Cert.PleRefIdeal.S4096 .f32) (y : Cert.PleRefIdeal.S16384x4096.Idx) :
    val_main_v14 (F := Ideal) x t g y
      = Cert.PleIdeal.Normed.resid x t (shapeCast Cert.PleIdeal.S1x4096 g Cert.PleIdeal.Gen.shapeCasts_S4096_S1x4096) y := by
  unfold Cert.PleIdeal.Normed.resid
  rw [row_at g _ (y 1) rfl]
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's gate. -/
theorem ref_gate (x : Vec Ideal Cert.PleRefIdeal.S16384x4096 .f32) (t : Vec Ideal Cert.PleRefIdeal.S16384x4096 .bf16)
    (g : Vec Ideal Cert.PleRefIdeal.S4096 .f32) (w : Vec Ideal Cert.PleRefIdeal.S4096x4096 .bf16) (y : Cert.PleRefIdeal.S16384x4096.Idx) :
    val_main_v22 (F := Ideal) x t g w y = Ideal.logistic (val_main_v16 (F := Ideal) x t g w y) := by
  show Ideal.div (val_main_v21 (F := Ideal) y) (val_main_v19 (F := Ideal) y + Ideal.exp (-(val_main_v16 (F := Ideal) x t g w y))) = _
  rw [val_main_v21_apply, val_main_v19_apply]
  generalize val_main_v16 (F := Ideal) x t g w y = z
  show Ideal.div (Ideal.ofBits .f32 0x3F800000#32) (Ideal.ofBits .f32 0x3F800000#32 + Ideal.exp (-z)) = _
  rw [show Ideal.ofBits .f32 0x3F800000#32 = 1 by simp]
  rfl

/-- The reference's value is the whole result. -/
theorem ref_eq (x : Vec Ideal Cert.PleRefIdeal.S16384x4096 .f32) (t : Vec Ideal Cert.PleRefIdeal.S16384x4096 .bf16)
    (g : Vec Ideal Cert.PleRefIdeal.S4096 .f32) (w : Vec Ideal Cert.PleRefIdeal.S4096x4096 .bf16)
    (p : Vec Ideal Cert.PleRefIdeal.S2x8192x256 .f32) (v : Vec Ideal Cert.PleRefIdeal.S256x4096 .f32) :
    val_main_v26 (F := Ideal) x t g w p v
      = Cert.PleIdeal.Normed.total x t (shapeCast Cert.PleIdeal.S1x4096 g Cert.PleIdeal.Gen.shapeCasts_S4096_S1x4096) w
        (shapeCast Cert.PleIdeal.S16384x256 p Cert.PleIdeal.Gen.shapeCasts_S2x8192x256_S16384x256) v := by
  funext y
  show (val_main_v14 (F := Ideal) x t g y : EReal) + (val_main_v22 (F := Ideal) x t g w y : EReal) * (val_main_v24 (F := Ideal) p v y : EReal) = _
  rw [ref_gate, val_main_v16_apply, val_main_v24_apply, ref_resid]
  unfold Cert.PleIdeal.Normed.total
  refine congrArg₂ _ rfl (congrArg₂ _ (congrArg _ (Finset.sum_congr rfl fun k _ => congrArg₂ _ ?_ ?_))
    (Finset.sum_congr rfl fun k _ => congrArg₂ _ ?_ ?_))
  · rw [ref_resid]
    exact congrArg _ (Cert.PleIdeal.Normed.ext2 rfl rfl)
  · exact congrArg w (Cert.PleIdeal.Normed.ext2 rfl rfl)
  · exact congrArg (shapeCast Cert.PleIdeal.S16384x256 p _) (Cert.PleIdeal.Normed.ext2 rfl rfl)
  · exact congrArg v (Cert.PleIdeal.Normed.ext2 rfl rfl)

/-- Frames of the three programs. -/
theorem frame_ideal : Cert.quiescent_PleIdeal := fun m ρ _ => Cert.PleIdeal.Gen.frame m ρ
theorem frame : Cert.quiescent_Ple := fun m ρ _ => Cert.Ple.Gen.frame m ρ
theorem frame_ref : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The kernel's result and the reference's are the same function of the same arguments. -/
theorem algebraic : Cert.algebraic_PleIdeal_PleRefIdeal := by
  intro m ρ m' ρ' _ hagree
  refine ⟨fun c => (Cert.PleIdeal.Gen.dats m 0 c).arrAt 8 Cert.PleIdeal.cfg0.N, Cert.PleIdeal.Normed.run_named m ρ, ?_⟩
  refine (θ_run Cert.PleRefIdeal.defs _ _).mono (fun _ h c => ⟨(h c).1.trans ?_, (h c).2⟩)
    (Cert.PleRefIdeal.Value.run (F := Ideal) m' ρ')
  refine Eq.trans ?_ (Cert.PleIdeal.Normed.final m c).symm
  obtain ⟨e0, e1, e2, e3, e4, e5⟩ := hagree c
  rw [e0, e1, e2, e3, e4, e5]
  exact (val_main_v26_eq _ _ _ _ _ _).trans (ref_eq _ _ _ _ _ _)

end Cert.Proof.PleClaims

end
-- ==== Proof.NormValue.lean ====
/-
  The first rms norm: what its pipelined kernel leaves in the result array at `Ideal`, and that the reference computes the same.
-/
module

public import proofs.«01_k».proof.Defs
public import proofs.«01_k».proof.Proof.Gen.NormIdeal.Value
public import proofs.«01_k».proof.Proof.Gen.NormRefIdeal.Read
public import proofs.«01_k».proof.Proof.Gen.Norm.Frame
public import Idealize.ShloMosaic.Lib.Pipeline.Value
public import Idealize.ShloMosaic.Lib.Pointwise
public import Idealize.ShloMosaic.Lib.Pipeline.ValueKit.Geometry
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormIdeal.Normed

open Cert.NormIdeal Cert.NormIdeal.Gen

/-- The normed rows of an array of rows of length 4096, times a gain. -/
def normed {n : Nat} (x : FVec Ideal ⟨2, ![n, 4096]⟩ .f32) (g : FVec Ideal ⟨1, ![4096]⟩ .f32) (y : (⟨2, ![n, 4096]⟩ : Shape).Idx) : EReal :=
  (x y : EReal) * Ideal.rsqrt (Ideal.div (∑ k : Fin 4096, (x (ix2 (y 0) k) : EReal) * x (ix2 (y 0) k) : EReal) (Ideal.ofBits .f32 0x45800000#32)
    + Ideal.ofBits .f32 0x358637BD#32) * g (ix1 (y 1))

/-- The body: the normed rows of its block. -/
theorem pay_apply (x : Vec Ideal S512x4096 .f32) (g : Vec Ideal S1x4096 .f32) (y : S512x4096.Idx) :
    k0_pay1 x g y = normed x (fun j => g (ix2 0 (j 0))) y := by
  pointwise [k0_pay1]
  rfl

variable (m : (ℓ : Loc nD τ sig) → Buf (Elt Ideal) ℓ) (ρ : Dev nD → PrngReg)

/-- The kernel's first operand: the argument reshaped to rows. -/
theorem V0 (c : Dev nD) : V m c main_v0 = shapeCast S16384x4096 (m ((c : Thread nD τ).loc main_arg0)) shapeCasts_S2x8192x4096_S16384x4096 := by
  unfold V
  after_results
  rfl

/-- The kernel's second operand: the gain as one row. -/
theorem V1 (c : Dev nD) : V m c main_v1 = shapeCast S1x4096 (m ((c : Thread nD τ).loc main_arg1)) shapeCasts_S4096_S1x4096 := by
  unfold V
  after_results
  rfl

/-- A vector read as one row. -/
theorem row_at (g : Vec Ideal S4096 .f32) (j : S1x4096.Idx) (k : Fin 4096) (h : (j 1).val = k.val) :
    shapeCast S1x4096 g shapeCasts_S4096_S1x4096 j = g (ix1 k) := by
  refine (shapeCast_addUnit_apply ![4096] g _ j).trans (congrArg g ?_)
  funext d
  match d with
  | ⟨0, _⟩ => exact Fin.ext h

/-- Normed rows agree where the rows do. -/
theorem normed_congr {n n' : Nat} {x : FVec Ideal ⟨2, ![n, 4096]⟩ .f32} {x' : FVec Ideal ⟨2, ![n', 4096]⟩ .f32} {g g' : FVec Ideal ⟨1, ![4096]⟩ .f32}
    {y : (⟨2, ![n, 4096]⟩ : Shape).Idx} {y' : (⟨2, ![n', 4096]⟩ : Shape).Idx} (h : ∀ k : Fin 4096, x (ix2 (y 0) k) = x' (ix2 (y' 0) k))
    (hg : g (ix1 (y 1)) = g' (ix1 (y' 1))) (h1 : (y 1 : Fin 4096) = y' 1) : normed x g y = normed x' g' y' := by
  have e : x y = x' y' := by
    have := h (y 1)
    rw [eq_ix2 y, eq_ix2 y', ← h1]
    exact this
  unfold normed
  rw [e, hg]
  simp only [h]

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)

/-- The whole result: the normed rows of the first argument, reshaped to rows. -/
abbrev whole (x : Vec Ideal S2x8192x4096 .f32) (g : Vec Ideal S4096 .f32) : Vec Ideal S16384x4096 .bf16 :=
  normed (shapeCast S16384x4096 x shapeCasts_S2x8192x4096_S16384x4096) g

/-- The result array after the run is the normed rows. -/
theorem final (c : Dev nD) : (dats m 0 c).arrAt 2 cfg0.N
    = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  refine normed_congr (fun k => ?_) ?_ (Fin.ext ?_) <;> blk_simp [iblk]
  · rw [V0]
    refine congrArg _ ?_
    blk_ext [idx0 t, idx2 t]
  · rw [V1]
    generalize m _ = g
    refine row_at g _ _ ?_
    blk_simp [idx1 t, idx2 t]
  · simp [idx2 t]

end Cert.NormIdeal.Normed

namespace Cert.Proof.NormClaims

open Cert.NormRefIdeal.Read

/-- The reference's value is the normed rows. -/
theorem ref_eq (x : Vec Ideal Cert.NormRefIdeal.S2x8192x4096 .f32) (g : Vec Ideal Cert.NormRefIdeal.S4096 .f32) :
    val_main_v14 (F := Ideal) x g = Cert.NormIdeal.Normed.whole x g := by
  funext y
  unfold val_main_v14 val_main_v13 val_main_v12 val_main_v11 val_main_v10 val_main_v9 val_main_v8 val_main_v7 val_main_v6
    val_main_v5 val_main_v4 val_main_v3 val_main_v2 val_main_v1 val_main_cst val_main_cst_0 val_main_cst_1 Cert.NormIdeal.Normed.whole
  show _ = Cert.NormIdeal.Normed.normed (val_main_v0 x) g y
  generalize val_main_v0 x = X
  pointwise
  rfl

/-- Frames of the three programs. -/
theorem frame_ideal : Cert.quiescent_NormIdeal := fun m ρ _ => Cert.NormIdeal.Gen.frame m ρ
theorem frame : Cert.quiescent_Norm := fun m ρ _ => Cert.Norm.Gen.frame m ρ
theorem frame_ref : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The kernel's result and the reference's are the same normed rows of the same arguments. -/
theorem algebraic : Cert.algebraic_NormIdeal_NormRefIdeal := by
  intro m ρ m' ρ' _ hagree
  refine ⟨fun c => Cert.NormIdeal.Normed.whole (m (c.tc.loc Cert.NormIdeal.main_arg0)) (m (c.tc.loc Cert.NormIdeal.main_arg1)), ?_, ?_⟩
  · exact (θ_run Cert.NormIdeal.defs _ _).mono
      (fun _ h c => ⟨(h c).1.trans (Cert.NormIdeal.Normed.final m c), (h c).2⟩)
      (Cert.NormIdeal.Value.run_blocks (F := Ideal) m ρ)
  · refine (θ_run Cert.NormRefIdeal.defs _ _).mono (fun _ h c => ⟨(h c).1.trans ?_, (h c).2⟩)
      (Cert.NormRefIdeal.Value.run (F := Ideal) m' ρ')
    rw [(hagree c).1, (hagree c).2]
    exact (val_main_v14_eq _ _).trans (ref_eq _ _)

end Cert.Proof.NormClaims

end
-- ==== Proof.Held.lean ====
/-
  Programs that only load from, store to and loop over buffers held at contents nothing names: every such program
  runs, and leaves them held at contents nothing names. Composed statement by statement.
-/
module

public import Idealize.ShloMosaic.Lib.Pipeline.FrameBody
public import Idealize.ShloMosaic.Lib.Tactic
public import Idealize.ShloMosaic.Lib.Memref
public import Idealize.ShloMosaic.Lib.Scf

@[expose] public section

noncomputable section

namespace Held

open Idealize.ShloMosaic Idealize.ShloMosaic.TcCoe Idealize.ShloMosaic.Tactic
open Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- What may be held: the machine's resources, beside the pipelines' own. -/
abbrev Res (nD : Nat) (τ : Topo) (sig : RefSig) (Val : EltTy → Type) := sProp (MT nD τ sig Unit Val ℕ (UR sig nD τ) ℕ)

/-- A memref's elements, at contents nothing names. -/
def held (c : Dev nD) {sp : Space} {sh : Shape} {e : EltTy} (m : Memref sig .tc sp sh e) : Res nD τ sig Val :=
  iprop(∃ X, owns (c : Thread nD τ) m fullShare X)

/-- What is held includes a memref's elements, which can be taken out and put back. -/
def Has (c : Dev nD) (R : Res nD τ sig Val) {sp : Space} {sh : Shape} {e : EltTy} (m : Memref sig .tc sp sh e) : Prop :=
  R ⊢ iprop(held (Val := Val) (τ := τ) c m ∗ (held (Val := Val) (τ := τ) c m -∗ R))

variable {c : Dev nD} {R T : Res nD τ sig Val}

theorem has_head {sp : Space} {sh : Shape} {e : EltTy} (m : Memref sig .tc sp sh e) : Has c iprop(held (Val := Val) (τ := τ) c m ∗ T) m := by
  unfold Has
  iintro ⟨H, HT⟩
  isplitl [H]
  · iexact H
  · iintro H
    isplitl [H] <;> iassumption

theorem has_tail {A : Res nD τ sig Val} {sp : Space} {sh : Shape} {e : EltTy} {m : Memref sig .tc sp sh e} (h : Has c T m) :
    Has c iprop(A ∗ T) m := by
  unfold Has at h ⊢
  iintro ⟨HA, HT⟩
  ihave HT := h $$ HT
  icases HT with ⟨H, HT⟩
  isplitl [H]
  · iexact H
  · iintro H
    isplitl [HA]
    · iexact HA
    · iapply HT; iexact H

/-- A program runs from what is held back to what is held. -/
def Safe (defs : Defs nD τ sig Val Λ) (𝒱 : Variants) (c : Dev nD) (R : Res nD τ sig Val) {α : Type}
    (p : Prog (TpuEff nD τ sig Val Λ .tc) α) : Prop :=
  R ⊢ wp frame (wpE defs 𝒱 (c : Thread nD τ) none) Set.univ p (fun _ => R)

variable {defs : Defs nD τ sig Val Λ} {𝒱 : Variants}

theorem safe_pure {α : Type} (a : α) : Safe defs 𝒱 c R (pure a) := by
  unfold Safe; exact le_wp_ret (M := MT nD τ sig Unit Val ℕ (UR sig nD τ) ℕ) _ _ _ a (fun _ => R)

theorem safe_bind {α β : Type} {p : Prog (TpuEff nD τ sig Val Λ .tc) α} {k : α → Prog (TpuEff nD τ sig Val Λ .tc) β}
    (hp : Safe defs 𝒱 c R p) (hk : ∀ a, Safe defs 𝒱 c R (k a)) : Safe defs 𝒱 c R (p >>= k) := by
  unfold Safe at *
  rw [wp_bind]
  exact hp.trans (wp_mono _ _ _ fun a => hk a)

theorem safe_load {cs : CoreSpace} {s : Shape} {e : EltTy} {m : Memref sig .tc cs s e} {r : LoadRect s} {hl : m.view.LoadsAt r}
    (h : Has c R m) : Safe defs 𝒱 c R (Prog.lift (.load m r hl)) := by
  unfold Safe Has held owns at *
  iintro H
  ihave H := h $$ H
  icases H with ⟨⟨%X, %f, -, H⟩, HR⟩
  iapply (wp_load 𝒱 (c : Thread nD τ) none Set.univ (m.view.setOn_subset_set _)) $$ H
  iintro H
  iapply (le_wp_ret _ _ _ _ _)
  iapply HR
  iexists (m.view.read Val f), f
  isplitr
  · ipureintro; rfl
  · iexact H

theorem safe_store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    (h : Has c R m) : Safe defs 𝒱 c R (Prog.lift (.store m r w Mk hx hm)) := by
  unfold Safe Has held owns at *
  iintro H
  ihave H := h $$ H
  icases H with ⟨⟨%X, %f, -, H⟩, HR⟩
  iapply (wp_store 𝒱 (c : Thread nD τ) none Set.univ (S := m.view.set)
    (((m.access r).setOn_subset_set Mk).trans (View.set_slice_subset _ _))) $$ H
  iintro H
  iapply (le_wp_ret _ _ _ _ _)
  iapply HR
  iexists _, ((m.access r).write Val f w Mk)
  isplitr
  · ipureintro; rfl
  · iexact H

/-- One program after another. -/
theorem sq {α β : Type} {p : Prog (TpuEff nD τ sig Val Λ .tc) α} {k : α → Prog (TpuEff nD τ sig Val Λ .tc) β}
    (hp : Safe defs 𝒱 c R p) (hk : ∀ a, Safe defs 𝒱 c R (k a)) : Safe defs 𝒱 c R (p >>= k) := safe_bind hp hk

/-- A load, then the rest. -/
theorem ld {cs : CoreSpace} {s : Shape} {e : EltTy} {m : Memref sig .tc cs s e} {r : LoadRect s} {hl : m.view.LoadsAt r} {β : Type}
    {k : _ → Prog (TpuEff nD τ sig Val Λ .tc) β} (h : Has c R m) (hk : ∀ a, Safe defs 𝒱 c R (k a)) :
    Safe defs 𝒱 c R (Prog.lift (.load m r hl) >>= k) := safe_bind (safe_load h) hk

/-- A store, then the rest. -/
theorem st {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1} {β : Type}
    {k : _ → Prog (TpuEff nD τ sig Val Λ .tc) β} (h : Has c R m) (hk : ∀ a, Safe defs 𝒱 c R (k a)) :
    Safe defs 𝒱 c R (Prog.lift (.store m r w Mk hx hm) >>= k) := safe_bind (safe_store h) hk

theorem safe_for {w : Nat} {σ : Type} {l : Scf.Loop w} {hok : l.OK} {init : σ}
    {body : Fin l.trips → σ → Prog (TpuEff nD τ sig Val Λ .tc) σ} (h : ∀ k a, Safe defs 𝒱 c R (body k a)) :
    Safe defs 𝒱 c R (Scf.Loop.for l hok init body) := by
  unfold Safe at *
  iintro H
  iapply (Scf.wp_for frame (wpE defs 𝒱 (c : Thread nD τ) none) Set.univ _ _ _ hok init body (fun _ _ => R) (fun k a => h k a))
  isplitl [H]
  · iexact H
  · iintro %a H; iexact H

theorem safe_dite {α : Type} {P : Prop} [Decidable P] {p : P → Prog (TpuEff nD τ sig Val Λ .tc) α}
    {q : ¬P → Prog (TpuEff nD τ sig Val Λ .tc) α} (hp : ∀ h, Safe defs 𝒱 c R (p h)) (hq : ∀ h, Safe defs 𝒱 c R (q h)) :
    Safe defs 𝒱 c R (if h : P then p h else q h) := by
  split
  · exact hp _
  · exact hq _

end Held

end
-- ==== Proof.AttnBody.lean ====
/-
  The first half of the attention kernel's statements, stretch by stretch as printed: each runs with every block and
  scratch buffer held at contents nothing names, and leaves them so.
-/
module

public import proofs.«01_k».proof.Proof.Gen.Attn
public import proofs.«01_k».proof.Proof.Held

@[expose] public section

set_option maxRecDepth 16384

noncomputable section

namespace AttnBody

open Cert.Attn Cert.Attn.Gen Held
open Idealize.ShloMosaic Idealize.ShloMosaic.TcCoe
open Idealize.SL Idealize.SL.Sem

variable {F : FTy → Type} [FloatOps F] {c : Dev nD} {R : Res nD τ sig (Elt F)}
  {defs : Defs nD τ sig (Elt F) Λ₀} {𝒱 : Variants} {i : grid0.Coords}
  {arg3 : Memref sig .tc .vmem S512x512 .bf16}
  {arg4 : Memref sig .tc .vmem S512x512 .bf16}
  {arg5 : Memref sig .tc .vmem S8192x512 .bf16}
  {arg6 : Memref sig .tc .vmem S512x512 .bf16}
  {arg7 : Memref sig .tc .vmem S512x512 .bf16}
  {arg8 : Memref sig .tc .vmem S512x512 .bf16}
  {arg9 : Memref sig .tc .vmem S17x512x128 .bf16}
  {arg10 : Memref sig .tc .vmem S4x17x144x512 .bf16}
  {arg11 : Memref sig .tc .vmem S4x32x128 .f32}
  {arg12 : Memref sig .tc .vmem S4x256x512 .bf16}
  {arg13 : Memref sig .tc .vmem S4x512x512 .f32}
  {arg14 : Memref sig .tc .vmem S4x512x512 .f32}
  {arg15 : Memref sig .tc .vmem S4x512x512 .bf16}
  {arg16 : Memref sig .tc .vmem S4x512x512 .bf16}
  {arg17 : Memref sig .tc .vmem S4x144x512 .f32}
  {arg18 : Memref sig .tc .vmem S4x1x512 .f32}
  {arg19 : Memref sig .tc .vmem S4x1x512 .f32}
  {arg20 : Memref sig .tc .vmem S4x1x512 .f32}
  {arg21 : Memref sig .tc .vmem S512x512 .f32}
  {harg3 : arg3.IsWhole}
  {harg4 : arg4.IsWhole}
  {harg5 : arg5.IsWhole}
  {harg6 : arg6.IsWhole}
  {harg7 : arg7.IsWhole}
  {harg8 : arg8.IsWhole}
  {harg9 : arg9.IsWhole}
  {harg10 : arg10.IsWhole}
  {harg11 : arg11.IsWhole}
  {harg12 : arg12.IsWhole}
  {harg13 : arg13.IsWhole}
  {harg14 : arg14.IsWhole}
  {harg15 : arg15.IsWhole}
  {harg16 : arg16.IsWhole}
  {harg17 : arg17.IsWhole}
  {harg18 : arg18.IsWhole}
  {harg19 : arg19.IsWhole}
  {harg20 : arg20.IsWhole}
  {harg21 : arg21.IsWhole}

/-- Everything the kernel is handed, its blocks and its scratch buffers, is held. -/
structure Held19 (c : Dev nD) (R : Res nD τ sig (Elt F))
  (arg3 : Memref sig .tc .vmem S512x512 .bf16)
  (arg4 : Memref sig .tc .vmem S512x512 .bf16)
  (arg5 : Memref sig .tc .vmem S8192x512 .bf16)
  (arg6 : Memref sig .tc .vmem S512x512 .bf16)
  (arg7 : Memref sig .tc .vmem S512x512 .bf16)
  (arg8 : Memref sig .tc .vmem S512x512 .bf16)
  (arg9 : Memref sig .tc .vmem S17x512x128 .bf16)
  (arg10 : Memref sig .tc .vmem S4x17x144x512 .bf16)
  (arg11 : Memref sig .tc .vmem S4x32x128 .f32)
  (arg12 : Memref sig .tc .vmem S4x256x512 .bf16)
  (arg13 : Memref sig .tc .vmem S4x512x512 .f32)
  (arg14 : Memref sig .tc .vmem S4x512x512 .f32)
  (arg15 : Memref sig .tc .vmem S4x512x512 .bf16)
  (arg16 : Memref sig .tc .vmem S4x512x512 .bf16)
  (arg17 : Memref sig .tc .vmem S4x144x512 .f32)
  (arg18 : Memref sig .tc .vmem S4x1x512 .f32)
  (arg19 : Memref sig .tc .vmem S4x1x512 .f32)
  (arg20 : Memref sig .tc .vmem S4x1x512 .f32)
  (arg21 : Memref sig .tc .vmem S512x512 .f32) : Prop where
  m3 : Has c R arg3
  m4 : Has c R arg4
  m5 : Has c R arg5
  m6 : Has c R arg6
  m7 : Has c R arg7
  m8 : Has c R arg8
  m9 : Has c R arg9
  m10 : Has c R arg10
  m11 : Has c R arg11
  m12 : Has c R arg12
  m13 : Has c R arg13
  m14 : Has c R arg14
  m15 : Has c R arg15
  m16 : Has c R arg16
  m17 : Has c R arg17
  m18 : Has c R arg18
  m19 : Has c R arg19
  m20 : Has c R arg20
  m21 : Has c R arg21

variable (h : Held19 c R arg3 arg4 arg5 arg6 arg7 arg8 arg9 arg10 arg11 arg12 arg13 arg14 arg15 arg16 arg17 arg18 arg19 arg20 arg21)
include h

theorem s1 : ∀ k0_h1 v2880 c0_i32_2208 c1_i32_2210 k0_t1, Safe defs 𝒱 c R (k0_part1 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 k0_h1 v2880
   c0_i32_2208 c1_i32_2210 k0_t1) := by
  unfold k0_part1
  exact fun _ _ _ _ _ => ld h.m9 fun _ => st h.m9 fun _ => ld h.m5 fun _ => ld h.m11 fun _ => st h.m11 fun _ => ld
   h.m5 fun _ => ld h.m11 fun _ => st h.m11 fun _ => ld h.m5 fun _ => safe_pure _

theorem s2 : ∀ k0_h1 v2880 k0_t1 arg22 v3310 v3312 v3346, Safe defs 𝒱 c R (k0_part2 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 k0_h1 v2880 k0_t1
   arg22 v3310 v3312 v3346) := by
  unfold k0_part2
  exact fun _ _ _ _ _ _ _ => ld h.m11 fun _ => st h.m11 fun _ => ld h.m5 fun _ => ld h.m11 fun _ => st h.m11 fun _ =>
   ld h.m9 fun _ => st h.m9 fun _ => ld h.m5 fun _ => safe_pure _

theorem s3 : ∀ k0_h1 k0_t1 v3368 v3370 v3385, Safe defs 𝒱 c R (k0_part3 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 k0_h1 k0_t1 v3368 v3370 v3385)
   := by
  unfold k0_part3
  exact fun _ _ _ _ _ => ld h.m11 fun _ => st h.m11 fun _ => ld h.m5 fun _ => ld h.m11 fun _ => st h.m11 fun _ => ld
   h.m5 fun _ => ld h.m11 fun _ => st h.m11 fun _ => ld h.m5 fun _ => ld h.m11 fun _ => safe_pure _

theorem s4 : Safe defs 𝒱 c R (k0_part4 (F := F) i arg3 harg3 arg4 harg4 arg5 harg5 arg6 harg6 arg7 harg7 arg8 harg8
   arg9 harg9 arg10 harg10 arg11 harg11 arg12 harg12 arg13 harg13 arg14 harg14 arg15 harg15 arg16 harg16 arg17 harg17
   arg18 harg18 arg19 harg19 arg20 harg20 arg21 harg21) := by
  unfold k0_part4
  exact ld h.m12 fun _ => st h.m12 fun _ => ld h.m12 fun _ => st h.m12 fun _ => ld h.m9 fun _ => st h.m9 fun _ => ld
   h.m10 fun _ => st h.m10 fun _ => ld h.m10 fun _ => st h.m10 fun _ => safe_pure _

theorem s5 : ∀ k0_h1 v2880 v2899, Safe defs 𝒱 c R (k0_part5 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 k0_h1 v2880 v2899) := by
  unfold k0_part5
  exact fun _ _ _ => ld h.m15 fun _ => st h.m15 fun _ => ld h.m21 fun _ => st h.m21 fun _ => sq (safe_for fun _ _ =>
   sq (s1 h _ _ _ _ _) fun ⟨_, _, _, _⟩ => sq (s2 h _ _ _ _ _ _ _) fun ⟨_, _, _⟩ => sq (s3 h _ _ _ _ _) fun _ => st
   h.m11 fun _ => safe_pure _) fun _ => ld h.m3 fun _ => ld h.m3 fun _ => ld h.m3 fun _ => ld h.m3 fun _ => ld h.m11
   fun _ => safe_pure _

theorem s6 : ∀ arg2 v2920 v2924 v2928 v2932, Safe defs 𝒱 c R (k0_part6 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 arg2 v2920 v2924 v2928 v2932)
   := by
  unfold k0_part6
  exact fun _ _ _ _ _ => ld h.m11 fun _ => ld h.m11 fun _ => ld h.m11 fun _ => safe_pure _

theorem s7 : ∀ v2916 v2945 v2955 v2957 v2971 v2973, Safe defs 𝒱 c R (k0_part7 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 v2916 v2945 v2955 v2957
   v2971 v2973) := by
  unfold k0_part7
  exact fun _ _ _ _ _ _ => ld h.m12 fun _ => st h.m12 fun _ => ld h.m12 fun _ => st h.m12 fun _ => safe_pure _

theorem s8 : ∀ arg2 v2936 v3014, Safe defs 𝒱 c R (k0_part8 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 arg2 v2936 v3014) := by
  unfold k0_part8
  exact fun _ _ _ => safe_pure _

theorem s9 : ∀ arg2 v2920 v2940 v3014 v3024 v3056 v3058, Safe defs 𝒱 c R (k0_part9 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 arg2 v2920 v2940
   v3014 v3024 v3056 v3058) := by
  unfold k0_part9
  exact fun _ _ _ _ _ _ _ => ld h.m12 fun _ => st h.m12 fun _ => ld h.m12 fun _ => st h.m12 fun _ => safe_pure _

theorem s10 : ∀ v2924 v3083 v3093 v3095 v3096 v3097 v3098, Safe defs 𝒱 c R (k0_part10 (F := F) i arg3 harg3 arg4
   harg4 arg5 harg5 arg6 harg6 arg7 harg7 arg8 harg8 arg9 harg9 arg10 harg10 arg11 harg11 arg12 harg12 arg13 harg13
   arg14 harg14 arg15 harg15 arg16 harg16 arg17 harg17 arg18 harg18 arg19 harg19 arg20 harg20 arg21 harg21 v2924 v3083
   v3093 v3095 v3096 v3097 v3098) := by
  unfold k0_part10
  exact fun _ _ _ _ _ _ _ => ld h.m12 fun _ => st h.m12 fun _ => safe_pure _

theorem s11 : ∀ arg2 v2944 v3139 cst_2311, Safe defs 𝒱 c R (k0_part11 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 arg2 v2944 v3139 cst_2311) :=
   by
  unfold k0_part11
  exact fun _ _ _ _ => ld h.m12 fun _ => st h.m12 fun _ => safe_pure _

theorem s12 : ∀ arg2 v2928 v3152 v3162 v3180 v3182 v3184, Safe defs 𝒱 c R (k0_part12 (F := F) i arg3 harg3 arg4
   harg4 arg5 harg5 arg6 harg6 arg7 harg7 arg8 harg8 arg9 harg9 arg10 harg10 arg11 harg11 arg12 harg12 arg13 harg13
   arg14 harg14 arg15 harg15 arg16 harg16 arg17 harg17 arg18 harg18 arg19 harg19 arg20 harg20 arg21 harg21 arg2 v2928
   v3152 v3162 v3180 v3182 v3184) := by
  unfold k0_part12
  exact fun _ _ _ _ _ _ _ => ld h.m12 fun _ => st h.m12 fun _ => ld h.m12 fun _ => st h.m12 fun _ => safe_pure _

theorem s13 : ∀ k0_h1 v3222 v3223 c0_i32_2347, Safe defs 𝒱 c R (k0_part13 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 k0_h1 v3222 v3223
   c0_i32_2347) := by
  unfold k0_part13
  exact fun _ _ _ _ => ld h.m5 fun _ => ld h.m9 fun _ => ld h.m12 fun _ => ld h.m13 fun _ => st h.m13 fun _ => ld
   h.m12 fun _ => ld h.m13 fun _ => st h.m13 fun _ => ld h.m5 fun _ => safe_pure _

theorem s14 : ∀ k0_h1 v3233 v3236 v3256, Safe defs 𝒱 c R (k0_part14 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 k0_h1 v3233 v3236 v3256) := by
  unfold k0_part14
  exact fun _ _ _ _ => ld h.m9 fun _ => ld h.m12 fun _ => ld h.m13 fun _ => st h.m13 fun _ => ld h.m12 fun _ => ld
   h.m13 fun _ => st h.m13 fun _ => ld h.m5 fun _ => ld h.m9 fun _ => ld h.m12 fun _ => ld h.m13 fun _ => st h.m13 fun
   _ => safe_pure _

theorem s15 : ∀ v12 c0_i32_23 c1_i32_25 k0_t2, Safe defs 𝒱 c R (k0_part15 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 v12 c0_i32_23 c1_i32_25
   k0_t2) := by
  unfold k0_part15
  exact fun _ _ _ _ => ld h.m19 fun _ => ld h.m17 fun _ => ld h.m10 fun _ => ld h.m15 fun _ => ld h.m17 fun _ => st
   h.m17 fun _ => ld h.m19 fun _ => ld h.m17 fun _ => safe_pure _

theorem s16 : ∀ v12 k0_t2 v2873 v2900 v2901, Safe defs 𝒱 c R (k0_part16 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 k0_t2 v2873 v2900 v2901)
   := by
  unfold k0_part16
  exact fun _ _ _ _ _ => ld h.m10 fun _ => ld h.m15 fun _ => ld h.m17 fun _ => st h.m17 fun _ => ld h.m19 fun _ => ld
   h.m17 fun _ => ld h.m10 fun _ => ld h.m15 fun _ => safe_pure _

theorem s17 : ∀ v12 k0_t2 v2873 v2930, Safe defs 𝒱 c R (k0_part17 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 k0_t2 v2873 v2930) := by
  unfold k0_part17
  exact fun _ _ _ _ => ld h.m17 fun _ => st h.m17 fun _ => ld h.m19 fun _ => ld h.m17 fun _ => ld h.m10 fun _ => ld
   h.m15 fun _ => ld h.m17 fun _ => st h.m17 fun _ => ld h.m5 fun _ => safe_pure _

theorem s18 : ∀ k0_t2 v2956 v2959 v2961, Safe defs 𝒱 c R (k0_part18 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 k0_t2 v2956 v2959 v2961) := by
  unfold k0_part18
  exact fun _ _ _ _ => ld h.m9 fun _ => ld h.m12 fun _ => ld h.m14 fun _ => st h.m14 fun _ => ld h.m12 fun _ => ld
   h.m14 fun _ => st h.m14 fun _ => ld h.m5 fun _ => ld h.m9 fun _ => ld h.m12 fun _ => ld h.m14 fun _ => st h.m14 fun
   _ => ld h.m12 fun _ => safe_pure _

theorem s19 : ∀ k0_t2 v2956 v2959 v2983 v2991, Safe defs 𝒱 c R (k0_part19 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 k0_t2 v2956 v2959 v2983
   v2991) := by
  unfold k0_part19
  exact fun _ _ _ _ _ => ld h.m14 fun _ => st h.m14 fun _ => ld h.m5 fun _ => ld h.m9 fun _ => ld h.m12 fun _ => ld
   h.m14 fun _ => st h.m14 fun _ => ld h.m12 fun _ => ld h.m14 fun _ => st h.m14 fun _ => ld h.m5 fun _ => ld h.m9 fun
   _ => ld h.m12 fun _ => safe_pure _

theorem s20 : ∀ v3019 v3021, Safe defs 𝒱 c R (k0_part20 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3019 v3021) := by
  unfold k0_part20
  exact fun _ _ => ld h.m14 fun _ => st h.m14 fun _ => ld h.m12 fun _ => ld h.m14 fun _ => st h.m14 fun _ => ld h.m13
   fun _ => ld h.m13 fun _ => ld h.m13 fun _ => ld h.m13 fun _ => ld h.m13 fun _ => ld h.m13 fun _ => safe_pure _

theorem s21 : ∀ v3048, Safe defs 𝒱 c R (k0_part21 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3048) := by
  unfold k0_part21
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s22 : ∀ v3078, Safe defs 𝒱 c R (k0_part22 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3078) := by
  unfold k0_part22
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s23 : ∀ v3108, Safe defs 𝒱 c R (k0_part23 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3108) := by
  unfold k0_part23
  exact fun _ => ld h.m13 fun _ => ld h.m13 fun _ => ld h.m13 fun _ => ld h.m13 fun _ => ld h.m13 fun _ => ld h.m13
   fun _ => ld h.m18 fun _ => ld h.m18 fun _ => st h.m18 fun _ => ld h.m20 fun _ => st h.m20 fun _ => safe_pure _

theorem s24 : ∀ v3131, Safe defs 𝒱 c R (k0_part24 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3131) := by
  unfold k0_part24
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s25 : ∀ v3131 v3172 v3173, Safe defs 𝒱 c R (k0_part25 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3131 v3172 v3173) := by
  unfold k0_part25
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s26 : ∀ v3131 v3208, Safe defs 𝒱 c R (k0_part26 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3131 v3208) := by
  unfold k0_part26
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s27 : ∀ v3131 v3240, Safe defs 𝒱 c R (k0_part27 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3131 v3240) := by
  unfold k0_part27
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s28 : ∀ v3131, Safe defs 𝒱 c R (k0_part28 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3131) := by
  unfold k0_part28
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s29 : ∀ v3131 v3307 v3308, Safe defs 𝒱 c R (k0_part29 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3131 v3307 v3308) := by
  unfold k0_part29
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s30 : ∀ v3131 v3343, Safe defs 𝒱 c R (k0_part30 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3131 v3343) := by
  unfold k0_part30
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s31 : ∀ v3131 v3375, Safe defs 𝒱 c R (k0_part31 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3131 v3375) := by
  unfold k0_part31
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s32 : ∀ v3131, Safe defs 𝒱 c R (k0_part32 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3131) := by
  unfold k0_part32
  exact fun _ => ld h.m13 fun _ => ld h.m16 fun _ => st h.m16 fun _ => ld h.m13 fun _ => ld h.m16 fun _ => st h.m16
   fun _ => ld h.m13 fun _ => ld h.m13 fun _ => ld h.m13 fun _ => ld h.m13 fun _ => ld h.m13 fun _ => safe_pure _

theorem s33 : ∀ v3441, Safe defs 𝒱 c R (k0_part33 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3441) := by
  unfold k0_part33
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s34 : ∀ v3471, Safe defs 𝒱 c R (k0_part34 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3471) := by
  unfold k0_part34
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s35 : ∀ v3501, Safe defs 𝒱 c R (k0_part35 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3501) := by
  unfold k0_part35
  exact fun _ => ld h.m13 fun _ => ld h.m13 fun _ => ld h.m13 fun _ => ld h.m13 fun _ => ld h.m13 fun _ => ld h.m13
   fun _ => ld h.m13 fun _ => ld h.m18 fun _ => ld h.m18 fun _ => st h.m18 fun _ => safe_pure _

theorem s36 : ∀ v3527 v3532, Safe defs 𝒱 c R (k0_part36 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3527 v3532) := by
  unfold k0_part36
  exact fun _ _ => ld h.m20 fun _ => st h.m20 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s37 : ∀ v3527 v3564, Safe defs 𝒱 c R (k0_part37 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3527 v3564) := by
  unfold k0_part37
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s38 : ∀ v3527, Safe defs 𝒱 c R (k0_part38 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3527) := by
  unfold k0_part38
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s39 : ∀ v3527 v3631 v3632, Safe defs 𝒱 c R (k0_part39 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3527 v3631 v3632) := by
  unfold k0_part39
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s40 : ∀ v3527 v3667, Safe defs 𝒱 c R (k0_part40 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3527 v3667) := by
  unfold k0_part40
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s41 : ∀ v3527 v3699, Safe defs 𝒱 c R (k0_part41 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3527 v3699) := by
  unfold k0_part41
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s42 : ∀ v3527, Safe defs 𝒱 c R (k0_part42 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3527) := by
  unfold k0_part42
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s43 : ∀ v3527 v3766 v3767, Safe defs 𝒱 c R (k0_part43 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3527 v3766 v3767) := by
  unfold k0_part43
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s44 : ∀ v3527 v3802, Safe defs 𝒱 c R (k0_part44 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3527 v3802) := by
  unfold k0_part44
  exact fun _ _ => ld h.m16 fun _ => st h.m16 fun _ => ld h.m13 fun _ => ld h.m16 fun _ => st h.m16 fun _ => ld h.m13
   fun _ => ld h.m16 fun _ => st h.m16 fun _ => ld h.m13 fun _ => ld h.m13 fun _ => ld h.m13 fun _ => ld h.m13 fun _
   => safe_pure _

theorem s45 : ∀ v3831 v3832, Safe defs 𝒱 c R (k0_part45 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3831 v3832) := by
  unfold k0_part45
  exact fun _ _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s46 : ∀ v3861 v3862, Safe defs 𝒱 c R (k0_part46 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3861 v3862) := by
  unfold k0_part46
  exact fun _ _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s47 : ∀ v3891 v3892, Safe defs 𝒱 c R (k0_part47 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3891 v3892) := by
  unfold k0_part47
  exact fun _ _ => ld h.m13 fun _ => ld h.m13 fun _ => ld h.m13 fun _ => ld h.m13 fun _ => ld h.m13 fun _ => ld h.m13
   fun _ => ld h.m13 fun _ => ld h.m13 fun _ => ld h.m18 fun _ => safe_pure _

theorem s48 : ∀ v3920 v3923, Safe defs 𝒱 c R (k0_part48 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3920 v3923) := by
  unfold k0_part48
  exact fun _ _ => ld h.m18 fun _ => st h.m18 fun _ => ld h.m20 fun _ => st h.m20 fun _ => ld h.m13 fun _ => ld h.m16
   fun _ => st h.m16 fun _ => ld h.m13 fun _ => ld h.m16 fun _ => st h.m16 fun _ => ld h.m13 fun _ => ld h.m16 fun _
   => safe_pure _

theorem s49 : ∀ v3923 v3955 v3956, Safe defs 𝒱 c R (k0_part49 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3923 v3955 v3956) := by
  unfold k0_part49
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s50 : ∀ v3923 v3991, Safe defs 𝒱 c R (k0_part50 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3923 v3991) := by
  unfold k0_part50
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s51 : ∀ v3923 v4023, Safe defs 𝒱 c R (k0_part51 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3923 v4023) := by
  unfold k0_part51
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s52 : ∀ v3923, Safe defs 𝒱 c R (k0_part52 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3923) := by
  unfold k0_part52
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s53 : ∀ v3923 v4090 v4091, Safe defs 𝒱 c R (k0_part53 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3923 v4090 v4091) := by
  unfold k0_part53
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s54 : ∀ v3923 v4126, Safe defs 𝒱 c R (k0_part54 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3923 v4126) := by
  unfold k0_part54
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s55 : ∀ v3923 v4158, Safe defs 𝒱 c R (k0_part55 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3923 v4158) := by
  unfold k0_part55
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s56 : ∀ v3923, Safe defs 𝒱 c R (k0_part56 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v3923) := by
  unfold k0_part56
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m13 fun _ => safe_pure _

theorem s57 : ∀ v4224, Safe defs 𝒱 c R (k0_part57 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4224) := by
  unfold k0_part57
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s58 : ∀ v4254, Safe defs 𝒱 c R (k0_part58 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4254) := by
  unfold k0_part58
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s59 : ∀ v4284, Safe defs 𝒱 c R (k0_part59 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4284) := by
  unfold k0_part59
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s60 : ∀ v4314, Safe defs 𝒱 c R (k0_part60 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4314) := by
  unfold k0_part60
  exact fun _ => ld h.m18 fun _ => ld h.m18 fun _ => st h.m18 fun _ => ld h.m20 fun _ => st h.m20 fun _ => ld h.m13
   fun _ => ld h.m16 fun _ => st h.m16 fun _ => ld h.m13 fun _ => ld h.m16 fun _ => st h.m16 fun _ => ld h.m13 fun _
   => safe_pure _

theorem s61 : ∀ v4319 v4347, Safe defs 𝒱 c R (k0_part61 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4319 v4347) := by
  unfold k0_part61
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s62 : ∀ v4319, Safe defs 𝒱 c R (k0_part62 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4319) := by
  unfold k0_part62
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s63 : ∀ v4319 v4414 v4415, Safe defs 𝒱 c R (k0_part63 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4319 v4414 v4415) := by
  unfold k0_part63
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s64 : ∀ v4319 v4450, Safe defs 𝒱 c R (k0_part64 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4319 v4450) := by
  unfold k0_part64
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s65 : ∀ v4319 v4482, Safe defs 𝒱 c R (k0_part65 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4319 v4482) := by
  unfold k0_part65
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s66 : ∀ v4319, Safe defs 𝒱 c R (k0_part66 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4319) := by
  unfold k0_part66
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s67 : ∀ v4319 v4549 v4550, Safe defs 𝒱 c R (k0_part67 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4319 v4549 v4550) := by
  unfold k0_part67
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s68 : ∀ v12 v2873 v4319 v4585, Safe defs 𝒱 c R (k0_part68 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v2873 v4319 v4585) := by
  unfold k0_part68
  exact fun _ _ _ _ => ld h.m16 fun _ => st h.m16 fun _ => ld h.m13 fun _ => ld h.m16 fun _ => st h.m16 fun _ => ld
   h.m13 fun _ => ld h.m16 fun _ => st h.m16 fun _ => ld h.m13 fun _ => ld h.m16 fun _ => st h.m16 fun _ => safe_pure
   _

theorem s69 : ∀ k0_t2 v4617 v4618, Safe defs 𝒱 c R (k0_part69 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 k0_t2 v4617 v4618) := by
  unfold k0_part69
  exact fun _ _ _ => ld h.m5 fun _ => ld h.m9 fun _ => ld h.m12 fun _ => ld h.m13 fun _ => st h.m13 fun _ => ld h.m12
   fun _ => ld h.m13 fun _ => st h.m13 fun _ => ld h.m5 fun _ => ld h.m9 fun _ => ld h.m12 fun _ => safe_pure _

theorem s70 : ∀ k0_t2 v4619 v4622 v4646 v4649, Safe defs 𝒱 c R (k0_part70 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 k0_t2 v4619 v4622 v4646
   v4649) := by
  unfold k0_part70
  exact fun _ _ _ _ _ => ld h.m13 fun _ => st h.m13 fun _ => ld h.m12 fun _ => ld h.m13 fun _ => st h.m13 fun _ => ld
   h.m5 fun _ => ld h.m9 fun _ => ld h.m12 fun _ => ld h.m13 fun _ => st h.m13 fun _ => ld h.m12 fun _ => ld h.m13 fun
   _ => st h.m13 fun _ => safe_pure _

theorem s71 : ∀ k0_t2 v4619, Safe defs 𝒱 c R (k0_part71 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 k0_t2 v4619) := by
  unfold k0_part71
  exact fun _ _ => ld h.m5 fun _ => ld h.m9 fun _ => ld h.m12 fun _ => ld h.m13 fun _ => st h.m13 fun _ => ld h.m12
   fun _ => ld h.m13 fun _ => st h.m13 fun _ => ld h.m14 fun _ => ld h.m14 fun _ => ld h.m14 fun _ => ld h.m14 fun _
   => safe_pure _

theorem s72 : ∀ v4705, Safe defs 𝒱 c R (k0_part72 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4705) := by
  unfold k0_part72
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s73 : ∀ v4735, Safe defs 𝒱 c R (k0_part73 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4735) := by
  unfold k0_part73
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s74 : ∀ v4765, Safe defs 𝒱 c R (k0_part74 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4765) := by
  unfold k0_part74
  exact fun _ => ld h.m14 fun _ => ld h.m14 fun _ => ld h.m14 fun _ => ld h.m14 fun _ => ld h.m14 fun _ => ld h.m14
   fun _ => ld h.m14 fun _ => ld h.m14 fun _ => ld h.m18 fun _ => ld h.m18 fun _ => safe_pure _

theorem s75 : ∀ v4791 v4794, Safe defs 𝒱 c R (k0_part75 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4791 v4794) := by
  unfold k0_part75
  exact fun _ _ => st h.m18 fun _ => ld h.m19 fun _ => st h.m19 fun _ => ld h.m14 fun _ => ld h.m15 fun _ => st h.m15
   fun _ => ld h.m14 fun _ => ld h.m15 fun _ => st h.m15 fun _ => ld h.m14 fun _ => ld h.m15 fun _ => st h.m15 fun _
   => safe_pure _

theorem s76 : ∀ v4794, Safe defs 𝒱 c R (k0_part76 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4794) := by
  unfold k0_part76
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s77 : ∀ v4794 v4862 v4863, Safe defs 𝒱 c R (k0_part77 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4794 v4862 v4863) := by
  unfold k0_part77
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s78 : ∀ v4794 v4898, Safe defs 𝒱 c R (k0_part78 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4794 v4898) := by
  unfold k0_part78
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s79 : ∀ v4794 v4930, Safe defs 𝒱 c R (k0_part79 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4794 v4930) := by
  unfold k0_part79
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s80 : ∀ v4794, Safe defs 𝒱 c R (k0_part80 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v4794) := by
  unfold k0_part80
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s81 : ∀ v4794 v4997 v4998, Safe defs 𝒱 c R (k0_part81 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4794 v4997 v4998) := by
  unfold k0_part81
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s82 : ∀ v4794 v5033, Safe defs 𝒱 c R (k0_part82 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4794 v5033) := by
  unfold k0_part82
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s83 : ∀ v4794 v5065, Safe defs 𝒱 c R (k0_part83 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4794 v5065) := by
  unfold k0_part83
  exact fun _ _ => ld h.m15 fun _ => st h.m15 fun _ => ld h.m14 fun _ => ld h.m15 fun _ => st h.m15 fun _ => ld h.m14
   fun _ => ld h.m15 fun _ => st h.m15 fun _ => ld h.m14 fun _ => ld h.m14 fun _ => ld h.m14 fun _ => safe_pure _

theorem s84 : ∀ v5098, Safe defs 𝒱 c R (k0_part84 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v5098) := by
  unfold k0_part84
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s85 : ∀ v5128, Safe defs 𝒱 c R (k0_part85 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v5128) := by
  unfold k0_part85
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s86 : ∀ v5158, Safe defs 𝒱 c R (k0_part86 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v5158) := by
  unfold k0_part86
  exact fun _ => ld h.m14 fun _ => ld h.m14 fun _ => ld h.m14 fun _ => ld h.m14 fun _ => ld h.m14 fun _ => ld h.m14
   fun _ => ld h.m14 fun _ => ld h.m14 fun _ => ld h.m14 fun _ => ld h.m18 fun _ => safe_pure _

theorem s87 : ∀ v5185 v5187, Safe defs 𝒱 c R (k0_part87 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5185 v5187) := by
  unfold k0_part87
  exact fun _ _ => ld h.m18 fun _ => st h.m18 fun _ => ld h.m19 fun _ => st h.m19 fun _ => ld h.m14 fun _ => ld h.m15
   fun _ => st h.m15 fun _ => ld h.m14 fun _ => ld h.m15 fun _ => st h.m15 fun _ => ld h.m14 fun _ => safe_pure _

theorem s88 : ∀ v5190 v5222, Safe defs 𝒱 c R (k0_part88 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5190 v5222) := by
  unfold k0_part88
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s89 : ∀ v5190 v5254, Safe defs 𝒱 c R (k0_part89 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5190 v5254) := by
  unfold k0_part89
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s90 : ∀ v5190, Safe defs 𝒱 c R (k0_part90 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v5190) := by
  unfold k0_part90
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s91 : ∀ v5190 v5321 v5322, Safe defs 𝒱 c R (k0_part91 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5190 v5321 v5322) := by
  unfold k0_part91
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s92 : ∀ v5190 v5357, Safe defs 𝒱 c R (k0_part92 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5190 v5357) := by
  unfold k0_part92
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s93 : ∀ v5190 v5389, Safe defs 𝒱 c R (k0_part93 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5190 v5389) := by
  unfold k0_part93
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s94 : ∀ v5190, Safe defs 𝒱 c R (k0_part94 (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21 v5190) := by
  unfold k0_part94
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s95 : ∀ v5190 v5456 v5457, Safe defs 𝒱 c R (k0_part95 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5190 v5456 v5457) := by
  unfold k0_part95
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => ld h.m14
   fun _ => safe_pure _

theorem s96 : ∀ v5488 v5489, Safe defs 𝒱 c R (k0_part96 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5488 v5489) := by
  unfold k0_part96
  exact fun _ _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s97 : ∀ v5518 v5519, Safe defs 𝒱 c R (k0_part97 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5518 v5519) := by
  unfold k0_part97
  exact fun _ _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s98 : ∀ v5548 v5549, Safe defs 𝒱 c R (k0_part98 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5548 v5549) := by
  unfold k0_part98
  exact fun _ _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s99 : ∀ v5578 v5579, Safe defs 𝒱 c R (k0_part99 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5578 v5579) := by
  unfold k0_part99
  exact fun _ _ => ld h.m18 fun _ => ld h.m18 fun _ => st h.m18 fun _ => ld h.m19 fun _ => st h.m19 fun _ => ld h.m14
   fun _ => ld h.m15 fun _ => st h.m15 fun _ => ld h.m14 fun _ => ld h.m15 fun _ => st h.m15 fun _ => safe_pure _

theorem s100 : ∀ v5586, Safe defs 𝒱 c R (k0_part100 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5586) := by
  unfold k0_part100
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s101 : ∀ v5586 v5645 v5646, Safe defs 𝒱 c R (k0_part101 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5586 v5645 v5646) := by
  unfold k0_part101
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s102 : ∀ v5586 v5681, Safe defs 𝒱 c R (k0_part102 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5681) := by
  unfold k0_part102
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s103 : ∀ v5586 v5713, Safe defs 𝒱 c R (k0_part103 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5713) := by
  unfold k0_part103
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s104 : ∀ v5586, Safe defs 𝒱 c R (k0_part104 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5586) := by
  unfold k0_part104
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s105 : ∀ v5586 v5780 v5781, Safe defs 𝒱 c R (k0_part105 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5586 v5780 v5781) := by
  unfold k0_part105
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s106 : ∀ v5586 v5816, Safe defs 𝒱 c R (k0_part106 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5816) := by
  unfold k0_part106
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s107 : ∀ v5586 v5848, Safe defs 𝒱 c R (k0_part107 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5848) := by
  unfold k0_part107
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s108 : Safe defs 𝒱 c R (k0_part108 (F := F) i arg3 harg3 arg4 harg4 arg5 harg5 arg6 harg6 arg7 harg7 arg8
   harg8 arg9 harg9 arg10 harg10 arg11 harg11 arg12 harg12 arg13 harg13 arg14 harg14 arg15 harg15 arg16 harg16 arg17
   harg17 arg18 harg18 arg19 harg19 arg20 harg20 arg21 harg21) := by
  unfold k0_part108
  exact ld h.m14 fun _ => ld h.m14 fun _ => ld h.m14 fun _ => ld h.m14 fun _ => ld h.m14 fun _ => ld h.m14 fun _ => ld
   h.m14 fun _ => ld h.m14 fun _ => ld h.m14 fun _ => ld h.m14 fun _ => safe_pure _

theorem s109 : ∀ v5911, Safe defs 𝒱 c R (k0_part109 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5911) := by
  unfold k0_part109
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s110 : ∀ v5941, Safe defs 𝒱 c R (k0_part110 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5941) := by
  unfold k0_part110
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s111 : ∀ v5971, Safe defs 𝒱 c R (k0_part111 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5971) := by
  unfold k0_part111
  exact fun _ => ld h.m14 fun _ => ld h.m14 fun _ => ld h.m18 fun _ => ld h.m18 fun _ => st h.m18 fun _ => ld h.m19
   fun _ => st h.m19 fun _ => ld h.m14 fun _ => ld h.m15 fun _ => st h.m15 fun _ => ld h.m14 fun _ => safe_pure _

theorem s112 : ∀ v5982 v6005, Safe defs 𝒱 c R (k0_part112 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6005) := by
  unfold k0_part112
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s113 : ∀ v5982 v6037, Safe defs 𝒱 c R (k0_part113 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6037) := by
  unfold k0_part113
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s114 : ∀ v5982, Safe defs 𝒱 c R (k0_part114 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5982) := by
  unfold k0_part114
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s115 : ∀ v5982 v6104 v6105, Safe defs 𝒱 c R (k0_part115 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5982 v6104 v6105) := by
  unfold k0_part115
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s116 : ∀ v5982 v6140, Safe defs 𝒱 c R (k0_part116 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6140) := by
  unfold k0_part116
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s117 : ∀ v5982 v6172, Safe defs 𝒱 c R (k0_part117 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6172) := by
  unfold k0_part117
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s118 : ∀ v5982, Safe defs 𝒱 c R (k0_part118 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5982) := by
  unfold k0_part118
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s119 : ∀ v5982 v6239 v6240, Safe defs 𝒱 c R (k0_part119 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5982 v6239 v6240) := by
  unfold k0_part119
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s120 : ∀ v12 k0_t2 v2873 v6275, Safe defs 𝒱 c R (k0_part120 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 k0_t2 v2873 v6275) := by
  unfold k0_part120
  exact fun _ _ _ _ => ld h.m15 fun _ => st h.m15 fun _ => ld h.m20 fun _ => ld h.m17 fun _ => ld h.m10 fun _ => ld
   h.m16 fun _ => ld h.m17 fun _ => st h.m17 fun _ => ld h.m20 fun _ => ld h.m17 fun _ => safe_pure _

theorem s121 : ∀ v12 k0_t2 v2873 v6299 v6303 v6304, Safe defs 𝒱 c R (k0_part121 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 v12 k0_t2 v2873
   v6299 v6303 v6304) := by
  unfold k0_part121
  exact fun _ _ _ _ _ _ => ld h.m10 fun _ => ld h.m16 fun _ => ld h.m17 fun _ => st h.m17 fun _ => ld h.m20 fun _ =>
   ld h.m17 fun _ => ld h.m10 fun _ => ld h.m16 fun _ => safe_pure _

theorem s122 : ∀ v12 c0_i32_23 c1_i32_25 k0_t2, Safe defs 𝒱 c R (k0_part122 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 v12 c0_i32_23 c1_i32_25
   k0_t2) := by
  unfold k0_part122
  exact fun _ _ _ _ => sq (s15 h _ _ _ _) fun ⟨_, _, _⟩ => sq (s16 h _ _ _ _ _) fun _ => sq (s17 h _ _ _ _) fun ⟨_, _,
   _⟩ => sq (s18 h _ _ _ _) fun ⟨_, _⟩ => sq (s19 h _ _ _ _ _) fun ⟨_, _⟩ => sq (s20 h _ _) fun _ => sq (s21 h _) fun
   _ => sq (s22 h _) fun _ => sq (s23 h _) fun _ => sq (s24 h _) fun ⟨_, _⟩ => sq (s25 h _ _ _) fun _ => sq (s26 h _
   _) fun _ => sq (s27 h _ _) fun _ => sq (s28 h _) fun ⟨_, _⟩ => sq (s29 h _ _ _) fun _ => sq (s30 h _ _) fun _ => sq
   (s31 h _ _) fun _ => sq (s32 h _) fun _ => sq (s33 h _) fun _ => sq (s34 h _) fun _ => sq (s35 h _) fun ⟨_, _⟩ =>
   sq (s36 h _ _) fun _ => sq (s37 h _ _) fun _ => sq (s38 h _) fun ⟨_, _⟩ => sq (s39 h _ _ _) fun _ => sq (s40 h _ _)
   fun _ => sq (s41 h _ _) fun _ => sq (s42 h _) fun ⟨_, _⟩ => sq (s43 h _ _ _) fun _ => sq (s44 h _ _) fun ⟨_, _⟩ =>
   sq (s45 h _ _) fun ⟨_, _⟩ => sq (s46 h _ _) fun ⟨_, _⟩ => sq (s47 h _ _) fun ⟨_, _⟩ => sq (s48 h _ _) fun ⟨_, _⟩ =>
   sq (s49 h _ _ _) fun _ => sq (s50 h _ _) fun _ => sq (s51 h _ _) fun _ => sq (s52 h _) fun ⟨_, _⟩ => sq (s53 h _ _
   _) fun _ => sq (s54 h _ _) fun _ => sq (s55 h _ _) fun _ => sq (s56 h _) fun _ => sq (s57 h _) fun _ => sq (s58 h
   _) fun _ => sq (s59 h _) fun _ => sq (s60 h _) fun ⟨_, _⟩ => sq (s61 h _ _) fun _ => sq (s62 h _) fun ⟨_, _⟩ => sq
   (s63 h _ _ _) fun _ => sq (s64 h _ _) fun _ => sq (s65 h _ _) fun _ => sq (s66 h _) fun ⟨_, _⟩ => sq (s67 h _ _ _)
   fun _ => sq (s68 h _ _ _ _) fun ⟨_, _⟩ => sq (s69 h _ _ _) fun ⟨_, _, _, _⟩ => sq (s70 h _ _ _ _ _) fun _ => sq
   (s71 h _ _) fun _ => sq (s72 h _) fun _ => sq (s73 h _) fun _ => sq (s74 h _) fun ⟨_, _⟩ => safe_pure _

theorem s123 : ∀ v12 k0_t2 v2873 v4791 v4794, Safe defs 𝒱 c R (k0_part123 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 v12 k0_t2 v2873 v4791
   v4794) := by
  unfold k0_part123
  exact fun _ _ _ _ _ => sq (s75 h _ _) fun _ => sq (s76 h _) fun ⟨_, _⟩ => sq (s77 h _ _ _) fun _ => sq (s78 h _ _)
   fun _ => sq (s79 h _ _) fun _ => sq (s80 h _) fun ⟨_, _⟩ => sq (s81 h _ _ _) fun _ => sq (s82 h _ _) fun _ => sq
   (s83 h _ _) fun _ => sq (s84 h _) fun _ => sq (s85 h _) fun _ => sq (s86 h _) fun ⟨_, _⟩ => sq (s87 h _ _) fun ⟨_,
   _⟩ => sq (s88 h _ _) fun _ => sq (s89 h _ _) fun _ => sq (s90 h _) fun ⟨_, _⟩ => sq (s91 h _ _ _) fun _ => sq (s92
   h _ _) fun _ => sq (s93 h _ _) fun _ => sq (s94 h _) fun ⟨_, _⟩ => sq (s95 h _ _ _) fun ⟨_, _⟩ => sq (s96 h _ _)
   fun ⟨_, _⟩ => sq (s97 h _ _) fun ⟨_, _⟩ => sq (s98 h _ _) fun ⟨_, _⟩ => sq (s99 h _ _) fun _ => sq (s100 h _) fun
   ⟨_, _⟩ => sq (s101 h _ _ _) fun _ => sq (s102 h _ _) fun _ => sq (s103 h _ _) fun _ => sq (s104 h _) fun ⟨_, _⟩ =>
   sq (s105 h _ _ _) fun _ => sq (s106 h _ _) fun _ => sq (s107 h _ _) fun _ => sq (s108 h) fun _ => sq (s109 h _) fun
   _ => sq (s110 h _) fun _ => sq (s111 h _) fun ⟨_, _⟩ => sq (s112 h _ _) fun _ => sq (s113 h _ _) fun _ => sq (s114
   h _) fun ⟨_, _⟩ => sq (s115 h _ _ _) fun _ => sq (s116 h _ _) fun _ => sq (s117 h _ _) fun _ => sq (s118 h _) fun
   ⟨_, _⟩ => sq (s119 h _ _ _) fun _ => sq (s120 h _ _ _ _) fun ⟨_, _, _⟩ => sq (s121 h _ _ _ _ _ _) fun _ => ld h.m17
   fun _ => st h.m17 fun _ => ld h.m20 fun _ => safe_pure _

theorem s124 : ∀ v12 v47 c1_i32_26 k0_t3, Safe defs 𝒱 c R (k0_part124 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v47 c1_i32_26 k0_t3) := by
  unfold k0_part124
  exact fun _ _ _ _ => ld h.m19 fun _ => ld h.m17 fun _ => ld h.m10 fun _ => ld h.m15 fun _ => ld h.m17 fun _ => st
   h.m17 fun _ => ld h.m19 fun _ => ld h.m17 fun _ => safe_pure _

theorem s125 : ∀ v12 k0_t3 v2873 v2900 v2901, Safe defs 𝒱 c R (k0_part125 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 v12 k0_t3 v2873 v2900
   v2901) := by
  unfold k0_part125
  exact fun _ _ _ _ _ => ld h.m10 fun _ => ld h.m15 fun _ => ld h.m17 fun _ => st h.m17 fun _ => ld h.m19 fun _ => ld
   h.m17 fun _ => ld h.m10 fun _ => ld h.m15 fun _ => safe_pure _

theorem s126 : ∀ v12 k0_t3 v2873 v2930, Safe defs 𝒱 c R (k0_part126 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 k0_t3 v2873 v2930) := by
  unfold k0_part126
  exact fun _ _ _ _ => ld h.m17 fun _ => st h.m17 fun _ => ld h.m19 fun _ => ld h.m17 fun _ => ld h.m10 fun _ => ld
   h.m15 fun _ => ld h.m17 fun _ => st h.m17 fun _ => ld h.m5 fun _ => safe_pure _

theorem s127 : ∀ k0_t3 v2956 v2959 v2961, Safe defs 𝒱 c R (k0_part127 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 k0_t3 v2956 v2959 v2961) := by
  unfold k0_part127
  exact fun _ _ _ _ => ld h.m9 fun _ => ld h.m12 fun _ => ld h.m14 fun _ => st h.m14 fun _ => ld h.m12 fun _ => ld
   h.m14 fun _ => st h.m14 fun _ => ld h.m5 fun _ => ld h.m9 fun _ => ld h.m12 fun _ => ld h.m14 fun _ => st h.m14 fun
   _ => ld h.m12 fun _ => safe_pure _

theorem s128 : ∀ k0_t3 v2956 v2959 v2983 v2991, Safe defs 𝒱 c R (k0_part128 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 k0_t3 v2956 v2959 v2983
   v2991) := by
  unfold k0_part128
  exact fun _ _ _ _ _ => ld h.m14 fun _ => st h.m14 fun _ => ld h.m5 fun _ => ld h.m9 fun _ => ld h.m12 fun _ => ld
   h.m14 fun _ => st h.m14 fun _ => ld h.m12 fun _ => ld h.m14 fun _ => st h.m14 fun _ => ld h.m5 fun _ => ld h.m9 fun
   _ => ld h.m12 fun _ => safe_pure _

theorem s129 : ∀ v3019 v3021, Safe defs 𝒱 c R (k0_part129 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3019 v3021) := by
  unfold k0_part129
  exact fun _ _ => ld h.m14 fun _ => st h.m14 fun _ => ld h.m12 fun _ => ld h.m14 fun _ => st h.m14 fun _ => ld h.m13
   fun _ => ld h.m13 fun _ => ld h.m13 fun _ => ld h.m13 fun _ => ld h.m13 fun _ => ld h.m13 fun _ => safe_pure _

theorem s130 : ∀ v3048, Safe defs 𝒱 c R (k0_part130 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3048) := by
  unfold k0_part130
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s131 : ∀ v3078, Safe defs 𝒱 c R (k0_part131 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3078) := by
  unfold k0_part131
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s132 : ∀ v3108, Safe defs 𝒱 c R (k0_part132 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3108) := by
  unfold k0_part132
  exact fun _ => ld h.m13 fun _ => ld h.m13 fun _ => ld h.m13 fun _ => ld h.m13 fun _ => ld h.m13 fun _ => ld h.m13
   fun _ => ld h.m18 fun _ => ld h.m18 fun _ => st h.m18 fun _ => ld h.m20 fun _ => st h.m20 fun _ => safe_pure _

theorem s133 : ∀ v3131, Safe defs 𝒱 c R (k0_part133 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3131) := by
  unfold k0_part133
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s134 : ∀ v3131 v3172 v3173, Safe defs 𝒱 c R (k0_part134 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v3131 v3172 v3173) := by
  unfold k0_part134
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s135 : ∀ v3131 v3208, Safe defs 𝒱 c R (k0_part135 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3131 v3208) := by
  unfold k0_part135
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s136 : ∀ v3131 v3240, Safe defs 𝒱 c R (k0_part136 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3131 v3240) := by
  unfold k0_part136
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s137 : ∀ v3131, Safe defs 𝒱 c R (k0_part137 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3131) := by
  unfold k0_part137
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s138 : ∀ v3131 v3307 v3308, Safe defs 𝒱 c R (k0_part138 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v3131 v3307 v3308) := by
  unfold k0_part138
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s139 : ∀ v3131 v3343, Safe defs 𝒱 c R (k0_part139 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3131 v3343) := by
  unfold k0_part139
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s140 : ∀ v3131 v3375, Safe defs 𝒱 c R (k0_part140 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3131 v3375) := by
  unfold k0_part140
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s141 : ∀ v3131, Safe defs 𝒱 c R (k0_part141 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3131) := by
  unfold k0_part141
  exact fun _ => ld h.m13 fun _ => ld h.m16 fun _ => st h.m16 fun _ => ld h.m13 fun _ => ld h.m16 fun _ => st h.m16
   fun _ => ld h.m13 fun _ => ld h.m13 fun _ => ld h.m13 fun _ => ld h.m13 fun _ => ld h.m13 fun _ => safe_pure _

theorem s142 : ∀ v3441, Safe defs 𝒱 c R (k0_part142 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3441) := by
  unfold k0_part142
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s143 : ∀ v3471, Safe defs 𝒱 c R (k0_part143 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3471) := by
  unfold k0_part143
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s144 : ∀ v3501, Safe defs 𝒱 c R (k0_part144 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3501) := by
  unfold k0_part144
  exact fun _ => ld h.m13 fun _ => ld h.m13 fun _ => ld h.m13 fun _ => ld h.m13 fun _ => ld h.m13 fun _ => ld h.m13
   fun _ => ld h.m13 fun _ => ld h.m18 fun _ => ld h.m18 fun _ => st h.m18 fun _ => safe_pure _

theorem s145 : ∀ v3527 v3532, Safe defs 𝒱 c R (k0_part145 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3527 v3532) := by
  unfold k0_part145
  exact fun _ _ => ld h.m20 fun _ => st h.m20 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s146 : ∀ v3527 v3564, Safe defs 𝒱 c R (k0_part146 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3527 v3564) := by
  unfold k0_part146
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s147 : ∀ v3527, Safe defs 𝒱 c R (k0_part147 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3527) := by
  unfold k0_part147
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s148 : ∀ v3527 v3631 v3632, Safe defs 𝒱 c R (k0_part148 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v3527 v3631 v3632) := by
  unfold k0_part148
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s149 : ∀ v3527 v3667, Safe defs 𝒱 c R (k0_part149 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3527 v3667) := by
  unfold k0_part149
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s150 : ∀ v3527 v3699, Safe defs 𝒱 c R (k0_part150 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3527 v3699) := by
  unfold k0_part150
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s151 : ∀ v3527, Safe defs 𝒱 c R (k0_part151 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3527) := by
  unfold k0_part151
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s152 : ∀ v3527 v3766 v3767, Safe defs 𝒱 c R (k0_part152 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v3527 v3766 v3767) := by
  unfold k0_part152
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s153 : ∀ v3527 v3802, Safe defs 𝒱 c R (k0_part153 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3527 v3802) := by
  unfold k0_part153
  exact fun _ _ => ld h.m16 fun _ => st h.m16 fun _ => ld h.m13 fun _ => ld h.m16 fun _ => st h.m16 fun _ => ld h.m13
   fun _ => ld h.m16 fun _ => st h.m16 fun _ => ld h.m13 fun _ => ld h.m13 fun _ => ld h.m13 fun _ => ld h.m13 fun _
   => safe_pure _

theorem s154 : ∀ v3831 v3832, Safe defs 𝒱 c R (k0_part154 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3831 v3832) := by
  unfold k0_part154
  exact fun _ _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s155 : ∀ v3861 v3862, Safe defs 𝒱 c R (k0_part155 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3861 v3862) := by
  unfold k0_part155
  exact fun _ _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s156 : ∀ v3891 v3892, Safe defs 𝒱 c R (k0_part156 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3891 v3892) := by
  unfold k0_part156
  exact fun _ _ => ld h.m13 fun _ => ld h.m13 fun _ => ld h.m13 fun _ => ld h.m13 fun _ => ld h.m13 fun _ => ld h.m13
   fun _ => ld h.m13 fun _ => ld h.m13 fun _ => ld h.m18 fun _ => safe_pure _

theorem s157 : ∀ v3920 v3923, Safe defs 𝒱 c R (k0_part157 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3920 v3923) := by
  unfold k0_part157
  exact fun _ _ => ld h.m18 fun _ => st h.m18 fun _ => ld h.m20 fun _ => st h.m20 fun _ => ld h.m13 fun _ => ld h.m16
   fun _ => st h.m16 fun _ => ld h.m13 fun _ => ld h.m16 fun _ => st h.m16 fun _ => ld h.m13 fun _ => ld h.m16 fun _
   => safe_pure _

theorem s158 : ∀ v3923 v3955 v3956, Safe defs 𝒱 c R (k0_part158 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v3923 v3955 v3956) := by
  unfold k0_part158
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s159 : ∀ v3923 v3991, Safe defs 𝒱 c R (k0_part159 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3923 v3991) := by
  unfold k0_part159
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s160 : ∀ v3923 v4023, Safe defs 𝒱 c R (k0_part160 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3923 v4023) := by
  unfold k0_part160
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

end AttnBody

end
-- ==== Proof.AttnBody2.lean ====
/-
  The rest of the attention kernel's statements, and its whole body: it runs with every block and scratch buffer held
  at contents nothing names, and leaves them so.
-/
module

public import proofs.«01_k».proof.Proof.AttnBody

@[expose] public section

set_option maxRecDepth 16384

noncomputable section

namespace AttnBody

open Cert.Attn Cert.Attn.Gen Held
open Idealize.ShloMosaic Idealize.ShloMosaic.TcCoe
open Idealize.SL Idealize.SL.Sem

variable {F : FTy → Type} [FloatOps F] {c : Dev nD} {R : Res nD τ sig (Elt F)}
  {defs : Defs nD τ sig (Elt F) Λ₀} {𝒱 : Variants} {i : grid0.Coords}
  {arg3 : Memref sig .tc .vmem S512x512 .bf16}
  {arg4 : Memref sig .tc .vmem S512x512 .bf16}
  {arg5 : Memref sig .tc .vmem S8192x512 .bf16}
  {arg6 : Memref sig .tc .vmem S512x512 .bf16}
  {arg7 : Memref sig .tc .vmem S512x512 .bf16}
  {arg8 : Memref sig .tc .vmem S512x512 .bf16}
  {arg9 : Memref sig .tc .vmem S17x512x128 .bf16}
  {arg10 : Memref sig .tc .vmem S4x17x144x512 .bf16}
  {arg11 : Memref sig .tc .vmem S4x32x128 .f32}
  {arg12 : Memref sig .tc .vmem S4x256x512 .bf16}
  {arg13 : Memref sig .tc .vmem S4x512x512 .f32}
  {arg14 : Memref sig .tc .vmem S4x512x512 .f32}
  {arg15 : Memref sig .tc .vmem S4x512x512 .bf16}
  {arg16 : Memref sig .tc .vmem S4x512x512 .bf16}
  {arg17 : Memref sig .tc .vmem S4x144x512 .f32}
  {arg18 : Memref sig .tc .vmem S4x1x512 .f32}
  {arg19 : Memref sig .tc .vmem S4x1x512 .f32}
  {arg20 : Memref sig .tc .vmem S4x1x512 .f32}
  {arg21 : Memref sig .tc .vmem S512x512 .f32}
  {harg3 : arg3.IsWhole}
  {harg4 : arg4.IsWhole}
  {harg5 : arg5.IsWhole}
  {harg6 : arg6.IsWhole}
  {harg7 : arg7.IsWhole}
  {harg8 : arg8.IsWhole}
  {harg9 : arg9.IsWhole}
  {harg10 : arg10.IsWhole}
  {harg11 : arg11.IsWhole}
  {harg12 : arg12.IsWhole}
  {harg13 : arg13.IsWhole}
  {harg14 : arg14.IsWhole}
  {harg15 : arg15.IsWhole}
  {harg16 : arg16.IsWhole}
  {harg17 : arg17.IsWhole}
  {harg18 : arg18.IsWhole}
  {harg19 : arg19.IsWhole}
  {harg20 : arg20.IsWhole}
  {harg21 : arg21.IsWhole}

variable (h : Held19 c R arg3 arg4 arg5 arg6 arg7 arg8 arg9 arg10 arg11 arg12 arg13 arg14 arg15 arg16 arg17 arg18 arg19 arg20 arg21)
include h

theorem s161 : ∀ v3923, Safe defs 𝒱 c R (k0_part161 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3923) := by
  unfold k0_part161
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s162 : ∀ v3923 v4090 v4091, Safe defs 𝒱 c R (k0_part162 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v3923 v4090 v4091) := by
  unfold k0_part162
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s163 : ∀ v3923 v4126, Safe defs 𝒱 c R (k0_part163 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3923 v4126) := by
  unfold k0_part163
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s164 : ∀ v3923 v4158, Safe defs 𝒱 c R (k0_part164 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v3923 v4158) := by
  unfold k0_part164
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s165 : ∀ v3923, Safe defs 𝒱 c R (k0_part165 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v3923) := by
  unfold k0_part165
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m13 fun _ => safe_pure _

theorem s166 : ∀ v4224, Safe defs 𝒱 c R (k0_part166 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4224) := by
  unfold k0_part166
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s167 : ∀ v4254, Safe defs 𝒱 c R (k0_part167 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4254) := by
  unfold k0_part167
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s168 : ∀ v4284, Safe defs 𝒱 c R (k0_part168 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4284) := by
  unfold k0_part168
  exact fun _ => ld h.m13 fun _ => ld h.m13 fun _ => ld h.m13 fun _ => ld h.m13 fun _ => ld h.m13 fun _ => ld h.m13
   fun _ => ld h.m13 fun _ => ld h.m13 fun _ => ld h.m13 fun _ => ld h.m13 fun _ => safe_pure _

theorem s169 : ∀ v4314, Safe defs 𝒱 c R (k0_part169 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4314) := by
  unfold k0_part169
  exact fun _ => ld h.m18 fun _ => ld h.m18 fun _ => st h.m18 fun _ => ld h.m20 fun _ => st h.m20 fun _ => ld h.m13
   fun _ => ld h.m16 fun _ => st h.m16 fun _ => ld h.m13 fun _ => ld h.m16 fun _ => st h.m16 fun _ => ld h.m13 fun _
   => safe_pure _

theorem s170 : ∀ v4319 v4347, Safe defs 𝒱 c R (k0_part170 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4319 v4347) := by
  unfold k0_part170
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s171 : ∀ v4319, Safe defs 𝒱 c R (k0_part171 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4319) := by
  unfold k0_part171
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s172 : ∀ v4319 v4414 v4415, Safe defs 𝒱 c R (k0_part172 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v4319 v4414 v4415) := by
  unfold k0_part172
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s173 : ∀ v4319 v4450, Safe defs 𝒱 c R (k0_part173 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4319 v4450) := by
  unfold k0_part173
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => ld h.m13 fun _
   => safe_pure _

theorem s174 : ∀ v4319 v4482, Safe defs 𝒱 c R (k0_part174 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4319 v4482) := by
  unfold k0_part174
  exact fun _ _ => ld h.m16 fun _ => st h.m16 fun _ => ld h.m13 fun _ => ld h.m16 fun _ => st h.m16 fun _ => ld h.m13
   fun _ => ld h.m16 fun _ => st h.m16 fun _ => ld h.m13 fun _ => ld h.m16 fun _ => st h.m16 fun _ => safe_pure _

theorem s175 : ∀ v4319, Safe defs 𝒱 c R (k0_part175 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4319) := by
  unfold k0_part175
  exact fun _ => ld h.m13 fun _ => ld h.m16 fun _ => st h.m16 fun _ => ld h.m13 fun _ => ld h.m16 fun _ => st h.m16
   fun _ => ld h.m13 fun _ => ld h.m16 fun _ => st h.m16 fun _ => ld h.m13 fun _ => ld h.m16 fun _ => safe_pure _

theorem s176 : ∀ v4319 v4549 v4550, Safe defs 𝒱 c R (k0_part176 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v4319 v4549 v4550) := by
  unfold k0_part176
  exact fun _ _ _ => st h.m16 fun _ => ld h.m13 fun _ => ld h.m16 fun _ => st h.m16 fun _ => ld h.m13 fun _ => ld
   h.m16 fun _ => st h.m16 fun _ => ld h.m13 fun _ => ld h.m16 fun _ => st h.m16 fun _ => ld h.m13 fun _ => safe_pure
   _

theorem s177 : ∀ v12 v2873 v4319 v4585, Safe defs 𝒱 c R (k0_part177 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v2873 v4319 v4585) := by
  unfold k0_part177
  exact fun _ _ _ _ => ld h.m16 fun _ => st h.m16 fun _ => ld h.m13 fun _ => ld h.m16 fun _ => st h.m16 fun _ => ld
   h.m13 fun _ => ld h.m16 fun _ => st h.m16 fun _ => ld h.m13 fun _ => ld h.m16 fun _ => st h.m16 fun _ => safe_pure
   _

theorem s178 : ∀ k0_t3 v4617 v4618, Safe defs 𝒱 c R (k0_part178 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 k0_t3 v4617 v4618) := by
  unfold k0_part178
  exact fun _ _ _ => ld h.m5 fun _ => ld h.m9 fun _ => ld h.m12 fun _ => ld h.m13 fun _ => st h.m13 fun _ => ld h.m12
   fun _ => ld h.m13 fun _ => st h.m13 fun _ => ld h.m5 fun _ => ld h.m9 fun _ => ld h.m12 fun _ => safe_pure _

theorem s179 : ∀ k0_t3 v4619 v4622 v4646 v4649, Safe defs 𝒱 c R (k0_part179 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 k0_t3 v4619 v4622 v4646
   v4649) := by
  unfold k0_part179
  exact fun _ _ _ _ _ => ld h.m13 fun _ => st h.m13 fun _ => ld h.m12 fun _ => ld h.m13 fun _ => st h.m13 fun _ => ld
   h.m5 fun _ => ld h.m9 fun _ => ld h.m12 fun _ => ld h.m13 fun _ => st h.m13 fun _ => ld h.m12 fun _ => ld h.m13 fun
   _ => st h.m13 fun _ => safe_pure _

theorem s180 : ∀ k0_t3 v4619, Safe defs 𝒱 c R (k0_part180 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 k0_t3 v4619) := by
  unfold k0_part180
  exact fun _ _ => ld h.m5 fun _ => ld h.m9 fun _ => ld h.m12 fun _ => ld h.m13 fun _ => st h.m13 fun _ => ld h.m12
   fun _ => ld h.m13 fun _ => st h.m13 fun _ => ld h.m14 fun _ => ld h.m14 fun _ => ld h.m14 fun _ => ld h.m14 fun _
   => safe_pure _

theorem s181 : ∀ v4705, Safe defs 𝒱 c R (k0_part181 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4705) := by
  unfold k0_part181
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s182 : ∀ v4735, Safe defs 𝒱 c R (k0_part182 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4735) := by
  unfold k0_part182
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s183 : ∀ v4765, Safe defs 𝒱 c R (k0_part183 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4765) := by
  unfold k0_part183
  exact fun _ => ld h.m14 fun _ => ld h.m14 fun _ => ld h.m14 fun _ => ld h.m14 fun _ => ld h.m14 fun _ => ld h.m14
   fun _ => ld h.m14 fun _ => ld h.m14 fun _ => ld h.m18 fun _ => ld h.m18 fun _ => safe_pure _

theorem s184 : ∀ v4791 v4794, Safe defs 𝒱 c R (k0_part184 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4791 v4794) := by
  unfold k0_part184
  exact fun _ _ => st h.m18 fun _ => ld h.m19 fun _ => st h.m19 fun _ => ld h.m14 fun _ => ld h.m15 fun _ => st h.m15
   fun _ => ld h.m14 fun _ => ld h.m15 fun _ => st h.m15 fun _ => ld h.m14 fun _ => ld h.m15 fun _ => st h.m15 fun _
   => safe_pure _

theorem s185 : ∀ v4794, Safe defs 𝒱 c R (k0_part185 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4794) := by
  unfold k0_part185
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s186 : ∀ v4794 v4862 v4863, Safe defs 𝒱 c R (k0_part186 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v4794 v4862 v4863) := by
  unfold k0_part186
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s187 : ∀ v4794 v4898, Safe defs 𝒱 c R (k0_part187 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4794 v4898) := by
  unfold k0_part187
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s188 : ∀ v4794 v4930, Safe defs 𝒱 c R (k0_part188 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4794 v4930) := by
  unfold k0_part188
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s189 : ∀ v4794, Safe defs 𝒱 c R (k0_part189 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v4794) := by
  unfold k0_part189
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s190 : ∀ v4794 v4997 v4998, Safe defs 𝒱 c R (k0_part190 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v4794 v4997 v4998) := by
  unfold k0_part190
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s191 : ∀ v4794 v5033, Safe defs 𝒱 c R (k0_part191 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4794 v5033) := by
  unfold k0_part191
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s192 : ∀ v4794 v5065, Safe defs 𝒱 c R (k0_part192 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v4794 v5065) := by
  unfold k0_part192
  exact fun _ _ => ld h.m15 fun _ => st h.m15 fun _ => ld h.m14 fun _ => ld h.m15 fun _ => st h.m15 fun _ => ld h.m14
   fun _ => ld h.m15 fun _ => st h.m15 fun _ => ld h.m14 fun _ => ld h.m14 fun _ => ld h.m14 fun _ => safe_pure _

theorem s193 : ∀ v5098, Safe defs 𝒱 c R (k0_part193 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5098) := by
  unfold k0_part193
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s194 : ∀ v5128, Safe defs 𝒱 c R (k0_part194 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5128) := by
  unfold k0_part194
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s195 : ∀ v5158, Safe defs 𝒱 c R (k0_part195 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5158) := by
  unfold k0_part195
  exact fun _ => ld h.m14 fun _ => ld h.m14 fun _ => ld h.m14 fun _ => ld h.m14 fun _ => ld h.m14 fun _ => ld h.m14
   fun _ => ld h.m14 fun _ => ld h.m14 fun _ => ld h.m14 fun _ => ld h.m18 fun _ => safe_pure _

theorem s196 : ∀ v5185 v5187, Safe defs 𝒱 c R (k0_part196 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5185 v5187) := by
  unfold k0_part196
  exact fun _ _ => ld h.m18 fun _ => st h.m18 fun _ => ld h.m19 fun _ => st h.m19 fun _ => ld h.m14 fun _ => ld h.m15
   fun _ => st h.m15 fun _ => ld h.m14 fun _ => ld h.m15 fun _ => st h.m15 fun _ => ld h.m14 fun _ => safe_pure _

theorem s197 : ∀ v5190 v5222, Safe defs 𝒱 c R (k0_part197 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5190 v5222) := by
  unfold k0_part197
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s198 : ∀ v5190 v5254, Safe defs 𝒱 c R (k0_part198 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5190 v5254) := by
  unfold k0_part198
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s199 : ∀ v5190, Safe defs 𝒱 c R (k0_part199 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5190) := by
  unfold k0_part199
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s200 : ∀ v5190 v5321 v5322, Safe defs 𝒱 c R (k0_part200 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5190 v5321 v5322) := by
  unfold k0_part200
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s201 : ∀ v5190 v5357, Safe defs 𝒱 c R (k0_part201 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5190 v5357) := by
  unfold k0_part201
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s202 : ∀ v5190 v5389, Safe defs 𝒱 c R (k0_part202 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5190 v5389) := by
  unfold k0_part202
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s203 : ∀ v5190, Safe defs 𝒱 c R (k0_part203 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5190) := by
  unfold k0_part203
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s204 : ∀ v5190 v5456 v5457, Safe defs 𝒱 c R (k0_part204 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5190 v5456 v5457) := by
  unfold k0_part204
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => ld h.m14
   fun _ => safe_pure _

theorem s205 : ∀ v5488 v5489, Safe defs 𝒱 c R (k0_part205 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5488 v5489) := by
  unfold k0_part205
  exact fun _ _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s206 : ∀ v5518 v5519, Safe defs 𝒱 c R (k0_part206 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5518 v5519) := by
  unfold k0_part206
  exact fun _ _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s207 : ∀ v5548 v5549, Safe defs 𝒱 c R (k0_part207 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5548 v5549) := by
  unfold k0_part207
  exact fun _ _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s208 : ∀ v5578 v5579, Safe defs 𝒱 c R (k0_part208 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5578 v5579) := by
  unfold k0_part208
  exact fun _ _ => ld h.m18 fun _ => ld h.m18 fun _ => st h.m18 fun _ => ld h.m19 fun _ => st h.m19 fun _ => ld h.m14
   fun _ => ld h.m15 fun _ => st h.m15 fun _ => ld h.m14 fun _ => ld h.m15 fun _ => st h.m15 fun _ => safe_pure _

theorem s209 : ∀ v5586, Safe defs 𝒱 c R (k0_part209 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5586) := by
  unfold k0_part209
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s210 : ∀ v5586 v5645 v5646, Safe defs 𝒱 c R (k0_part210 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5586 v5645 v5646) := by
  unfold k0_part210
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s211 : ∀ v5586 v5681, Safe defs 𝒱 c R (k0_part211 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5681) := by
  unfold k0_part211
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s212 : ∀ v5586 v5713, Safe defs 𝒱 c R (k0_part212 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5713) := by
  unfold k0_part212
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s213 : ∀ v5586, Safe defs 𝒱 c R (k0_part213 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5586) := by
  unfold k0_part213
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s214 : ∀ v5586 v5780 v5781, Safe defs 𝒱 c R (k0_part214 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5586 v5780 v5781) := by
  unfold k0_part214
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s215 : ∀ v5586 v5816, Safe defs 𝒱 c R (k0_part215 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5816) := by
  unfold k0_part215
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s216 : ∀ v5586 v5848, Safe defs 𝒱 c R (k0_part216 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5586 v5848) := by
  unfold k0_part216
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s217 : Safe defs 𝒱 c R (k0_part217 (F := F) i arg3 harg3 arg4 harg4 arg5 harg5 arg6 harg6 arg7 harg7 arg8
   harg8 arg9 harg9 arg10 harg10 arg11 harg11 arg12 harg12 arg13 harg13 arg14 harg14 arg15 harg15 arg16 harg16 arg17
   harg17 arg18 harg18 arg19 harg19 arg20 harg20 arg21 harg21) := by
  unfold k0_part217
  exact ld h.m14 fun _ => ld h.m14 fun _ => ld h.m14 fun _ => ld h.m14 fun _ => ld h.m14 fun _ => ld h.m14 fun _ => ld
   h.m14 fun _ => ld h.m14 fun _ => ld h.m14 fun _ => ld h.m14 fun _ => safe_pure _

theorem s218 : ∀ v5911, Safe defs 𝒱 c R (k0_part218 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5911) := by
  unfold k0_part218
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s219 : ∀ v5941, Safe defs 𝒱 c R (k0_part219 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5941) := by
  unfold k0_part219
  exact fun _ => ld h.m14 fun _ => ld h.m14 fun _ => ld h.m14 fun _ => ld h.m14 fun _ => ld h.m14 fun _ => ld h.m14
   fun _ => ld h.m14 fun _ => ld h.m14 fun _ => ld h.m14 fun _ => ld h.m14 fun _ => safe_pure _

theorem s220 : ∀ v5971, Safe defs 𝒱 c R (k0_part220 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5971) := by
  unfold k0_part220
  exact fun _ => ld h.m14 fun _ => ld h.m14 fun _ => ld h.m18 fun _ => ld h.m18 fun _ => st h.m18 fun _ => ld h.m19
   fun _ => st h.m19 fun _ => ld h.m14 fun _ => ld h.m15 fun _ => st h.m15 fun _ => ld h.m14 fun _ => safe_pure _

theorem s221 : ∀ v5982 v6005, Safe defs 𝒱 c R (k0_part221 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6005) := by
  unfold k0_part221
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s222 : ∀ v5982 v6037, Safe defs 𝒱 c R (k0_part222 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6037) := by
  unfold k0_part222
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s223 : ∀ v5982, Safe defs 𝒱 c R (k0_part223 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5982) := by
  unfold k0_part223
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s224 : ∀ v5982 v6104 v6105, Safe defs 𝒱 c R (k0_part224 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5982 v6104 v6105) := by
  unfold k0_part224
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s225 : ∀ v5982 v6140, Safe defs 𝒱 c R (k0_part225 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6140) := by
  unfold k0_part225
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => ld h.m14 fun _
   => safe_pure _

theorem s226 : ∀ v5982 v6172, Safe defs 𝒱 c R (k0_part226 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v5982 v6172) := by
  unfold k0_part226
  exact fun _ _ => ld h.m15 fun _ => st h.m15 fun _ => ld h.m14 fun _ => ld h.m15 fun _ => st h.m15 fun _ => ld h.m14
   fun _ => ld h.m15 fun _ => st h.m15 fun _ => ld h.m14 fun _ => ld h.m15 fun _ => st h.m15 fun _ => safe_pure _

theorem s227 : ∀ v5982, Safe defs 𝒱 c R (k0_part227 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v5982) := by
  unfold k0_part227
  exact fun _ => ld h.m14 fun _ => ld h.m15 fun _ => st h.m15 fun _ => ld h.m14 fun _ => ld h.m15 fun _ => st h.m15
   fun _ => ld h.m14 fun _ => ld h.m15 fun _ => st h.m15 fun _ => ld h.m14 fun _ => ld h.m15 fun _ => safe_pure _

theorem s228 : ∀ v5982 v6239 v6240, Safe defs 𝒱 c R (k0_part228 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v5982 v6239 v6240) := by
  unfold k0_part228
  exact fun _ _ _ => st h.m15 fun _ => ld h.m14 fun _ => ld h.m15 fun _ => st h.m15 fun _ => ld h.m14 fun _ => ld
   h.m15 fun _ => st h.m15 fun _ => ld h.m14 fun _ => ld h.m15 fun _ => st h.m15 fun _ => ld h.m14 fun _ => safe_pure
   _

theorem s229 : ∀ v12 k0_t3 v2873 v6275, Safe defs 𝒱 c R (k0_part229 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 k0_t3 v2873 v6275) := by
  unfold k0_part229
  exact fun _ _ _ _ => ld h.m15 fun _ => st h.m15 fun _ => ld h.m20 fun _ => ld h.m17 fun _ => ld h.m10 fun _ => ld
   h.m16 fun _ => ld h.m17 fun _ => st h.m17 fun _ => ld h.m20 fun _ => ld h.m17 fun _ => safe_pure _

theorem s230 : ∀ v12 k0_t3 v2873 v6299 v6303 v6304, Safe defs 𝒱 c R (k0_part230 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 v12 k0_t3 v2873
   v6299 v6303 v6304) := by
  unfold k0_part230
  exact fun _ _ _ _ _ _ => ld h.m10 fun _ => ld h.m16 fun _ => ld h.m17 fun _ => st h.m17 fun _ => ld h.m20 fun _ =>
   ld h.m17 fun _ => ld h.m10 fun _ => ld h.m16 fun _ => safe_pure _

theorem s231 : ∀ v12 v47 c1_i32_26 k0_t3, Safe defs 𝒱 c R (k0_part231 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v47 c1_i32_26 k0_t3) := by
  unfold k0_part231
  exact fun _ _ _ _ => sq (s124 h _ _ _ _) fun ⟨_, _, _⟩ => sq (s125 h _ _ _ _ _) fun _ => sq (s126 h _ _ _ _) fun ⟨_,
   _, _⟩ => sq (s127 h _ _ _ _) fun ⟨_, _⟩ => sq (s128 h _ _ _ _ _) fun ⟨_, _⟩ => sq (s129 h _ _) fun _ => sq (s130 h
   _) fun _ => sq (s131 h _) fun _ => sq (s132 h _) fun _ => sq (s133 h _) fun ⟨_, _⟩ => sq (s134 h _ _ _) fun _ => sq
   (s135 h _ _) fun _ => sq (s136 h _ _) fun _ => sq (s137 h _) fun ⟨_, _⟩ => sq (s138 h _ _ _) fun _ => sq (s139 h _
   _) fun _ => sq (s140 h _ _) fun _ => sq (s141 h _) fun _ => sq (s142 h _) fun _ => sq (s143 h _) fun _ => sq (s144
   h _) fun ⟨_, _⟩ => sq (s145 h _ _) fun _ => sq (s146 h _ _) fun _ => sq (s147 h _) fun ⟨_, _⟩ => sq (s148 h _ _ _)
   fun _ => sq (s149 h _ _) fun _ => sq (s150 h _ _) fun _ => sq (s151 h _) fun ⟨_, _⟩ => sq (s152 h _ _ _) fun _ =>
   sq (s153 h _ _) fun ⟨_, _⟩ => sq (s154 h _ _) fun ⟨_, _⟩ => sq (s155 h _ _) fun ⟨_, _⟩ => sq (s156 h _ _) fun ⟨_,
   _⟩ => sq (s157 h _ _) fun ⟨_, _⟩ => sq (s158 h _ _ _) fun _ => sq (s159 h _ _) fun _ => sq (s160 h _ _) fun _ => sq
   (s161 h _) fun ⟨_, _⟩ => sq (s162 h _ _ _) fun _ => sq (s163 h _ _) fun _ => sq (s164 h _ _) fun _ => sq (s165 h _)
   fun _ => sq (s166 h _) fun _ => sq (s167 h _) fun _ => sq (s168 h _) fun _ => sq (s169 h _) fun ⟨_, _⟩ => sq (s170
   h _ _) fun _ => sq (s171 h _) fun ⟨_, _⟩ => sq (s172 h _ _ _) fun _ => sq (s173 h _ _) fun _ => sq (s174 h _ _) fun
   _ => sq (s175 h _) fun ⟨_, _⟩ => sq (s176 h _ _ _) fun _ => sq (s177 h _ _ _ _) fun ⟨_, _⟩ => sq (s178 h _ _ _) fun
   ⟨_, _, _, _⟩ => sq (s179 h _ _ _ _ _) fun _ => sq (s180 h _ _) fun _ => sq (s181 h _) fun _ => sq (s182 h _) fun _
   => sq (s183 h _) fun ⟨_, _⟩ => safe_pure _

theorem s232 : ∀ v12 k0_t3 v2873 v4791 v4794, Safe defs 𝒱 c R (k0_part232 (F := F) i arg3 harg3 arg4 harg4 arg5
   harg5 arg6 harg6 arg7 harg7 arg8 harg8 arg9 harg9 arg10 harg10 arg11 harg11 arg12 harg12 arg13 harg13 arg14 harg14
   arg15 harg15 arg16 harg16 arg17 harg17 arg18 harg18 arg19 harg19 arg20 harg20 arg21 harg21 v12 k0_t3 v2873 v4791
   v4794) := by
  unfold k0_part232
  exact fun _ _ _ _ _ => sq (s184 h _ _) fun _ => sq (s185 h _) fun ⟨_, _⟩ => sq (s186 h _ _ _) fun _ => sq (s187 h _
   _) fun _ => sq (s188 h _ _) fun _ => sq (s189 h _) fun ⟨_, _⟩ => sq (s190 h _ _ _) fun _ => sq (s191 h _ _) fun _
   => sq (s192 h _ _) fun _ => sq (s193 h _) fun _ => sq (s194 h _) fun _ => sq (s195 h _) fun ⟨_, _⟩ => sq (s196 h _
   _) fun ⟨_, _⟩ => sq (s197 h _ _) fun _ => sq (s198 h _ _) fun _ => sq (s199 h _) fun ⟨_, _⟩ => sq (s200 h _ _ _)
   fun _ => sq (s201 h _ _) fun _ => sq (s202 h _ _) fun _ => sq (s203 h _) fun ⟨_, _⟩ => sq (s204 h _ _ _) fun ⟨_, _⟩
   => sq (s205 h _ _) fun ⟨_, _⟩ => sq (s206 h _ _) fun ⟨_, _⟩ => sq (s207 h _ _) fun ⟨_, _⟩ => sq (s208 h _ _) fun _
   => sq (s209 h _) fun ⟨_, _⟩ => sq (s210 h _ _ _) fun _ => sq (s211 h _ _) fun _ => sq (s212 h _ _) fun _ => sq
   (s213 h _) fun ⟨_, _⟩ => sq (s214 h _ _ _) fun _ => sq (s215 h _ _) fun _ => sq (s216 h _ _) fun _ => sq (s217 h)
   fun _ => sq (s218 h _) fun _ => sq (s219 h _) fun _ => sq (s220 h _) fun ⟨_, _⟩ => sq (s221 h _ _) fun _ => sq
   (s222 h _ _) fun _ => sq (s223 h _) fun ⟨_, _⟩ => sq (s224 h _ _ _) fun _ => sq (s225 h _ _) fun _ => sq (s226 h _
   _) fun _ => sq (s227 h _) fun ⟨_, _⟩ => sq (s228 h _ _ _) fun _ => sq (s229 h _ _ _ _) fun ⟨_, _, _⟩ => sq (s230 h
   _ _ _ _ _ _) fun _ => ld h.m17 fun _ => st h.m17 fun _ => ld h.m20 fun _ => safe_pure _

theorem s233 : Safe defs 𝒱 c R (k0_part233 (F := F) i arg3 harg3 arg4 harg4 arg5 harg5 arg6 harg6 arg7 harg7 arg8
   harg8 arg9 harg9 arg10 harg10 arg11 harg11 arg12 harg12 arg13 harg13 arg14 harg14 arg15 harg15 arg16 harg16 arg17
   harg17 arg18 harg18 arg19 harg19 arg20 harg20 arg21 harg21) := by
  unfold k0_part233
  exact safe_dite (fun _ => sq (s4 h) fun ⟨_, _⟩ => sq (s5 h _ _ _) fun ⟨_, _, _, _, _⟩ => sq (s6 h _ _ _ _ _) fun ⟨_,
   _, _, _, _, _, _, _⟩ => sq (s7 h _ _ _ _ _ _) fun _ => sq (s8 h _ _ _) fun ⟨_, _, _⟩ => sq (s9 h _ _ _ _ _ _ _) fun
   ⟨_, _, _, _, _, _⟩ => sq (s10 h _ _ _ _ _ _ _) fun ⟨_, _⟩ => sq (s11 h _ _ _ _) fun ⟨_, _, _, _, _⟩ => sq (s12 h _
   _ _ _ _ _ _) fun ⟨_, _, _⟩ => sq (s13 h _ _ _ _) fun ⟨_, _, _⟩ => sq (s14 h _ _ _ _) fun _ => ld h.m12 fun _ => ld
   h.m13 fun _ => st h.m13 fun _ => ld h.m5 fun _ => ld h.m9 fun _ => ld h.m12 fun _ => ld h.m13 fun _ => st h.m13 fun
   _ => ld h.m12 fun _ => ld h.m13 fun _ => st h.m13 fun _ => ld h.m17 fun _ => st h.m17 fun _ => ld h.m18 fun _ => st
   h.m18 fun _ => ld h.m19 fun _ => st h.m19 fun _ => safe_pure _) fun _ => ld h.m17 fun _ => st h.m17 fun _ => ld
   h.m18 fun _ => st h.m18 fun _ => ld h.m19 fun _ => st h.m19 fun _ => safe_pure _

theorem s234 : ∀ arg2 v12 v25 c2_i32_15 v26 v28 v29, Safe defs 𝒱 c R (k0_part234 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 arg2 v12 v25
   c2_i32_15 v26 v28 v29) := by
  unfold k0_part234
  exact fun _ _ _ _ _ _ _ => sq (safe_for fun _ _ => sq (s122 h _ _ _ _) fun ⟨_, _, _⟩ => sq (s123 h _ _ _ _ _) fun
   ⟨_, _⟩ => ld h.m17 fun _ => ld h.m10 fun _ => ld h.m16 fun _ => ld h.m17 fun _ => st h.m17 fun _ => safe_pure _)
   fun _ => sq (safe_for fun _ _ => sq (s231 h _ _ _ _) fun ⟨_, _, _⟩ => sq (s232 h _ _ _ _ _) fun ⟨_, _⟩ => ld h.m17
   fun _ => ld h.m10 fun _ => ld h.m16 fun _ => ld h.m17 fun _ => st h.m17 fun _ => safe_pure _) fun _ => ld h.m6 fun
   _ => ld h.m10 fun _ => st h.m10 fun _ => ld h.m6 fun _ => ld h.m10 fun _ => st h.m10 fun _ => ld h.m6 fun _ =>
   safe_pure _

theorem s235 : ∀ arg2 v64, Safe defs 𝒱 c R (k0_part235 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 arg2 v64) := by
  unfold k0_part235
  exact fun _ _ => ld h.m10 fun _ => st h.m10 fun _ => ld h.m6 fun _ => ld h.m10 fun _ => st h.m10 fun _ => ld h.m6
   fun _ => ld h.m10 fun _ => st h.m10 fun _ => ld h.m6 fun _ => ld h.m10 fun _ => st h.m10 fun _ => ld h.m6 fun _ =>
   safe_pure _

theorem s236 : ∀ arg2 v99, Safe defs 𝒱 c R (k0_part236 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 arg2 v99) := by
  unfold k0_part236
  exact fun _ _ => ld h.m10 fun _ => st h.m10 fun _ => ld h.m6 fun _ => ld h.m10 fun _ => st h.m10 fun _ => ld h.m4
   fun _ => ld h.m4 fun _ => ld h.m4 fun _ => ld h.m4 fun _ => ld h.m11 fun _ => ld h.m11 fun _ => safe_pure _

theorem s237 : ∀ arg2 v119 v123 v127 v131 v134 cst_76, Safe defs 𝒱 c R (k0_part237 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 arg2 v119 v123
   v127 v131 v134 cst_76) := by
  unfold k0_part237
  exact fun _ _ _ _ _ _ _ => ld h.m11 fun _ => ld h.m11 fun _ => safe_pure _

theorem s238 : ∀ arg2 v115 v145 v155 v157 v171 v173 v174, Safe defs 𝒱 c R (k0_part238 (F := F) i arg3 harg3 arg4
   harg4 arg5 harg5 arg6 harg6 arg7 harg7 arg8 harg8 arg9 harg9 arg10 harg10 arg11 harg11 arg12 harg12 arg13 harg13
   arg14 harg14 arg15 harg15 arg16 harg16 arg17 harg17 arg18 harg18 arg19 harg19 arg20 harg20 arg21 harg21 arg2 v115
   v145 v155 v157 v171 v173 v174) := by
  unfold k0_part238
  exact fun _ _ _ _ _ _ _ _ => ld h.m12 fun _ => st h.m12 fun _ => ld h.m12 fun _ => st h.m12 fun _ => safe_pure _

theorem s239 : ∀ v135 v214 v215, Safe defs 𝒱 c R (k0_part239 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v135 v214 v215) := by
  unfold k0_part239
  exact fun _ _ _ => safe_pure _

theorem s240 : ∀ arg2 v119 v139 v215 v225 v257 v259, Safe defs 𝒱 c R (k0_part240 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 arg2 v119 v139
   v215 v225 v257 v259) := by
  unfold k0_part240
  exact fun _ _ _ _ _ _ _ => ld h.m12 fun _ => st h.m12 fun _ => ld h.m12 fun _ => st h.m12 fun _ => safe_pure _

theorem s241 : ∀ v123 v285 v295 v297 v298 cst_145 cst_146, Safe defs 𝒱 c R (k0_part241 (F := F) i arg3 harg3 arg4
   harg4 arg5 harg5 arg6 harg6 arg7 harg7 arg8 harg8 arg9 harg9 arg10 harg10 arg11 harg11 arg12 harg12 arg13 harg13
   arg14 harg14 arg15 harg15 arg16 harg16 arg17 harg17 arg18 harg18 arg19 harg19 arg20 harg20 arg21 harg21 v123 v285
   v295 v297 v298 cst_145 cst_146) := by
  unfold k0_part241
  exact fun _ _ _ _ _ _ _ => ld h.m12 fun _ => safe_pure _

theorem s242 : ∀ arg2 v143 v341 v344, Safe defs 𝒱 c R (k0_part242 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 arg2 v143 v341 v344) := by
  unfold k0_part242
  exact fun _ _ _ _ => st h.m12 fun _ => ld h.m12 fun _ => st h.m12 fun _ => safe_pure _

theorem s243 : ∀ v127 v355 v365 v367 v381 v383 v384, Safe defs 𝒱 c R (k0_part243 (F := F) i arg3 harg3 arg4 harg4
   arg5 harg5 arg6 harg6 arg7 harg7 arg8 harg8 arg9 harg9 arg10 harg10 arg11 harg11 arg12 harg12 arg13 harg13 arg14
   harg14 arg15 harg15 arg16 harg16 arg17 harg17 arg18 harg18 arg19 harg19 arg20 harg20 arg21 harg21 v127 v355 v365
   v367 v381 v383 v384) := by
  unfold k0_part243
  exact fun _ _ _ _ _ _ _ => ld h.m12 fun _ => st h.m12 fun _ => ld h.m12 fun _ => st h.m12 fun _ => safe_pure _

theorem s244 : Safe defs 𝒱 c R (k0_part244 (F := F) i arg3 harg3 arg4 harg4 arg5 harg5 arg6 harg6 arg7 harg7 arg8
   harg8 arg9 harg9 arg10 harg10 arg11 harg11 arg12 harg12 arg13 harg13 arg14 harg14 arg15 harg15 arg16 harg16 arg17
   harg17 arg18 harg18 arg19 harg19 arg20 harg20 arg21 harg21) := by
  unfold k0_part244
  exact ld h.m13 fun _ => ld h.m21 fun _ => ld h.m13 fun _ => ld h.m21 fun _ => ld h.m13 fun _ => ld h.m21 fun _ => ld
   h.m13 fun _ => ld h.m21 fun _ => ld h.m13 fun _ => ld h.m21 fun _ => ld h.m13 fun _ => ld h.m21 fun _ => ld h.m13
   fun _ => safe_pure _

theorem s245 : ∀ v452 v453, Safe defs 𝒱 c R (k0_part245 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v452 v453) := by
  unfold k0_part245
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s246 : ∀ v482 v483, Safe defs 𝒱 c R (k0_part246 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v482 v483) := by
  unfold k0_part246
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s247 : ∀ v512 v513, Safe defs 𝒱 c R (k0_part247 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v512 v513) := by
  unfold k0_part247
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s248 : ∀ v542 v543, Safe defs 𝒱 c R (k0_part248 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v542 v543) := by
  unfold k0_part248
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s249 : ∀ v572 v573, Safe defs 𝒱 c R (k0_part249 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v572 v573) := by
  unfold k0_part249
  exact fun _ _ => ld h.m21 fun _ => ld h.m13 fun _ => ld h.m21 fun _ => ld h.m18 fun _ => ld h.m18 fun _ => st h.m18
   fun _ => ld h.m20 fun _ => st h.m20 fun _ => ld h.m13 fun _ => ld h.m21 fun _ => ld h.m16 fun _ => safe_pure _

theorem s250 : ∀ v587 v606, Safe defs 𝒱 c R (k0_part250 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v606) := by
  unfold k0_part250
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s251 : ∀ v587 v639, Safe defs 𝒱 c R (k0_part251 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v639) := by
  unfold k0_part251
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s252 : ∀ v587 v672, Safe defs 𝒱 c R (k0_part252 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v672) := by
  unfold k0_part252
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s253 : ∀ v587 v705, Safe defs 𝒱 c R (k0_part253 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v705) := by
  unfold k0_part253
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s254 : ∀ v587 v738, Safe defs 𝒱 c R (k0_part254 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v738) := by
  unfold k0_part254
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s255 : ∀ v587 v771, Safe defs 𝒱 c R (k0_part255 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v771) := by
  unfold k0_part255
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s256 : ∀ v587 v804, Safe defs 𝒱 c R (k0_part256 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v804) := by
  unfold k0_part256
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s257 : ∀ v587 v837, Safe defs 𝒱 c R (k0_part257 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v837) := by
  unfold k0_part257
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s258 : ∀ v587 v870, Safe defs 𝒱 c R (k0_part258 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v870) := by
  unfold k0_part258
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s259 : ∀ v587 v903, Safe defs 𝒱 c R (k0_part259 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v587 v903) := by
  unfold k0_part259
  exact fun _ _ => st h.m16 fun _ => ld h.m13 fun _ => ld h.m21 fun _ => ld h.m16 fun _ => st h.m16 fun _ => ld h.m13
   fun _ => ld h.m21 fun _ => ld h.m16 fun _ => st h.m16 fun _ => ld h.m13 fun _ => ld h.m21 fun _ => ld h.m16 fun _
   => safe_pure _

theorem s260 : ∀ v12 v25 v587 v936, Safe defs 𝒱 c R (k0_part260 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v25 v587 v936) := by
  unfold k0_part260
  exact fun _ _ _ _ => st h.m16 fun _ => ld h.m13 fun _ => ld h.m21 fun _ => ld h.m16 fun _ => st h.m16 fun _ => ld
   h.m19 fun _ => ld h.m17 fun _ => ld h.m10 fun _ => ld h.m15 fun _ => ld h.m17 fun _ => safe_pure _

theorem s261 : ∀ arg2 v12 v25 v967, Safe defs 𝒱 c R (k0_part261 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 arg2 v12 v25 v967) := by
  unfold k0_part261
  exact fun _ _ _ _ => st h.m17 fun _ => ld h.m20 fun _ => ld h.m17 fun _ => ld h.m10 fun _ => ld h.m16 fun _ => ld
   h.m17 fun _ => st h.m17 fun _ => safe_pure _

theorem s262 : ∀ v998 c0_i32_637, Safe defs 𝒱 c R (k0_part262 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v998 c0_i32_637) := by
  unfold k0_part262
  exact fun _ _ => ld h.m5 fun _ => ld h.m9 fun _ => ld h.m12 fun _ => ld h.m13 fun _ => st h.m13 fun _ => ld h.m12
   fun _ => ld h.m13 fun _ => st h.m13 fun _ => ld h.m17 fun _ => ld h.m17 fun _ => safe_pure _

theorem s263 : ∀ v1029, Safe defs 𝒱 c R (k0_part263 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v1029) := by
  unfold k0_part263
  exact fun _ => ld h.m7 fun _ => ld h.m8 fun _ => st h.m8 fun _ => ld h.m13 fun _ => ld h.m21 fun _ => ld h.m13 fun _
   => ld h.m21 fun _ => ld h.m13 fun _ => ld h.m21 fun _ => ld h.m13 fun _ => ld h.m21 fun _ => ld h.m13 fun _ => ld
   h.m21 fun _ => safe_pure _

theorem s264 : ∀ v1059, Safe defs 𝒱 c R (k0_part264 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v1059) := by
  unfold k0_part264
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s265 : ∀ v1089, Safe defs 𝒱 c R (k0_part265 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v1089) := by
  unfold k0_part265
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s266 : ∀ v1119, Safe defs 𝒱 c R (k0_part266 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v1119) := by
  unfold k0_part266
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s267 : ∀ v1149, Safe defs 𝒱 c R (k0_part267 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v1149) := by
  unfold k0_part267
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s268 : ∀ v1179, Safe defs 𝒱 c R (k0_part268 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v1179) := by
  unfold k0_part268
  exact fun _ => ld h.m13 fun _ => ld h.m21 fun _ => ld h.m13 fun _ => ld h.m21 fun _ => ld h.m13 fun _ => ld h.m21
   fun _ => ld h.m18 fun _ => ld h.m18 fun _ => st h.m18 fun _ => ld h.m20 fun _ => st h.m20 fun _ => ld h.m13 fun _
   => safe_pure _

theorem s269 : ∀ v1199 v1209, Safe defs 𝒱 c R (k0_part269 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1209) := by
  unfold k0_part269
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s270 : ∀ v1199 v1242, Safe defs 𝒱 c R (k0_part270 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1242) := by
  unfold k0_part270
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s271 : ∀ v1199 v1275, Safe defs 𝒱 c R (k0_part271 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1275) := by
  unfold k0_part271
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s272 : ∀ v1199 v1308, Safe defs 𝒱 c R (k0_part272 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1308) := by
  unfold k0_part272
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s273 : ∀ v1199 v1341, Safe defs 𝒱 c R (k0_part273 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1341) := by
  unfold k0_part273
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s274 : ∀ v1199 v1374, Safe defs 𝒱 c R (k0_part274 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1374) := by
  unfold k0_part274
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s275 : ∀ v1199 v1407, Safe defs 𝒱 c R (k0_part275 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1407) := by
  unfold k0_part275
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s276 : ∀ v1199 v1440, Safe defs 𝒱 c R (k0_part276 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1440) := by
  unfold k0_part276
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s277 : ∀ v1199 v1473, Safe defs 𝒱 c R (k0_part277 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1473) := by
  unfold k0_part277
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s278 : ∀ v1199 v1506, Safe defs 𝒱 c R (k0_part278 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1199 v1506) := by
  unfold k0_part278
  exact fun _ _ => ld h.m21 fun _ => ld h.m16 fun _ => st h.m16 fun _ => ld h.m13 fun _ => ld h.m21 fun _ => ld h.m16
   fun _ => st h.m16 fun _ => ld h.m13 fun _ => ld h.m21 fun _ => ld h.m16 fun _ => st h.m16 fun _ => ld h.m13 fun _
   => safe_pure _

theorem s279 : ∀ v12 v25 v1199 v1539, Safe defs 𝒱 c R (k0_part279 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v25 v1199 v1539) := by
  unfold k0_part279
  exact fun _ _ _ _ => ld h.m21 fun _ => ld h.m16 fun _ => st h.m16 fun _ => ld h.m13 fun _ => ld h.m21 fun _ => ld
   h.m16 fun _ => st h.m16 fun _ => ld h.m19 fun _ => ld h.m17 fun _ => ld h.m10 fun _ => safe_pure _

theorem s280 : ∀ arg2 v12 v25 v1566 v1572, Safe defs 𝒱 c R (k0_part280 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 arg2 v12 v25 v1566 v1572) :=
   by
  unfold k0_part280
  exact fun _ _ _ _ _ => ld h.m15 fun _ => ld h.m17 fun _ => st h.m17 fun _ => ld h.m20 fun _ => ld h.m17 fun _ => ld
   h.m10 fun _ => ld h.m16 fun _ => ld h.m17 fun _ => st h.m17 fun _ => safe_pure _

theorem s281 : ∀ v1599 v1601, Safe defs 𝒱 c R (k0_part281 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1599 v1601) := by
  unfold k0_part281
  exact fun _ _ => ld h.m5 fun _ => ld h.m9 fun _ => ld h.m12 fun _ => ld h.m13 fun _ => st h.m13 fun _ => ld h.m12
   fun _ => ld h.m13 fun _ => st h.m13 fun _ => safe_pure _

theorem s282 : Safe defs 𝒱 c R (k0_part282 (F := F) i arg3 harg3 arg4 harg4 arg5 harg5 arg6 harg6 arg7 harg7 arg8
   harg8 arg9 harg9 arg10 harg10 arg11 harg11 arg12 harg12 arg13 harg13 arg14 harg14 arg15 harg15 arg16 harg16 arg17
   harg17 arg18 harg18 arg19 harg19 arg20 harg20 arg21 harg21) := by
  unfold k0_part282
  exact ld h.m17 fun _ => ld h.m17 fun _ => ld h.m7 fun _ => ld h.m8 fun _ => st h.m8 fun _ => ld h.m13 fun _ => ld
   h.m21 fun _ => ld h.m13 fun _ => ld h.m21 fun _ => ld h.m13 fun _ => ld h.m21 fun _ => ld h.m13 fun _ => safe_pure
   _

theorem s283 : ∀ v1661 v1663, Safe defs 𝒱 c R (k0_part283 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1661 v1663) := by
  unfold k0_part283
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s284 : ∀ v1691 v1693, Safe defs 𝒱 c R (k0_part284 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1691 v1693) := by
  unfold k0_part284
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s285 : ∀ v1721 v1723, Safe defs 𝒱 c R (k0_part285 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1721 v1723) := by
  unfold k0_part285
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s286 : ∀ v1751 v1753, Safe defs 𝒱 c R (k0_part286 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1751 v1753) := by
  unfold k0_part286
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m13 fun _ => ld h.m21 fun _ => ld h.m13 fun _
   => safe_pure _

theorem s287 : ∀ v1781 v1783, Safe defs 𝒱 c R (k0_part287 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1781 v1783) := by
  unfold k0_part287
  exact fun _ _ => ld h.m21 fun _ => ld h.m13 fun _ => ld h.m21 fun _ => ld h.m13 fun _ => ld h.m21 fun _ => ld h.m13
   fun _ => ld h.m21 fun _ => ld h.m13 fun _ => ld h.m21 fun _ => ld h.m18 fun _ => ld h.m18 fun _ => st h.m18 fun _
   => safe_pure _

theorem s288 : ∀ v1808 v1811, Safe defs 𝒱 c R (k0_part288 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1808 v1811) := by
  unfold k0_part288
  exact fun _ _ => ld h.m20 fun _ => st h.m20 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s289 : ∀ v1811 v1847, Safe defs 𝒱 c R (k0_part289 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v1847) := by
  unfold k0_part289
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s290 : ∀ v1811 v1880, Safe defs 𝒱 c R (k0_part290 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v1880) := by
  unfold k0_part290
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s291 : ∀ v1811 v1913, Safe defs 𝒱 c R (k0_part291 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v1913) := by
  unfold k0_part291
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s292 : ∀ v1811 v1946, Safe defs 𝒱 c R (k0_part292 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v1946) := by
  unfold k0_part292
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s293 : ∀ v1811 v1979, Safe defs 𝒱 c R (k0_part293 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v1979) := by
  unfold k0_part293
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s294 : ∀ v1811 v2012, Safe defs 𝒱 c R (k0_part294 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v2012) := by
  unfold k0_part294
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s295 : ∀ v1811 v2045, Safe defs 𝒱 c R (k0_part295 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v2045) := by
  unfold k0_part295
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s296 : ∀ v1811 v2078, Safe defs 𝒱 c R (k0_part296 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v2078) := by
  unfold k0_part296
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s297 : ∀ v1811 v2111, Safe defs 𝒱 c R (k0_part297 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v1811 v2111) := by
  unfold k0_part297
  exact fun _ _ => ld h.m16 fun _ => st h.m16 fun _ => ld h.m13 fun _ => ld h.m21 fun _ => ld h.m16 fun _ => st h.m16
   fun _ => ld h.m13 fun _ => ld h.m21 fun _ => ld h.m16 fun _ => st h.m16 fun _ => ld h.m13 fun _ => ld h.m21 fun _
   => safe_pure _

theorem s298 : ∀ v25 v1811 v2144, Safe defs 𝒱 c R (k0_part298 (F := F) i arg3 harg3 arg4 harg4 arg5 harg5 arg6 harg6
   arg7 harg7 arg8 harg8 arg9 harg9 arg10 harg10 arg11 harg11 arg12 harg12 arg13 harg13 arg14 harg14 arg15 harg15
   arg16 harg16 arg17 harg17 arg18 harg18 arg19 harg19 arg20 harg20 arg21 harg21 v25 v1811 v2144) := by
  unfold k0_part298
  exact fun _ _ _ => ld h.m16 fun _ => st h.m16 fun _ => ld h.m13 fun _ => ld h.m21 fun _ => ld h.m16 fun _ => st
   h.m16 fun _ => ld h.m13 fun _ => ld h.m21 fun _ => ld h.m16 fun _ => st h.m16 fun _ => ld h.m19 fun _ => ld h.m17
   fun _ => safe_pure _

theorem s299 : ∀ v12 v25 v2172 v2174 v2175, Safe defs 𝒱 c R (k0_part299 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v25 v2172 v2174 v2175) :=
   by
  unfold k0_part299
  exact fun _ _ _ _ _ => ld h.m10 fun _ => ld h.m15 fun _ => ld h.m17 fun _ => st h.m17 fun _ => ld h.m20 fun _ => ld
   h.m17 fun _ => ld h.m10 fun _ => ld h.m16 fun _ => safe_pure _

theorem s300 : ∀ arg2 v2207, Safe defs 𝒱 c R (k0_part300 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 arg2 v2207) := by
  unfold k0_part300
  exact fun _ _ => ld h.m17 fun _ => st h.m17 fun _ => ld h.m5 fun _ => ld h.m9 fun _ => ld h.m12 fun _ => ld h.m13
   fun _ => st h.m13 fun _ => safe_pure _

theorem s301 : ∀ v2233, Safe defs 𝒱 c R (k0_part301 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v2233) := by
  unfold k0_part301
  exact fun _ => ld h.m12 fun _ => ld h.m13 fun _ => st h.m13 fun _ => ld h.m17 fun _ => ld h.m17 fun _ => ld h.m7 fun
   _ => ld h.m8 fun _ => st h.m8 fun _ => ld h.m13 fun _ => ld h.m21 fun _ => ld h.m13 fun _ => ld h.m21 fun _ =>
   safe_pure _

theorem s302 : ∀ v2268, Safe defs 𝒱 c R (k0_part302 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v2268) := by
  unfold k0_part302
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s303 : ∀ v2298, Safe defs 𝒱 c R (k0_part303 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v2298) := by
  unfold k0_part303
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s304 : ∀ v2328, Safe defs 𝒱 c R (k0_part304 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v2328) := by
  unfold k0_part304
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s305 : ∀ v2358, Safe defs 𝒱 c R (k0_part305 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v2358) := by
  unfold k0_part305
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s306 : ∀ v2388, Safe defs 𝒱 c R (k0_part306 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v2388) := by
  unfold k0_part306
  exact fun _ => ld h.m13 fun _ => ld h.m21 fun _ => ld h.m13 fun _ => ld h.m21 fun _ => ld h.m13 fun _ => ld h.m21
   fun _ => ld h.m13 fun _ => ld h.m21 fun _ => ld h.m13 fun _ => ld h.m21 fun _ => ld h.m13 fun _ => ld h.m21 fun _
   => safe_pure _

theorem s307 : ∀ v2418, Safe defs 𝒱 c R (k0_part307 (F := F) i arg3 harg3 arg4 harg4 arg5 harg5 arg6 harg6 arg7
   harg7 arg8 harg8 arg9 harg9 arg10 harg10 arg11 harg11 arg12 harg12 arg13 harg13 arg14 harg14 arg15 harg15 arg16
   harg16 arg17 harg17 arg18 harg18 arg19 harg19 arg20 harg20 arg21 harg21 v2418) := by
  unfold k0_part307
  exact fun _ => ld h.m18 fun _ => ld h.m18 fun _ => st h.m18 fun _ => ld h.m20 fun _ => st h.m20 fun _ => ld h.m13
   fun _ => ld h.m21 fun _ => ld h.m16 fun _ => st h.m16 fun _ => ld h.m13 fun _ => ld h.m21 fun _ => ld h.m16 fun _
   => safe_pure _

theorem s308 : ∀ v2423 v2450 v2451, Safe defs 𝒱 c R (k0_part308 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2450 v2451) := by
  unfold k0_part308
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s309 : ∀ v2423 v2483 v2484, Safe defs 𝒱 c R (k0_part309 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2483 v2484) := by
  unfold k0_part309
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s310 : ∀ v2423 v2516 v2517, Safe defs 𝒱 c R (k0_part310 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2516 v2517) := by
  unfold k0_part310
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s311 : ∀ v2423 v2549 v2550, Safe defs 𝒱 c R (k0_part311 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2549 v2550) := by
  unfold k0_part311
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s312 : ∀ v2423 v2582 v2583, Safe defs 𝒱 c R (k0_part312 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2582 v2583) := by
  unfold k0_part312
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s313 : ∀ v2423 v2615 v2616, Safe defs 𝒱 c R (k0_part313 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2615 v2616) := by
  unfold k0_part313
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s314 : ∀ v2423 v2648 v2649, Safe defs 𝒱 c R (k0_part314 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2648 v2649) := by
  unfold k0_part314
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s315 : ∀ v2423 v2681 v2682, Safe defs 𝒱 c R (k0_part315 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2681 v2682) := by
  unfold k0_part315
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s316 : ∀ v2423 v2714 v2715, Safe defs 𝒱 c R (k0_part316 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2714 v2715) := by
  unfold k0_part316
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s317 : ∀ v2423 v2747 v2748, Safe defs 𝒱 c R (k0_part317 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v2423 v2747 v2748) := by
  unfold k0_part317
  exact fun _ _ _ => st h.m16 fun _ => ld h.m13 fun _ => ld h.m21 fun _ => ld h.m16 fun _ => st h.m16 fun _ => ld
   h.m13 fun _ => ld h.m21 fun _ => ld h.m16 fun _ => st h.m16 fun _ => ld h.m13 fun _ => ld h.m21 fun _ => ld h.m16
   fun _ => safe_pure _

theorem s318 : ∀ v12 v25 v2780 v2781, Safe defs 𝒱 c R (k0_part318 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 v12 v25 v2780 v2781) := by
  unfold k0_part318
  exact fun _ _ _ _ => st h.m16 fun _ => ld h.m19 fun _ => ld h.m17 fun _ => ld h.m10 fun _ => ld h.m15 fun _ => ld
   h.m17 fun _ => st h.m17 fun _ => ld h.m20 fun _ => ld h.m17 fun _ => safe_pure _

theorem s319 : ∀ arg2 v2809 v2812, Safe defs 𝒱 c R (k0_part319 (F := F) i arg3 harg3 arg4 harg4 arg5 harg5 arg6
   harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 arg2 v2809 v2812) := by
  unfold k0_part319
  exact fun _ _ _ => ld h.m10 fun _ => ld h.m16 fun _ => ld h.m17 fun _ => st h.m17 fun _ => ld h.m5 fun _ => ld h.m9
   fun _ => safe_pure _

theorem s320 : Safe defs 𝒱 c R (k0_part320 (F := F) i arg3 harg3 arg4 harg4 arg5 harg5 arg6 harg6 arg7 harg7 arg8
   harg8 arg9 harg9 arg10 harg10 arg11 harg11 arg12 harg12 arg13 harg13 arg14 harg14 arg15 harg15 arg16 harg16 arg17
   harg17 arg18 harg18 arg19 harg19 arg20 harg20 arg21 harg21) := by
  unfold k0_part320
  exact sq (s233 h) fun ⟨_, _, _, _, _, _, _⟩ => sq (s234 h _ _ _ _ _ _ _) fun _ => sq (s235 h _ _) fun _ => sq (s236
   h _ _) fun ⟨_, _, _, _, _, _, _⟩ => sq (s237 h _ _ _ _ _ _ _) fun ⟨_, _, _, _, _, _, _, _, _⟩ => sq (s238 h _ _ _ _
   _ _ _ _) fun ⟨_, _⟩ => sq (s239 h _ _ _) fun ⟨_, _, _⟩ => sq (s240 h _ _ _ _ _ _ _) fun ⟨_, _, _, _, _, _⟩ => sq
   (s241 h _ _ _ _ _ _ _) fun ⟨_, _⟩ => sq (s242 h _ _ _ _) fun ⟨_, _, _, _, _, _⟩ => sq (s243 h _ _ _ _ _ _ _) fun _
   => sq (s244 h) fun ⟨_, _⟩ => sq (s245 h _ _) fun ⟨_, _⟩ => sq (s246 h _ _) fun ⟨_, _⟩ => sq (s247 h _ _) fun ⟨_, _⟩
   => sq (s248 h _ _) fun ⟨_, _⟩ => sq (s249 h _ _) fun ⟨_, _⟩ => sq (s250 h _ _) fun _ => sq (s251 h _ _) fun _ => sq
   (s252 h _ _) fun _ => sq (s253 h _ _) fun _ => sq (s254 h _ _) fun _ => sq (s255 h _ _) fun _ => sq (s256 h _ _)
   fun _ => sq (s257 h _ _) fun _ => sq (s258 h _ _) fun _ => sq (s259 h _ _) fun _ => sq (s260 h _ _ _ _) fun _ => sq
   (s261 h _ _ _ _) fun ⟨_, _⟩ => sq (s262 h _ _) fun _ => sq (s263 h _) fun _ => sq (s264 h _) fun _ => sq (s265 h _)
   fun _ => sq (s266 h _) fun _ => sq (s267 h _) fun _ => sq (s268 h _) fun ⟨_, _⟩ => sq (s269 h _ _) fun _ => sq
   (s270 h _ _) fun _ => sq (s271 h _ _) fun _ => sq (s272 h _ _) fun _ => sq (s273 h _ _) fun _ => sq (s274 h _ _)
   fun _ => sq (s275 h _ _) fun _ => sq (s276 h _ _) fun _ => sq (s277 h _ _) fun _ => sq (s278 h _ _) fun _ => sq
   (s279 h _ _ _ _) fun ⟨_, _⟩ => sq (s280 h _ _ _ _ _) fun ⟨_, _⟩ => sq (s281 h _ _) fun _ => sq (s282 h) fun ⟨_, _⟩
   => sq (s283 h _ _) fun ⟨_, _⟩ => sq (s284 h _ _) fun ⟨_, _⟩ => sq (s285 h _ _) fun ⟨_, _⟩ => sq (s286 h _ _) fun
   ⟨_, _⟩ => sq (s287 h _ _) fun ⟨_, _⟩ => sq (s288 h _ _) fun _ => sq (s289 h _ _) fun _ => sq (s290 h _ _) fun _ =>
   sq (s291 h _ _) fun _ => sq (s292 h _ _) fun _ => safe_pure _

theorem s321 : ∀ arg2 v12 v25 v1811 v1979, Safe defs 𝒱 c R (k0_part321 (F := F) i arg3 harg3 arg4 harg4 arg5 harg5
   arg6 harg6 arg7 harg7 arg8 harg8 arg9 harg9 arg10 harg10 arg11 harg11 arg12 harg12 arg13 harg13 arg14 harg14 arg15
   harg15 arg16 harg16 arg17 harg17 arg18 harg18 arg19 harg19 arg20 harg20 arg21 harg21 arg2 v12 v25 v1811 v1979) :=
   by
  unfold k0_part321
  exact fun _ _ _ _ _ => sq (s293 h _ _) fun _ => sq (s294 h _ _) fun _ => sq (s295 h _ _) fun _ => sq (s296 h _ _)
   fun _ => sq (s297 h _ _) fun _ => sq (s298 h _ _ _) fun ⟨_, _, _⟩ => sq (s299 h _ _ _ _ _) fun _ => sq (s300 h _ _)
   fun _ => sq (s301 h _) fun _ => sq (s302 h _) fun _ => sq (s303 h _) fun _ => sq (s304 h _) fun _ => sq (s305 h _)
   fun _ => sq (s306 h _) fun _ => sq (s307 h _) fun ⟨_, _, _⟩ => sq (s308 h _ _ _) fun ⟨_, _⟩ => sq (s309 h _ _ _)
   fun ⟨_, _⟩ => sq (s310 h _ _ _) fun ⟨_, _⟩ => sq (s311 h _ _ _) fun ⟨_, _⟩ => sq (s312 h _ _ _) fun ⟨_, _⟩ => sq
   (s313 h _ _ _) fun ⟨_, _⟩ => sq (s314 h _ _ _) fun ⟨_, _⟩ => sq (s315 h _ _ _) fun ⟨_, _⟩ => sq (s316 h _ _ _) fun
   ⟨_, _⟩ => sq (s317 h _ _ _) fun ⟨_, _⟩ => sq (s318 h _ _ _ _) fun ⟨_, _⟩ => sq (s319 h _ _ _) fun _ => ld h.m12 fun
   _ => ld h.m13 fun _ => st h.m13 fun _ => ld h.m12 fun _ => ld h.m13 fun _ => st h.m13 fun _ => ld h.m17 fun _ =>
   safe_pure _

theorem body : Safe defs 𝒱 c R (cc0_moba_attention (F := F) i arg3 harg3 arg4 harg4 arg5 harg5 arg6 harg6 arg7 harg7
   arg8 harg8 arg9 harg9 arg10 harg10 arg11 harg11 arg12 harg12 arg13 harg13 arg14 harg14 arg15 harg15 arg16 harg16
   arg17 harg17 arg18 harg18 arg19 harg19 arg20 harg20 arg21 harg21) := by
  unfold cc0_moba_attention
  exact sq (s320 h) fun ⟨_, _, _, _, _⟩ => sq (s321 h _ _ _ _ _) fun _ => ld h.m17 fun _ => ld h.m7 fun _ => ld h.m8
   fun _ => st h.m8 fun _ => safe_pure _

end AttnBody

end
-- ==== Proof.AttnFrame.lean ====
/-
  The attention kernel's frame: it terminates, nothing faults, its argument ends as it began and every counter ends at
  zero. Nothing is said of what the body leaves in its blocks or its scratch buffers.
-/
module

public import proofs.«01_k».proof.Proof.AttnBody2
public import proofs.«01_k».proof.Proof.Gen.Attn.Frame

@[expose] public section

set_option maxRecDepth 16384

noncomputable section

namespace AttnFrame

open Cert.Attn Cert.Attn.Gen Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
variable (m : (ℓ : Loc nD τ sig) → Buf (Elt F) ℓ) (ρ : Dev nD → PrngReg)

/-- The proof's data: the array as launched, and any contents left in any block. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What the body holds at a point: its blocks, its scratch buffers, and what it does not touch. -/
def around (c : Dev nD) (t : Fin cfg0.N) : Res nD τ sig (Elt F) :=
  iprop(held (Val := Elt F) (τ := τ) c (win0_0.stage (cfg0.slots t 0))
    ∗ held (Val := Elt F) (τ := τ) c (win0_1.stage (cfg0.slots t 1))
    ∗ held (Val := Elt F) (τ := τ) c (win0_2.stage (cfg0.slots t 2))
    ∗ held (Val := Elt F) (τ := τ) c (win0_3.stage (cfg0.slots t 3))
    ∗ held (Val := Elt F) (τ := τ) c (win0_4.stage (cfg0.slots t 4))
    ∗ held (Val := Elt F) (τ := τ) c (win0_5.stage (cfg0.slots t 5))
    ∗ held (Val := Elt F) (τ := τ) c (Memref.whole cc0_scratch0)
    ∗ held (Val := Elt F) (τ := τ) c (Memref.whole cc0_scratch1)
    ∗ held (Val := Elt F) (τ := τ) c (Memref.whole cc0_scratch2)
    ∗ held (Val := Elt F) (τ := τ) c (Memref.whole cc0_scratch3)
    ∗ held (Val := Elt F) (τ := τ) c (Memref.whole cc0_scratch4)
    ∗ held (Val := Elt F) (τ := τ) c (Memref.whole cc0_scratch5)
    ∗ held (Val := Elt F) (τ := τ) c (Memref.whole cc0_scratch6)
    ∗ held (Val := Elt F) (τ := τ) c (Memref.whole cc0_scratch7)
    ∗ held (Val := Elt F) (τ := τ) c (Memref.whole cc0_scratch8)
    ∗ held (Val := Elt F) (τ := τ) c (Memref.whole cc0_scratch9)
    ∗ held (Val := Elt F) (τ := τ) c (Memref.whole cc0_scratch10)
    ∗ held (Val := Elt F) (τ := τ) c (Memref.whole cc0_scratch11)
    ∗ held (Val := Elt F) (τ := τ) c (Memref.whole cc0_scratch12)
    ∗ ((∃ r, prngReg c r) ∗ (rdat m c).owesAt () t.castSucc))

/-- Every block and every scratch buffer is among them. -/
theorem all_held (c : Dev nD) (t : Fin cfg0.N) : AttnBody.Held19 c (around m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5))
    (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) := by
  unfold around
  exact ⟨has_head _,
    has_tail (has_head _),
    has_tail (has_tail (has_head _)),
    has_tail (has_tail (has_tail (has_head _))),
    has_tail (has_tail (has_tail (has_tail (has_head _)))),
    has_tail (has_tail (has_tail (has_tail (has_tail (has_head _))))),
    has_tail (has_tail (has_tail (has_tail (has_tail (has_tail (has_head _)))))),
    has_tail (has_tail (has_tail (has_tail (has_tail (has_tail (has_tail (has_head _))))))),
    has_tail (has_tail (has_tail (has_tail (has_tail (has_tail (has_tail (has_tail (has_head _)))))))),
    has_tail (has_tail (has_tail (has_tail (has_tail (has_tail (has_tail (has_tail (has_tail (has_head _))))))))),
    has_tail (has_tail (has_tail (has_tail (has_tail (has_tail (has_tail (has_tail (has_tail (has_tail (has_head _)))))))))),
    has_tail (has_tail (has_tail (has_tail (has_tail (has_tail (has_tail (has_tail (has_tail (has_tail (has_tail (has_head _))))))))))),
    has_tail (has_tail (has_tail (has_tail (has_tail (has_tail (has_tail (has_tail (has_tail (has_tail (has_tail (has_tail (has_head _)))))))))))),
    has_tail (has_tail (has_tail (has_tail (has_tail (has_tail (has_tail (has_tail (has_tail (has_tail (has_tail (has_tail (has_tail (has_head _))))))))))))),
    has_tail (has_tail (has_tail (has_tail (has_tail (has_tail (has_tail (has_tail (has_tail (has_tail (has_tail (has_tail (has_tail (has_tail (has_head _)))))))))))))),
    has_tail (has_tail (has_tail (has_tail (has_tail (has_tail (has_tail (has_tail (has_tail (has_tail (has_tail (has_tail (has_tail (has_tail (has_tail (has_head _))))))))))))))),
    has_tail (has_tail (has_tail (has_tail (has_tail (has_tail (has_tail (has_tail (has_tail (has_tail (has_tail (has_tail (has_tail (has_tail (has_tail (has_tail (has_head _)))))))))))))))),
    has_tail (has_tail (has_tail (has_tail (has_tail (has_tail (has_tail (has_tail (has_tail (has_tail (has_tail (has_tail (has_tail (has_tail (has_tail (has_tail (has_tail (has_head _))))))))))))))))),
    has_tail (has_tail (has_tail (has_tail (has_tail (has_tail (has_tail (has_tail (has_tail (has_tail (has_tail (has_tail (has_tail (has_tail (has_tail (has_tail (has_tail (has_tail (has_head _))))))))))))))))))⟩

/-- What the pipeline hands the body is that. -/
theorem enter (c : Dev nD) (t : Fin cfg0.N) (Y : (w : Fin cfg0.W) → (cfg0.win w).block.Idx → Elt F (cfg0.win w).elt) :
    iprop((rdat m c).Φ t.castSucc ∗ (rdat m c).owesAt () t.castSucc
      ∗ bigSep Finset.univ fun w => owns (c : Thread nD τ) ((cfg0.win w).stage (cfg0.slots t w)) fullShare (Y w))
    ⊢ around m c t := by
  unfold around held
  rw [show (rdat m c).Φ t.castSucc = Pipeline.ΦA spec0 c from rfl]
  unfold Pipeline.ΦA
  rw [scopedRest0_eq, bigSep_W0]
  simp only [owns_whole]
  iintro ⟨⟨⟨S0, S1, S2, S3, S4, S5, S6, S7, S8, S9, S10, S11, S12⟩, HP⟩, HO, W0, W1, W2, W3, W4, W5⟩
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [HP]
  · iexact HP
  · iexact HO

/-- And the pipeline takes it back, whatever the contents. -/
theorem leave (c : Dev nD) (t : Fin cfg0.N) (Y : (w : Fin cfg0.W) → (cfg0.win w).block.Idx → Elt F (cfg0.win w).elt) :
    around m c t ⊢ iprop((rdat m c).Φ t.succ ∗ (rdat m c).owesAt () t.succ
      ∗ bigSep Finset.univ fun w => iprop(∃ X, ⌜(rdat m c).after w t (Y w) X⌝ ∗ owns (c : Thread nD τ) ((cfg0.win w).stage (cfg0.slots t w)) fullShare X)) := by
  unfold around held
  rw [show (rdat m c).Φ t.succ = Pipeline.ΦA spec0 c from rfl, show (rdat m c).owesAt () t.succ = (rdat m c).owesAt () t.castSucc from rfl]
  unfold Pipeline.ΦA
  rw [scopedRest0_eq, bigSep_W0]
  simp only [owns_whole]
  iintro ⟨⟨%x0, W0⟩, ⟨%x1, W1⟩, ⟨%x2, W2⟩, ⟨%x3, W3⟩, ⟨%x4, W4⟩, ⟨%x5, W5⟩, S0, S1, S2, S3, S4, S5, S6, S7, S8, S9, S10, S11, S12, HP, HO⟩
  isplitl [S0 S1 S2 S3 S4 S5 S6 S7 S8 S9 S10 S11 S12 HP]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    · iexact HP
  isplitl [HO]; · iexact HO
  isplitl [W0]; · iexists x0; isplitr; · ipureintro; trivial
                  · iexact W0
  isplitl [W1]; · iexists x1; isplitr; · ipureintro; trivial
                  · iexact W1
  isplitl [W2]; · iexists x2; isplitr; · ipureintro; trivial
                  · iexact W2
  isplitl [W3]; · iexists x3; isplitr; · ipureintro; trivial
                  · iexact W3
  isplitl [W4]; · iexists x4; isplitr; · ipureintro; trivial
                  · iexact W4
  iexists x5
  isplitr; · ipureintro; trivial
  iexact W5

/-- The body at every point, on what the pipeline hands it. -/
theorem body_obligation (c : Dev nD) : (rdat m c).BodyObligation (defs₀ (F := F)) Variants.none () Set.univ := fun t Y _ =>
  (enter m c t Y).trans ((AttnBody.body (i := grid0.coords t) (all_held m c t) (defs := defs₀) (𝒱 := Variants.none)).trans
    (wp_mono _ _ _ fun _ => leave m c t Y))

set_option backward.isDefEq.respectTransparency.types false in
set_option maxHeartbeats 800000 in
theorem run : θ_run defs (onTc (τ := τ) (main (F := F))) (s₀ m ρ)
    (fun r => RDat.FramePost cfg0 (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := fun _ _ => rfl) (hin := fun _ => .rfl) (hout := fun _ => .rfl)

/-- The frame, whatever the floats are. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1.arr_in c 4 rfl).trans (V_main_arg0 m c), h.2⟩) (run m ρ)

end AttnFrame

end
-- ==== Proof.AttnSame.lean ====
/-
  The idealized attention program has the same text as the program, so its frame is the same frame.
-/
module

public import proofs.«01_k».proof.Proof.AttnFrame
public import proofs.«01_k».proof.Proof.Gen.AttnIdeal

@[expose] public section

set_option maxRecDepth 16384

noncomputable section

namespace AttnSame

open Idealize.ShloMosaic Idealize.ShloMosaic.TcCoe Idealize.SL Idealize.SL.Sem
open Cert.AttnIdeal Cert.AttnIdeal.Gen

variable {F : FTy → Type} [FloatOps F]

set_option maxHeartbeats 8000000 in
/-- The two bodies are one function. -/
theorem body_eq : @Cert.Attn.cc0_moba_attention F _ Cert.Attn.Gen.facts = @cc0_moba_attention F _ Cert.AttnIdeal.Gen.facts := rfl

set_option maxHeartbeats 8000000 in
/-- So are the tables that hold them. -/
theorem table_eq : Cert.Attn.defs₀ (F := F) = defs₀ (F := F) := by
  funext p l a
  cases p
  · match l, a with
    | 0, (t, s) => exact rfl
  · rfl
  · rfl

/-- And the programs' own tables. -/
theorem defs_eq : Cert.Attn.defs (F := F) = defs (F := F) := congrArg (Pipeline.defs pcfgs) table_eq

/-- The frame, whatever the floats are. -/
theorem frame (m : (ℓ : Loc nD τ sig) → Buf (Elt F) ℓ) (ρ : Dev nD → PrngReg) :
    θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) := by
  rw [← defs_eq]
  exact AttnFrame.frame m ρ

end AttnSame

end
-- ==== Proof.lean ====
/-
  The claims of the certified calls, assembled: every program's frame, and of every call that the kernel and the reference agree.
-/
module

public import proofs.«01_k».proof.Defs
public import proofs.«01_k».proof.Proof.PoolClaims
public import proofs.«01_k».proof.Proof.InProjClaims
public import proofs.«01_k».proof.Proof.MergeValue
public import proofs.«01_k».proof.Proof.OutProjClaims
public import proofs.«01_k».proof.Proof.PleValue
public import proofs.«01_k».proof.Proof.NormValue
public import proofs.«01_k».proof.Proof.AttnSame

@[expose] public section

noncomputable section

namespace Cert.Proof

open Idealize.ShloMosaic Idealize.SL.Sem

/-- Every claim of the certificate. -/
theorem claim : Cert.Claim := ⟨
  Cert.PoolIdeal.Gen.facts, Cert.PoolRefIdeal.Gen.facts, Cert.Pool.Gen.facts, Cert.InProjIdeal.Gen.facts, Cert.InProjRefIdeal.Gen.facts, Cert.InProj.Gen.facts, Cert.MergeIdeal.Gen.facts, Cert.MergeRefIdeal.Gen.facts, Cert.Merge.Gen.facts, Cert.OutProjIdeal.Gen.facts, Cert.OutProjRefIdeal.Gen.facts, Cert.OutProj.Gen.facts, Cert.PleIdeal.Gen.facts, Cert.PleRefIdeal.Gen.facts, Cert.Ple.Gen.facts, Cert.NormIdeal.Gen.facts, Cert.NormRefIdeal.Gen.facts, Cert.Norm.Gen.facts, Cert.Attn.Gen.facts, Cert.AttnIdeal.Gen.facts, PoolClaims.preFacts, InProjClaims.preFacts,
  PoolClaims.frame_ideal,
  PoolClaims.frame_ideal_free,
  PoolClaims.frame_ref,
  PoolClaims.frame_ref_free,
  PoolClaims.frame,
  InProjClaims.frame_ideal,
  InProjClaims.frame_ideal_free,
  InProjClaims.frame_ref,
  InProjClaims.frame_ref_free,
  InProjClaims.frame,
  MergeClaims.frame_ideal,
  MergeClaims.frame_ref,
  MergeClaims.frame,
  OutProjClaims.frame_ideal,
  OutProjClaims.frame_ref,
  OutProjClaims.frame,
  PleClaims.frame_ideal,
  PleClaims.frame_ref,
  PleClaims.frame,
  NormClaims.frame_ideal,
  NormClaims.frame_ref,
  NormClaims.frame,
  fun m ρ _ => AttnFrame.frame m ρ,
  fun m ρ _ => AttnSame.frame m ρ,
  PoolClaims.algebraic,
  trivial,
  InProjClaims.algebraic,
  InProjClaims.preserves,
  MergeClaims.algebraic,
  trivial,
  OutProjClaims.algebraic,
  trivial,
  PleClaims.algebraic,
  trivial,
  NormClaims.algebraic,
  trivial,
  trivial⟩

end Cert.Proof

end
